-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)) (v2 : (c : Dev Cert.Kernel3Ideal.nD) → Buf (Elt Ideal) ((c.tc : Thread Cert.Kernel3Ideal.nD Cert.Kernel3Ideal.τ).loc Cert.Kernel3Ideal.main_v43_2)) (v3 : (c : Dev Cert.Kernel3Ideal.nD) → Buf (Elt Ideal) ((c.tc : Thread Cert.Kernel3Ideal.nD Cert.Kernel3Ideal.τ).loc Cert.Kernel3Ideal.main_v43_3)) (v4 : (c : Dev Cert.Kernel3Ideal.nD) → Buf (Elt Ideal) ((c.tc : Thread Cert.Kernel3Ideal.nD Cert.Kernel3Ideal.τ).loc Cert.Kernel3Ideal.main_v43_4)) (v5 : (c : Dev Cert.Kernel3Ideal.nD) → Buf (Elt Ideal) ((c.tc : Thread Cert.Kernel3Ideal.nD Cert.Kernel3Ideal.τ).loc Cert.Kernel3Ideal.main_v43_5)) (v6 : (c : Dev Cert.Kernel3Ideal.nD) → Buf (Elt Ideal) ((c.tc : Thread Cert.Kernel3Ideal.nD Cert.Kernel3Ideal.τ).loc Cert.Kernel3Ideal.main_v43_6)) (v7 : (c : Dev Cert.Kernel3Ideal.nD) → Buf (Elt Ideal) ((c.tc : Thread Cert.Kernel3Ideal.nD Cert.Kernel3Ideal.τ).loc Cert.Kernel3Ideal.main_v43_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_v43_3) = v3 c
          ∧ r.2.mem ((c.tc : Thread Cert.Kernel3Ideal.nD Cert.Kernel3Ideal.τ).loc Cert.Kernel3Ideal.main_v43_4) = v4 c
          ∧ r.2.mem ((c.tc : Thread Cert.Kernel3Ideal.nD Cert.Kernel3Ideal.τ).loc Cert.Kernel3Ideal.main_v43_5) = v5 c
          ∧ r.2.mem ((c.tc : Thread Cert.Kernel3Ideal.nD Cert.Kernel3Ideal.τ).loc Cert.Kernel3Ideal.main_v43_6) = v6 c
          ∧ r.2.mem ((c.tc : Thread Cert.Kernel3Ideal.nD Cert.Kernel3Ideal.τ).loc Cert.Kernel3Ideal.main_v43_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v95) = v0 c
          ∧ r.2.mem ((c.tc : Thread Cert.Reference3Ideal.nD Cert.Reference3Ideal.τ).loc Cert.Reference3Ideal.main_v98) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v101) = v3 c
          ∧ r.2.mem ((c.tc : Thread Cert.Reference3Ideal.nD Cert.Reference3Ideal.τ).loc Cert.Reference3Ideal.main_v104) = v4 c
          ∧ r.2.mem ((c.tc : Thread Cert.Reference3Ideal.nD Cert.Reference3Ideal.τ).loc Cert.Reference3Ideal.main_v107) = v5 c
          ∧ r.2.mem ((c.tc : Thread Cert.Reference3Ideal.nD Cert.Reference3Ideal.τ).loc Cert.Reference3Ideal.main_v92) = v6 c
          ∧ r.2.mem ((c.tc : Thread Cert.Reference3Ideal.nD Cert.Reference3Ideal.τ).loc Cert.Reference3Ideal.main_v108) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8448x512 : Shape := ⟨3, ![2, 8448, 512]⟩
abbrev S2x8448x128 : Shape := ⟨3, ![2, 8448, 128]⟩
abbrev S64 : Shape := ⟨1, ![64]⟩
abbrev S_ : Shape := ⟨0, ![]⟩

class Facts : Prop where
  bcast_S_S2x8448x512 : S_.BroadcastsInDim S2x8448x512 (![] : Fin 0 → Fin S2x8448x512.rank)
  reducesTo_S2x8448x512_S_d0_1_2 : S2x8448x512.ReducesTo [0, 1, 2] S_
  h_S_ : 0 < S_.numel
  bcast_S_S2x8448x128 : S_.BroadcastsInDim S2x8448x128 (![] : Fin 0 → Fin S2x8448x128.rank)
  reducesTo_S2x8448x128_S_d0_1_2 : S2x8448x128.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64 .f32) (main_arg4 : FVec F S64 .f32) (main_v12 : IVec S_ 1) (main_v14 : IVec S64 1) (main_v15 : FVec F S64 .f32) : IVec S_ 1 :=
  let main_v16 : IVec S64 1 := cmpf .ogt main_arg3 main_v15
  let main_v17 : IVec S64 1 := andi main_v14 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v12 main_v18
  let main_cst_7 : FVec F S_ .f32 := constant S_ .f32 0x7F800000#32
  let main_v20 : FVec F S64 .f32 := broadcastInDim S64 ![] bcast_S_S64 main_cst_7
  let main_v21 : IVec S64 1 := cmpf .olt main_arg4 main_v20
  let main_cst_8 : FVec F S_ .f32 := constant S_ .f32 0xFF800000#32
  let main_v22 : FVec F S64 .f32 := broadcastInDim S64 ![] bcast_S_S64 main_cst_8
  let main_v23 : IVec S64 1 := cmpf .ogt main_arg4 main_v22
  let main_v24 : IVec S64 1 := andi main_v21 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v19 main_v25
  main_v26

def fn {F : FTy → Type} [FloatOps F] (main_arg0 : FVec F S2x8448x512 .f32) (main_arg1 : FVec F S2x8448x128 .f32) (main_arg2 : FVec F S2x8448x128 .f32) (main_arg3 : FVec F S64 .f32) (main_arg4 : FVec F S64 .f32) : IVec S_ 1 :=
  let main_cst : FVec F S_ .f32 := constant S_ .f32 0x7F800000#32
  let main_v0 : FVec F S2x8448x512 .f32 := broadcastInDim S2x8448x512 ![] bcast_S_S2x8448x512 main_cst
  let main_v1 : IVec S2x8448x512 1 := cmpf .olt main_arg0 main_v0
  let main_cst_0 : FVec F S_ .f32 := constant S_ .f32 0xFF800000#32
  let main_v2 : FVec F S2x8448x512 .f32 := broadcastInDim S2x8448x512 ![] bcast_S_S2x8448x512 main_cst_0
  let main_v3 : IVec S2x8448x512 1 := cmpf .ogt main_arg0 main_v2
  let main_v4 : IVec S2x8448x512 1 := andi main_v1 main_v3
  let main_c : IVec S_ 1 := constantI S_ 1 1#1
  let main_v5 : IVec S_ 1 := (fun x v => Host.reduce IntOp.andi x v reducesTo_S2x8448x512_S_d0_1_2 h_S_) main_v4 main_c
  let main_cst_1 : FVec F S_ .f32 := constant S_ .f32 0x7F800000#32
  let main_v6 : FVec F S2x8448x128 .f32 := broadcastInDim S2x8448x128 ![] bcast_S_S2x8448x128 main_cst_1
  let main_v7 : IVec S2x8448x128 1 := cmpf .olt main_arg1 main_v6
  let main_cst_2 : FVec F S_ .f32 := constant S_ .f32 0xFF800000#32
  let main_v8 : FVec F S2x8448x128 .f32 := broadcastInDim S2x8448x128 ![] bcast_S_S2x8448x128 main_cst_2
  let main_v9 : IVec S2x8448x128 1 := cmpf .ogt main_arg1 main_v8
  let main_v10 : IVec S2x8448x128 1 := andi main_v7 main_v9
  let main_c_3 : IVec S_ 1 := constantI S_ 1 1#1
  let main_v11 : IVec S_ 1 := (fun x v => Host.reduce IntOp.andi x v reducesTo_S2x8448x128_S_d0_1_2 h_S_) main_v10 main_c_3
  let main_v12 : IVec S_ 1 := andi main_v5 main_v11
  let main_cst_4 : FVec F S_ .f32 := constant S_ .f32 0x7F800000#32
  let main_v13 : FVec F S64 .f32 := broadcastInDim S64 ![] bcast_S_S64 main_cst_4
  let main_v14 : IVec S64 1 := cmpf .olt main_arg3 main_v13
  let main_cst_5 : FVec F S_ .f32 := constant S_ .f32 0xFF800000#32
  let main_v15 : FVec F S64 .f32 := broadcastInDim S64 ![] bcast_S_S64 main_cst_5
  fn_part1 (F := F) main_arg3 main_arg4 main_v12 main_v14 main_v15
-- ==== Kernel.lean ====
abbrev S2x8448x512 : Shape := ⟨3, ![2, 8448, 512]⟩
abbrev S2x8448x128 : Shape := ⟨3, ![2, 8448, 128]⟩
abbrev S64 : Shape := ⟨1, ![64]⟩
abbrev S2x8448x8x64 : Shape := ⟨4, ![2, 8448, 8, 64]⟩
abbrev S_ : Shape := ⟨0, ![]⟩
abbrev S2x8448x8x128 : Shape := ⟨4, ![2, 8448, 8, 128]⟩
abbrev S2x8448x1024 : Shape := ⟨3, ![2, 8448, 1024]⟩
abbrev S2x8448x2x64 : Shape := ⟨4, ![2, 8448, 2, 64]⟩
abbrev S2x8448x2x128 : Shape := ⟨4, ![2, 8448, 2, 128]⟩
abbrev S2x8448x256 : Shape := ⟨3, ![2, 8448, 256]⟩
abbrev S128 : Shape := ⟨1, ![128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8448x128 : Shape := ⟨2, ![8448, 128]⟩
abbrev S1x128 : Shape := ⟨2, ![1, 128]⟩
abbrev S2x8x8448x128 : Shape := ⟨4, ![2, 8, 8448, 128]⟩
abbrev S2x2x8448x128 : Shape := ⟨4, ![2, 2, 8448, 128]⟩
abbrev S1x256x1024 : Shape := ⟨3, ![1, 256, 1024]⟩
abbrev S1x256x256 : Shape := ⟨3, ![1, 256, 256]⟩
abbrev S256x128 : Shape := ⟨2, ![256, 128]⟩
abbrev S1x8x256x128 : Shape := ⟨4, ![1, 8, 256, 128]⟩
abbrev S1x2x256x128 : Shape := ⟨4, ![1, 2, 256, 128]⟩
abbrev S1x256x128 : Shape := ⟨3, ![1, 256, 128]⟩
abbrev S256 : Shape := ⟨1, ![256]⟩
abbrev S256x1 : Shape := ⟨2, ![256, 1]⟩
abbrev S1x1x256x128 : Shape := ⟨4, ![1, 1, 256, 128]⟩
abbrev S1x1x8448x128 : Shape := ⟨4, ![1, 1, 8448, 128]⟩
abbrev S256x8448 : Shape := ⟨2, ![256, 8448]⟩
abbrev S256x256 : Shape := ⟨2, ![256, 256]⟩

abbrev nBuf : Space → Nat
  | .hbm => 86
  | .vmem => 28
  | .smem => 0
  | _ => 0

abbrev bufTy : (tb : Table) → Fin (tcTables nBuf tb) → BufTy
  | .hbm, ⟨0, _⟩ => ⟨S2x8448x512, .f32⟩
  | .hbm, ⟨1, _⟩ => ⟨S2x8448x128, .f32⟩
  | .hbm, ⟨2, _⟩ => ⟨S2x8448x128, .f32⟩
  | .hbm, ⟨3, _⟩ => ⟨S64, .f32⟩
  | .hbm, ⟨4, _⟩ => ⟨S64, .f32⟩
  | .hbm, ⟨5, _⟩ => ⟨S2x8448x8x64, .f32⟩
  | .hbm, ⟨6, _⟩ => ⟨S_, .i32⟩
  | .hbm, ⟨7, _⟩ => ⟨S_, .f32⟩
  | .hbm, ⟨8, _⟩ => ⟨S2x8448x8x128, .f32⟩
  | .hbm, ⟨9, _⟩ => ⟨S2x8448x1024, .f32⟩
  | .hbm, ⟨10, _⟩ => ⟨S2x8448x2x64, .f32⟩
  | .hbm, ⟨11, _⟩ => ⟨S_, .i32⟩
  | .hbm, ⟨12, _⟩ => ⟨S_, .f32⟩
  | .hbm, ⟨13, _⟩ => ⟨S2x8448x2x128, .f32⟩
  | .hbm, ⟨14, _⟩ => ⟨S2x8448x256, .f32⟩
  | .hbm, ⟨15, _⟩ => ⟨S2x8448x2x64, .f32⟩
  | .hbm, ⟨16, _⟩ => ⟨S_, .i32⟩
  | .hbm, ⟨17, _⟩ => ⟨S_, .f32⟩
  | .hbm, ⟨18, _⟩ => ⟨S2x8448x2x128, .f32⟩
  | .hbm, ⟨19, _⟩ => ⟨S2x8448x256, .f32⟩
  | .hbm, ⟨20, _⟩ => ⟨S128, .f32⟩
  | .hbm, ⟨21, _⟩ => ⟨S128x64, .f32⟩
  | .hbm, ⟨22, _⟩ => ⟨S8192, .f32⟩
  | .hbm, ⟨23, _⟩ => ⟨S8192, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S_, .i1⟩
  | .hbm, ⟨40, _⟩ => ⟨S8192, .i1⟩
  | .hbm, ⟨41, _⟩ => ⟨S8192, .i1⟩
  | .hbm, ⟨42, _⟩ => ⟨S8192, .i1⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S8192x1, .f32⟩
  | .hbm, ⟨56, _⟩ => ⟨S1x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x1, .f32⟩
  | .hbm, ⟨61, _⟩ => ⟨S1x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S_, .f32⟩
  | .hbm, ⟨69, _⟩ => ⟨S_, .f32⟩
  | .hbm, ⟨70, _⟩ => ⟨S8448x128, .f32⟩
  | .hbm, ⟨71, _⟩ => ⟨S_, .i32⟩
  | .hbm, ⟨72, _⟩ => ⟨S_, .f32⟩
  | .hbm, ⟨73, _⟩ => ⟨S8448x128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S2x8x8448x128, .bf16⟩
  | .hbm, ⟨83, _⟩ => ⟨S2x2x8448x128, .bf16⟩
  | .hbm, ⟨84, _⟩ => ⟨S2x2x8448x128, .bf16⟩
  | .hbm, ⟨85, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x8x256x128, .bf16⟩
  | .local _ .vmem, ⟨13, _⟩ => ⟨S1x8x256x128, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x1x256x128, .bf16⟩
  | .local _ .vmem, ⟨19, _⟩ => ⟨S1x1x256x128, .bf16⟩
  | .local _ .vmem, ⟨20, _⟩ => ⟨S1x1x8448x128, .bf16⟩
  | .local _ .vmem, ⟨21, _⟩ => ⟨S1x1x8448x128, .bf16⟩
  | .local _ .vmem, ⟨22, _⟩ => ⟨S1x1x8448x128, .bf16⟩
  | .local _ .vmem, ⟨23, _⟩ => ⟨S1x1x8448x128, .bf16⟩
  | .local _ .vmem, ⟨24, _⟩ => ⟨S1x256x128, .f32⟩
  | .local _ .vmem, ⟨25, _⟩ => ⟨S1x256x128, .f32⟩
  | .local _ .vmem, ⟨26, _⟩ => ⟨S256x8448, .f32⟩
  | .local _ .vmem, ⟨27, _⟩ => ⟨S256x8448, .bf16⟩
  | _, _ => ⟨S2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_call3_c : Ref sig .tc := ⟨.hbm, 26, rfl⟩
abbrev main_call3_v1 : Ref sig .tc := ⟨.hbm, 27, rfl⟩
abbrev main_call3_c_0 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_call3_c_1 : Ref sig .tc := ⟨.hbm, 32, rfl⟩
abbrev main_call3_v5 : Ref sig .tc := ⟨.hbm, 33, rfl⟩
abbrev main_call3_v6 : Ref sig .tc := ⟨.hbm, 34, rfl⟩
abbrev main_call3_c_2 : Ref sig .tc := ⟨.hbm, 35, rfl⟩
abbrev main_call3_v7 : Ref sig .tc := ⟨.hbm, 36, rfl⟩
abbrev main_call3_v8 : Ref sig .tc := ⟨.hbm, 37, rfl⟩
abbrev main_call3_c_3 : Ref sig .tc := ⟨.hbm, 38, rfl⟩
abbrev main_call3_v9 : Ref sig .tc := ⟨.hbm, 39, rfl⟩
abbrev main_call3_v10 : Ref sig .tc := ⟨.hbm, 40, rfl⟩
abbrev main_call3_v11 : Ref sig .tc := ⟨.hbm, 41, rfl⟩
abbrev main_call3_v12 : Ref sig .tc := ⟨.hbm, 42, rfl⟩
abbrev main_call3_v13 : Ref sig .tc := ⟨.hbm, 43, rfl⟩
abbrev main_call3_v14 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_call4_v0 : Ref sig .tc := ⟨.hbm, 69, rfl⟩
abbrev main_v34 : Ref sig .tc := ⟨.hbm, 70, rfl⟩
abbrev main_c_5 : Ref sig .tc := ⟨.hbm, 71, rfl⟩
abbrev main_call5_v0 : Ref sig .tc := ⟨.hbm, 72, rfl⟩
abbrev main_v35 : Ref sig .tc := ⟨.hbm, 73, rfl⟩
abbrev main_c_6 : Ref sig .tc := ⟨.hbm, 74, rfl⟩
abbrev main_call6_v0 : Ref sig .tc := ⟨.hbm, 75, rfl⟩
abbrev main_v36 : Ref sig .tc := ⟨.hbm, 76, rfl⟩
abbrev main_v37 : Ref sig .tc := ⟨.hbm, 77, rfl⟩
abbrev main_c_7 : Ref sig .tc := ⟨.hbm, 78, rfl⟩
abbrev main_call7_v0 : Ref sig .tc := ⟨.hbm, 79, rfl⟩
abbrev main_v38 : Ref sig .tc := ⟨.hbm, 80, rfl⟩
abbrev main_v39 : Ref sig .tc := ⟨.hbm, 81, rfl⟩
abbrev main_v40_0 : Ref sig .tc := ⟨.hbm, 82, rfl⟩
abbrev main_v40_1 : Ref sig .tc := ⟨.hbm, 83, rfl⟩
abbrev main_v40_2 : Ref sig .tc := ⟨.hbm, 84, rfl⟩
abbrev main_v41 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 8, 33], ![false, false, false]⟩

def k1_cond1 (i : grid1.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k1_cond2 (i : grid1.Coords) : BitVec 1 :=
  let arg2 : BitVec 32 := BitVec.ofNat 32 (i 2).val
  let c1_i32 : BitVec 32 := 1#32
  let v0 : BitVec 1 := Scalar.cmpi .slt arg2 c1_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x8448x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S2x8448x512 : Shape := ⟨3, ![2, 8448, 512]⟩
abbrev S2x8448x128 : Shape := ⟨3, ![2, 8448, 128]⟩
abbrev S64 : Shape := ⟨1, ![64]⟩
abbrev S128 : Shape := ⟨1, ![128]⟩
abbrev S128x64 : Shape := ⟨2, ![128, 64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S2x8192x512 : Shape := ⟨3, ![2, 8192, 512]⟩
abbrev S2x8192x2x4x64 : Shape := ⟨5, ![2, 8192, 2, 4, 64]⟩
abbrev S2x2x4x8192x64 : Shape := ⟨5, ![2, 2, 4, 8192, 64]⟩
abbrev S2x2x4x8192 : Shape := ⟨4, ![2, 2, 4, 8192]⟩
abbrev S2x2x4x8192x1 : Shape := ⟨5, ![2, 2, 4, 8192, 1]⟩
abbrev S1x1x1x1x64 : Shape := ⟨5, ![1, 1, 1, 1, 64]⟩
abbrev S2x2x4x8192x2x2x16 : Shape := ⟨7, ![2, 2, 4, 8192, 2, 2, 16]⟩
abbrev S2x2x4x8192x2x1x16 : Shape := ⟨7, ![2, 2, 4, 8192, 2, 1, 16]⟩
abbrev S2x2x4x8192x2x16 : Shape := ⟨6, ![2, 2, 4, 8192, 2, 16]⟩
abbrev S1x1x1x8192x64 : Shape := ⟨5, ![1, 1, 1, 8192, 64]⟩
abbrev S2x8192x128 : Shape := ⟨3, ![2, 8192, 128]⟩
abbrev S2x8192x2x64 : Shape := ⟨4, ![2, 8192, 2, 64]⟩
abbrev S2x2x8192x64 : Shape := ⟨4, ![2, 2, 8192, 64]⟩
abbrev S2x2x8192 : Shape := ⟨3, ![2, 2, 8192]⟩
abbrev S2x2x8192x1 : Shape := ⟨4, ![2, 2, 8192, 1]⟩
abbrev S1x1x1x64 : Shape := ⟨4, ![1, 1, 1, 64]⟩
abbrev S2x2x8192x2x2x16 : Shape := ⟨6, ![2, 2, 8192, 2, 2, 16]⟩
abbrev S2x2x8192x2x1x16 : Shape := ⟨6, ![2, 2, 8192, 2, 1, 16]⟩
abbrev S2x2x8192x2x16 : Shape := ⟨5, ![2, 2, 8192, 2, 16]⟩
abbrev S1x1x8192x64 : Shape := ⟨4, ![1, 1, 8192, 64]⟩
abbrev S2x256x128 : Shape := ⟨3, ![2, 256, 128]⟩
abbrev S2x256x2x64 : Shape := ⟨4, ![2, 256, 2, 64]⟩
abbrev S2x2x256x64 : Shape := ⟨4, ![2, 2, 256, 64]⟩
abbrev S2x2x256 : Shape := ⟨3, ![2, 2, 256]⟩
abbrev S2x2x256x1 : Shape := ⟨4, ![2, 2, 256, 1]⟩
abbrev S2x2x8448x64 : Shape := ⟨4, ![2, 2, 8448, 64]⟩
abbrev S2x2x4x8192x8448 : Shape := ⟨5, ![2, 2, 4, 8192, 8448]⟩
abbrev S2x256x512 : Shape := ⟨3, ![2, 256, 512]⟩
abbrev S2x256x2x4x64 : Shape := ⟨5, ![2, 256, 2, 4, 64]⟩
abbrev S2x2x4x256x64 : Shape := ⟨5, ![2, 2, 4, 256, 64]⟩
abbrev S2x2x4x256 : Shape := ⟨4, ![2, 2, 4, 256]⟩
abbrev S2x2x4x256x1 : Shape := ⟨5, ![2, 2, 4, 256, 1]⟩
abbrev S2x2x4x256x256 : Shape := ⟨5, ![2, 2, 4, 256, 256]⟩
abbrev S2x2x4x8448x64 : Shape := ⟨5, ![2, 2, 4, 8448, 64]⟩
abbrev S2x8448x2x4x64 : Shape := ⟨5, ![2, 8448, 2, 4, 64]⟩
abbrev S2x8448x2x4x128 : Shape := ⟨5, ![2, 8448, 2, 4, 128]⟩
abbrev S2x8448x1024 : Shape := ⟨3, ![2, 8448, 1024]⟩

abbrev nBuf : Space → Nat
  | .hbm => 215
  | .vmem => 0
  | .smem => 0
  | _ => 0

abbrev hbmTy0_0 (i : Nat) : BufTy := match i % 128 with
  | 0 => ⟨S2x8448x512, .f32⟩
  | 1 => ⟨S2x8448x128, .f32⟩
  | 2 => ⟨S2x8448x128, .f32⟩
  | 3 => ⟨S64, .f32⟩
  | 4 => ⟨S64, .f32⟩
  | 5 => ⟨S128, .f32⟩
  | 6 => ⟨S128x64, .f32⟩
  | 7 => ⟨S8192, .f32⟩
  | 8 => ⟨S8192, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i1⟩
  | 20 => ⟨S_, .i32⟩
  | 21 => ⟨S8192, .i32⟩
  | 22 => ⟨S8192, .i1⟩
  | 23 => ⟨S_, .i32⟩
  | 24 => ⟨S_, .i1⟩
  | 25 => ⟨S8192, .i1⟩
  | 26 => ⟨S8192, .i1⟩
  | 27 => ⟨S8192, .i1⟩
  | 28 => ⟨S8192, .i32⟩
  | 29 => ⟨S8192, .i32⟩
  | 30 => ⟨S8192, .i32⟩
  | 31 => ⟨S8192, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S8192x1, .f32⟩
  | 41 => ⟨S1x16, .f32⟩
  | 42 => ⟨S8192x16, .f32⟩
  | 43 => ⟨S8192x16, .f32⟩
  | 44 => ⟨S8192x16, .f32⟩
  | 45 => ⟨S8192x1, .f32⟩
  | 46 => ⟨S1x16, .f32⟩
  | 47 => ⟨S8192x16, .f32⟩
  | 48 => ⟨S8192x16, .f32⟩
  | 49 => ⟨S8192x16, .f32⟩
  | 50 => ⟨S8192x64, .f32⟩
  | 51 => ⟨S8192x64, .f32⟩
  | 52 => ⟨S8192x64, .f32⟩
  | 53 => ⟨S2x8192x512, .f32⟩
  | 54 => ⟨S2x8192x2x4x64, .f32⟩
  | 55 => ⟨S2x2x4x8192x64, .f32⟩
  | 56 => ⟨S2x2x4x8192x64, .f32⟩
  | 57 => ⟨S_, .f32⟩
  | 58 => ⟨S2x2x4x8192, .f32⟩
  | 59 => ⟨S2x2x4x8192x1, .f32⟩
  | 60 => ⟨S_, .f32⟩
  | 61 => ⟨S2x2x4x8192x1, .f32⟩
  | 62 => ⟨S2x2x4x8192x1, .f32⟩
  | 63 => ⟨S_, .f32⟩
  | 64 => ⟨S2x2x4x8192x1, .f32⟩
  | 65 => ⟨S2x2x4x8192x1, .f32⟩
  | 66 => ⟨S2x2x4x8192x1, .f32⟩
  | 67 => ⟨S2x2x4x8192x64, .f32⟩
  | 68 => ⟨S2x2x4x8192x64, .f32⟩
  | 69 => ⟨S1x1x1x1x64, .f32⟩
  | 70 => ⟨S2x2x4x8192x64, .f32⟩
  | 71 => ⟨S2x2x4x8192x64, .f32⟩
  | 72 => ⟨S_, .f32⟩
  | 73 => ⟨S2x2x4x8192x64, .f32⟩
  | 74 => ⟨S2x2x4x8192x64, .f32⟩
  | 75 => ⟨S2x2x4x8192x2x2x16, .f32⟩
  | 76 => ⟨S2x2x4x8192x2x1x16, .f32⟩
  | 77 => ⟨S2x2x4x8192x2x16, .f32⟩
  | 78 => ⟨S2x2x4x8192x2x16, .f32⟩
  | 79 => ⟨S2x2x4x8192x2x1x16, .f32⟩
  | 80 => ⟨S2x2x4x8192x2x16, .f32⟩
  | 81 => ⟨S2x2x4x8192x2x1x16, .f32⟩
  | 82 => ⟨S2x2x4x8192x2x1x16, .f32⟩
  | 83 => ⟨S2x2x4x8192x2x2x16, .f32⟩
  | 84 => ⟨S2x2x4x8192x64, .f32⟩
  | 85 => ⟨S1x1x1x8192x64, .f32⟩
  | 86 => ⟨S2x2x4x8192x64, .f32⟩
  | 87 => ⟨S2x2x4x8192x64, .f32⟩
  | 88 => ⟨S1x1x1x8192x64, .f32⟩
  | 89 => ⟨S2x2x4x8192x64, .f32⟩
  | 90 => ⟨S2x2x4x8192x64, .f32⟩
  | 91 => ⟨S2x2x4x8192x64, .f32⟩
  | 92 => ⟨S2x8192x128, .f32⟩
  | 93 => ⟨S2x8192x2x64, .f32⟩
  | 94 => ⟨S2x2x8192x64, .f32⟩
  | 95 => ⟨S2x2x8192x64, .f32⟩
  | 96 => ⟨S_, .f32⟩
  | 97 => ⟨S2x2x8192, .f32⟩
  | 98 => ⟨S2x2x8192x1, .f32⟩
  | 99 => ⟨S_, .f32⟩
  | 100 => ⟨S2x2x8192x1, .f32⟩
  | 101 => ⟨S2x2x8192x1, .f32⟩
  | 102 => ⟨S_, .f32⟩
  | 103 => ⟨S2x2x8192x1, .f32⟩
  | 104 => ⟨S2x2x8192x1, .f32⟩
  | 105 => ⟨S2x2x8192x1, .f32⟩
  | 106 => ⟨S2x2x8192x64, .f32⟩
  | 107 => ⟨S2x2x8192x64, .f32⟩
  | 108 => ⟨S1x1x1x64, .f32⟩
  | 109 => ⟨S2x2x8192x64, .f32⟩
  | 110 => ⟨S2x2x8192x64, .f32⟩
  | 111 => ⟨S2x2x8192x2x2x16, .f32⟩
  | 112 => ⟨S2x2x8192x2x1x16, .f32⟩
  | 113 => ⟨S2x2x8192x2x16, .f32⟩
  | 114 => ⟨S2x2x8192x2x16, .f32⟩
  | 115 => ⟨S2x2x8192x2x1x16, .f32⟩
  | 116 => ⟨S2x2x8192x2x16, .f32⟩
  | 117 => ⟨S2x2x8192x2x1x16, .f32⟩
  | 118 => ⟨S2x2x8192x2x1x16, .f32⟩
  | 119 => ⟨S2x2x8192x2x2x16, .f32⟩
  | 120 => ⟨S2x2x8192x64, .f32⟩
  | 121 => ⟨S1x1x8192x64, .f32⟩
  | 122 => ⟨S2x2x8192x64, .f32⟩
  | 123 => ⟨S2x2x8192x64, .f32⟩
  | 124 => ⟨S1x1x8192x64, .f32⟩
  | 125 => ⟨S2x2x8192x64, .f32⟩
  | 126 => ⟨S2x2x8192x64, .f32⟩
  | 127 => ⟨S2x2x8192x64, .f32⟩
  | _ => ⟨S2x8448x512, .f32⟩

abbrev hbmTy0_1 (i : Nat) : BufTy := match i % 128 with
  | 0 => ⟨S2x256x128, .f32⟩
  | 1 => ⟨S2x256x2x64, .f32⟩
  | 2 => ⟨S2x2x256x64, .f32⟩
  | 3 => ⟨S2x2x256x64, .f32⟩
  | 4 => ⟨S_, .f32⟩
  | 5 => ⟨S2x2x256, .f32⟩
  | 6 => ⟨S2x2x256x1, .f32⟩
  | 7 => ⟨S_, .f32⟩
  | 8 => ⟨S2x2x256x1, .f32⟩
  | 9 => ⟨S2x2x256x1, .f32⟩
  | 10 => ⟨S_, .f32⟩
  | 11 => ⟨S2x2x256x1, .f32⟩
  | 12 => ⟨S2x2x256x1, .f32⟩
  | 13 => ⟨S2x2x256x1, .f32⟩
  | 14 => ⟨S2x2x256x64, .f32⟩
  | 15 => ⟨S2x2x256x64, .f32⟩
  | 16 => ⟨S1x1x1x64, .f32⟩
  | 17 => ⟨S2x2x256x64, .f32⟩
  | 18 => ⟨S2x2x256x64, .f32⟩
  | 19 => ⟨S2x256x128, .f32⟩
  | 20 => ⟨S2x256x2x64, .f32⟩
  | 21 => ⟨S2x2x256x64, .f32⟩
  | 22 => ⟨S2x2x8448x64, .f32⟩
  | 23 => ⟨S2x8192x128, .f32⟩
  | 24 => ⟨S2x8192x2x64, .f32⟩
  | 25 => ⟨S2x2x8192x64, .f32⟩
  | 26 => ⟨S2x2x8448x64, .f32⟩
  | 27 => ⟨S2x2x4x8192x8448, .f32⟩
  | 28 => ⟨S_, .f32⟩
  | 29 => ⟨S2x2x4x8192, .f32⟩
  | 30 => ⟨S_, .f32⟩
  | 31 => ⟨S2x2x4x8192, .f32⟩
  | 32 => ⟨S2x2x4x8192, .f32⟩
  | 33 => ⟨S2x2x4x8192x1, .f32⟩
  | 34 => ⟨S2x2x4x8192x8448, .f32⟩
  | 35 => ⟨S2x2x4x8192x8448, .f32⟩
  | 36 => ⟨S2x2x4x8192x8448, .f32⟩
  | 37 => ⟨S_, .f32⟩
  | 38 => ⟨S2x2x4x8192, .f32⟩
  | 39 => ⟨S2x2x4x8192x1, .f32⟩
  | 40 => ⟨S2x2x4x8192x8448, .f32⟩
  | 41 => ⟨S2x2x4x8192x8448, .f32⟩
  | 42 => ⟨S2x2x4x8192x64, .f32⟩
  | 43 => ⟨S2x256x512, .f32⟩
  | 44 => ⟨S2x256x2x4x64, .f32⟩
  | 45 => ⟨S2x2x4x256x64, .f32⟩
  | 46 => ⟨S2x2x4x256x64, .f32⟩
  | 47 => ⟨S_, .f32⟩
  | 48 => ⟨S2x2x4x256, .f32⟩
  | 49 => ⟨S2x2x4x256x1, .f32⟩
  | 50 => ⟨S_, .f32⟩
  | 51 => ⟨S2x2x4x256x1, .f32⟩
  | 52 => ⟨S2x2x4x256x1, .f32⟩
  | 53 => ⟨S_, .f32⟩
  | 54 => ⟨S2x2x4x256x1, .f32⟩
  | 55 => ⟨S2x2x4x256x1, .f32⟩
  | 56 => ⟨S2x2x4x256x1, .f32⟩
  | 57 => ⟨S2x2x4x256x64, .f32⟩
  | 58 => ⟨S2x2x4x256x64, .f32⟩
  | 59 => ⟨S1x1x1x1x64, .f32⟩
  | 60 => ⟨S2x2x4x256x64, .f32⟩
  | 61 => ⟨S2x2x4x256x64, .f32⟩
  | 62 => ⟨S_, .f32⟩
  | 63 => ⟨S2x2x4x256x64, .f32⟩
  | 64 => ⟨S2x2x4x256x64, .f32⟩
  | 65 => ⟨S2x2x4x256x256, .f32⟩
  | 66 => ⟨S_, .f32⟩
  | 67 => ⟨S2x2x4x256, .f32⟩
  | 68 => ⟨S_, .f32⟩
  | 69 => ⟨S2x2x4x256, .f32⟩
  | 70 => ⟨S2x2x4x256, .f32⟩
  | 71 => ⟨S2x2x4x256x1, .f32⟩
  | 72 => ⟨S2x2x4x256x256, .f32⟩
  | 73 => ⟨S2x2x4x256x256, .f32⟩
  | 74 => ⟨S2x2x4x256x256, .f32⟩
  | 75 => ⟨S_, .f32⟩
  | 76 => ⟨S2x2x4x256, .f32⟩
  | 77 => ⟨S2x2x4x256x1, .f32⟩
  | 78 => ⟨S2x2x4x256x256, .f32⟩
  | 79 => ⟨S2x2x4x256x256, .f32⟩
  | 80 => ⟨S2x2x4x256x64, .f32⟩
  | 81 => ⟨S2x2x4x8448x64, .f32⟩
  | 82 => ⟨S2x8448x2x4x64, .f32⟩
  | 83 => ⟨S_, .i32⟩
  | 84 => ⟨S_, .f32⟩
  | 85 => ⟨S2x8448x2x4x128, .f32⟩
  | 86 => ⟨S2x8448x1024, .f32⟩
  | _ => ⟨S2x8448x512, .f32⟩

abbrev hbmTy (i : Nat) : BufTy := match i / 128 with
  | 0 => hbmTy0_0 i
  | 1 => hbmTy0_1 i
  | _ => ⟨S2x8448x512, .f32⟩

abbrev bufTy : (tb : Table) → Fin (tcTables nBuf tb) → BufTy
  | .hbm, ⟨i, _⟩ => hbmTy i
  | _, _ => ⟨S2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_5 : Ref sig .tc := ⟨.hbm, 96, rfl⟩
abbrev main_v64 : Ref sig .tc := ⟨.hbm, 97, rfl⟩
abbrev main_v65 : Ref sig .tc := ⟨.hbm, 98, rfl⟩
abbrev main_cst_6 : Ref sig .tc := ⟨.hbm, 99, rfl⟩
abbrev main_v66 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_8 : Ref sig .tc := ⟨.hbm, 132, rfl⟩
abbrev main_v97 : Ref sig .tc := ⟨.hbm, 133, rfl⟩
abbrev main_v98 : Ref sig .tc := ⟨.hbm, 134, rfl⟩
abbrev main_cst_9 : Ref sig .tc := ⟨.hbm, 135, rfl⟩
abbrev main_v99 : Ref sig .tc := ⟨.hbm, 136, rfl⟩
abbrev main_v100 : Ref sig .tc := ⟨.hbm, 137, rfl⟩
abbrev main_cst_10 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_11 : Ref sig .tc := ⟨.hbm, 156, rfl⟩
abbrev main_v118 : Ref sig .tc := ⟨.hbm, 157, rfl⟩
abbrev main_cst_12 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_13 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_14 : Ref sig .tc := ⟨.hbm, 175, rfl⟩
abbrev main_v134 : Ref sig .tc := ⟨.hbm, 176, rfl⟩
abbrev main_v135 : Ref sig .tc := ⟨.hbm, 177, rfl⟩
abbrev main_cst_15 : Ref sig .tc := ⟨.hbm, 178, rfl⟩
abbrev main_v136 : Ref sig .tc := ⟨.hbm, 179, rfl⟩
abbrev main_v137 : Ref sig .tc := ⟨.hbm, 180, rfl⟩
abbrev main_cst_16 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_17 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_18 : Ref sig .tc := ⟨.hbm, 194, rfl⟩
abbrev main_v149 : Ref sig .tc := ⟨.hbm, 195, rfl⟩
abbrev main_cst_19 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_20 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_21 : Ref sig .tc := ⟨.hbm, 211, rfl⟩
abbrev main_call1_v0 : Ref sig .tc := ⟨.hbm, 212, rfl⟩
abbrev main_v163 : Ref sig .tc := ⟨.hbm, 213, rfl⟩
abbrev main_v164 : Ref sig .tc := ⟨.hbm, 214, rfl⟩

abbrev nD : Nat := 1
abbrev τ : Topo := Topo.v7x

variable {F : FTy → Type} [FloatOps F]
-- ==== Kernel2.lean ====
abbrev S16x2112x1024 : Shape := ⟨3, ![16, 2112, 1024]⟩
abbrev S2x16x1024x2816 : Shape := ⟨4, ![2, 16, 1024, 2816]⟩
abbrev S2x16x2816x1024 : Shape := ⟨4, ![2, 16, 2816, 1024]⟩
abbrev S16x2112x1 : Shape := ⟨3, ![16, 2112, 1]⟩
abbrev S16x17408x128 : Shape := ⟨3, ![16, 17408, 128]⟩
abbrev S1x2112x1024 : Shape := ⟨3, ![1, 2112, 1024]⟩
abbrev S1x1x1024x256 : Shape := ⟨4, ![1, 1, 1024, 256]⟩
abbrev S1x1x256x1024 : Shape := ⟨4, ![1, 1, 256, 1024]⟩
abbrev S1x2112x1 : Shape := ⟨3, ![1, 2112, 1]⟩
abbrev S1x17408x128 : Shape := ⟨3, ![1, 17408, 128]⟩
abbrev S2112x1024 : Shape := ⟨2, ![2112, 1024]⟩
abbrev S1024x256 : Shape := ⟨2, ![1024, 256]⟩
abbrev S256x1024 : Shape := ⟨2, ![256, 1024]⟩
abbrev S1x528x1024 : Shape := ⟨3, ![1, 528, 1024]⟩
abbrev S528x1024 : Shape := ⟨2, ![528, 1024]⟩
abbrev S528x256 : Shape := ⟨2, ![528, 256]⟩
abbrev S2112x1 : Shape := ⟨2, ![2112, 1]⟩
abbrev S2112x128 : Shape := ⟨2, ![2112, 128]⟩
abbrev S1x2112x128 : Shape := ⟨3, ![1, 2112, 128]⟩
abbrev S512x128 : Shape := ⟨2, ![512, 128]⟩
abbrev S1x512x128 : Shape := ⟨3, ![1, 512, 128]⟩

abbrev nBuf : Space → Nat
  | .hbm => 7
  | .vmem => 13
  | .smem => 0
  | _ => 0

abbrev bufTy : (tb : Table) → Fin (tcTables nBuf tb) → BufTy
  | .hbm, ⟨0, _⟩ => ⟨S16x2112x1024, .f32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x2112x1, .f32⟩
  | .hbm, ⟨5, _⟩ => ⟨S16x2112x1024, .bf16⟩
  | .hbm, ⟨6, _⟩ => ⟨S16x17408x128, .f32⟩
  | .local _ .vmem, ⟨0, _⟩ => ⟨S1x2112x1024, .bf16⟩
  | .local _ .vmem, ⟨1, _⟩ => ⟨S1x2112x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x2112x1, .f32⟩
  | .local _ .vmem, ⟨9, _⟩ => ⟨S1x2112x1, .f32⟩
  | .local _ .vmem, ⟨10, _⟩ => ⟨S1x17408x128, .f32⟩
  | .local _ .vmem, ⟨11, _⟩ => ⟨S1x17408x128, .f32⟩
  | .local _ .vmem, ⟨12, _⟩ => ⟨S2112x1024, .f32⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v68 : BitVec 1 := Scalar.cmpi .eq arg1 c10_i32
  let v69 : BitVec 32 := Scalar.extui v68
  let c0_i32_48 : BitVec 32 := 0#32
  let v70 : BitVec 1 := Scalar.cmpi .ne v69 c0_i32_48
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2112x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x17408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2112x1024 : Shape := ⟨3, ![16, 2112, 1024]⟩
abbrev S2x16x1024x2816 : Shape := ⟨4, ![2, 16, 1024, 2816]⟩
abbrev S2x16x2816x1024 : Shape := ⟨4, ![2, 16, 2816, 1024]⟩
abbrev S16x2112x1 : Shape := ⟨3, ![16, 2112, 1]⟩
abbrev S1x16x1024x2816 : Shape := ⟨4, ![1, 16, 1024, 2816]⟩
abbrev S16x1024x2816 : Shape := ⟨3, ![16, 1024, 2816]⟩
abbrev S16x2112x2816 : Shape := ⟨3, ![16, 2112, 2816]⟩
abbrev S_ : Shape := ⟨0, ![]⟩
abbrev S1x16x2816x1024 : Shape := ⟨4, ![1, 16, 2816, 1024]⟩
abbrev S16x2816x1024 : Shape := ⟨3, ![16, 2816, 1024]⟩
abbrev S16x16896x128 : Shape := ⟨3, ![16, 16896, 128]⟩
abbrev S16x17408x128 : Shape := ⟨3, ![16, 17408, 128]⟩

abbrev nBuf : Space → Nat
  | .hbm => 30
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S2x16x1024x2816, .f32⟩
  | .hbm, ⟨2, _⟩ => ⟨S2x16x1024x2816, .f32⟩
  | .hbm, ⟨3, _⟩ => ⟨S2x16x2816x1024, .f32⟩
  | .hbm, ⟨4, _⟩ => ⟨S16x2112x1, .f32⟩
  | .hbm, ⟨5, _⟩ => ⟨S1x16x1024x2816, .f32⟩
  | .hbm, ⟨6, _⟩ => ⟨S16x1024x2816, .f32⟩
  | .hbm, ⟨7, _⟩ => ⟨S16x2112x2816, .f32⟩
  | .hbm, ⟨8, _⟩ => ⟨S1x16x1024x2816, .f32⟩
  | .hbm, ⟨9, _⟩ => ⟨S16x1024x2816, .f32⟩
  | .hbm, ⟨10, _⟩ => ⟨S16x2112x2816, .f32⟩
  | .hbm, ⟨11, _⟩ => ⟨S16x2112x2816, .f32⟩
  | .hbm, ⟨12, _⟩ => ⟨S16x2112x2816, .f32⟩
  | .hbm, ⟨13, _⟩ => ⟨S_, .f32⟩
  | .hbm, ⟨14, _⟩ => ⟨S16x2112x2816, .f32⟩
  | .hbm, ⟨15, _⟩ => ⟨S16x2112x2816, .f32⟩
  | .hbm, ⟨16, _⟩ => ⟨S_, .f32⟩
  | .hbm, ⟨17, _⟩ => ⟨S16x2112x2816, .f32⟩
  | .hbm, ⟨18, _⟩ => ⟨S16x2112x2816, .f32⟩
  | .hbm, ⟨19, _⟩ => ⟨S16x2112x2816, .f32⟩
  | .hbm, ⟨20, _⟩ => ⟨S16x2112x2816, .f32⟩
  | .hbm, ⟨21, _⟩ => ⟨S1x16x2816x1024, .f32⟩
  | .hbm, ⟨22, _⟩ => ⟨S16x2816x1024, .f32⟩
  | .hbm, ⟨23, _⟩ => ⟨S16x2112x1024, .f32⟩
  | .hbm, ⟨24, _⟩ => ⟨S16x2112x1024, .f32⟩
  | .hbm, ⟨25, _⟩ => ⟨S16x2112x1024, .f32⟩
  | .hbm, ⟨26, _⟩ => ⟨S16x16896x128, .f32⟩
  | .hbm, ⟨27, _⟩ => ⟨S_, .i32⟩
  | .hbm, ⟨28, _⟩ => ⟨S_, .f32⟩
  | .hbm, ⟨29, _⟩ => ⟨S16x17408x128, .f32⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call1_v0 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024 : Shape := ⟨2, ![2, 1024]⟩
abbrev S2x256x1024 : Shape := ⟨3, ![2, 256, 1024]⟩
abbrev S1024 : Shape := ⟨1, ![1024]⟩
abbrev S2x1024x6144 : Shape := ⟨3, ![2, 1024, 6144]⟩
abbrev S2x6144 : Shape := ⟨2, ![2, 6144]⟩
abbrev S2x1024x2576 : Shape := ⟨3, ![2, 1024, 2576]⟩
abbrev S2x8448x1024 : Shape := ⟨3, ![2, 8448, 1024]⟩
abbrev S6x1024 : Shape := ⟨2, ![6, 1024]⟩
abbrev S8x1024 : Shape := ⟨2, ![8, 1024]⟩
abbrev S1x6144 : Shape := ⟨2, ![1, 6144]⟩
abbrev S6144 : Shape := ⟨1, ![6144]⟩
abbrev S8x6144 : Shape := ⟨2, ![8, 6144]⟩
abbrev S1x1024x1024 : Shape := ⟨3, ![1, 1024, 1024]⟩
abbrev S1x1024 : Shape := ⟨2, ![1, 1024]⟩
abbrev S1024x1024 : Shape := ⟨2, ![1024, 1024]⟩
abbrev S8x6x1024 : Shape := ⟨3, ![8, 6, 1024]⟩
abbrev S1x6x1024 : Shape := ⟨3, ![1, 6, 1024]⟩
abbrev S2x6x1024 : Shape := ⟨3, ![2, 6, 1024]⟩
abbrev S2x1x6x1024 : Shape := ⟨4, ![2, 1, 6, 1024]⟩
abbrev S2x2x6x1024 : Shape := ⟨4, ![2, 2, 6, 1024]⟩
abbrev S1x1024x2576 : Shape := ⟨3, ![1, 1024, 2576]⟩
abbrev S1024x2576 : Shape := ⟨2, ![1024, 2576]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x256 : Shape := ⟨2, ![1024, 256]⟩
abbrev S1024x4x64 : Shape := ⟨3, ![1024, 4, 64]⟩
abbrev S1024x4x128 : Shape := ⟨3, ![1024, 4, 128]⟩
abbrev S1024x128 : Shape := ⟨2, ![1024, 128]⟩
abbrev S1024x2x64 : Shape := ⟨3, ![1024, 2, 64]⟩
abbrev S1024x2x128 : Shape := ⟨3, ![1024, 2, 128]⟩
abbrev S1024x768 : Shape := ⟨2, ![1024, 768]⟩
abbrev S1024x16 : Shape := ⟨2, ![1024, 16]⟩
abbrev S1024x4224 : Shape := ⟨2, ![1024, 4224]⟩
abbrev S2x8448x512 : Shape := ⟨3, ![2, 8448, 512]⟩
abbrev S2x8448x256 : Shape := ⟨3, ![2, 8448, 256]⟩
abbrev S2x8448x768 : Shape := ⟨3, ![2, 8448, 768]⟩
abbrev S2x8448x128 : Shape := ⟨3, ![2, 8448, 128]⟩
abbrev S1x256x1024 : Shape := ⟨3, ![1, 256, 1024]⟩
abbrev S1x1x6x1024 : Shape := ⟨4, ![1, 1, 6, 1024]⟩
abbrev S1x256x512 : Shape := ⟨3, ![1, 256, 512]⟩
abbrev S1x256x256 : Shape := ⟨3, ![1, 256, 256]⟩
abbrev S1x256x768 : Shape := ⟨3, ![1, 256, 768]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x512 : Shape := ⟨2, ![256, 512]⟩
abbrev S256x256 : Shape := ⟨2, ![256, 256]⟩
abbrev S256x768 : Shape := ⟨2, ![256, 768]⟩
abbrev S256x128 : Shape := ⟨2, ![256, 128]⟩

abbrev nBuf : Space → Nat
  | .hbm => 70
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x256x1024, .f32⟩
  | .hbm, ⟨3, _⟩ => ⟨S1024, .f32⟩
  | .hbm, ⟨4, _⟩ => ⟨S2x1024x6144, .f32⟩
  | .hbm, ⟨5, _⟩ => ⟨S2x6144, .f32⟩
  | .hbm, ⟨6, _⟩ => ⟨S2x1024x2576, .f32⟩
  | .hbm, ⟨7, _⟩ => ⟨S2x8448x1024, .f32⟩
  | .hbm, ⟨8, _⟩ => ⟨S6x1024, .f32⟩
  | .hbm, ⟨9, _⟩ => ⟨S8x1024, .f32⟩
  | .hbm, ⟨10, _⟩ => ⟨S1x6144, .f32⟩
  | .hbm, ⟨11, _⟩ => ⟨S6144, .f32⟩
  | .hbm, ⟨12, _⟩ => ⟨S1x6144, .f32⟩
  | .hbm, ⟨13, _⟩ => ⟨S8x6144, .f32⟩
  | .hbm, ⟨14, _⟩ => ⟨S8x6x1024, .f32⟩
  | .hbm, ⟨15, _⟩ => ⟨S1x6x1024, .f32⟩
  | .hbm, ⟨16, _⟩ => ⟨S6x1024, .f32⟩
  | .hbm, ⟨17, _⟩ => ⟨S2x6x1024, .f32⟩
  | .hbm, ⟨18, _⟩ => ⟨S2x6x1024, .f32⟩
  | .hbm, ⟨19, _⟩ => ⟨S2x1x6x1024, .f32⟩
  | .hbm, ⟨20, _⟩ => ⟨S2x1x6x1024, .f32⟩
  | .hbm, ⟨21, _⟩ => ⟨S2x2x6x1024, .f32⟩
  | .hbm, ⟨22, _⟩ => ⟨S1x1024x2576, .f32⟩
  | .hbm, ⟨23, _⟩ => ⟨S1024x2576, .f32⟩
  | .hbm, ⟨24, _⟩ => ⟨S1024x512, .f32⟩
  | .hbm, ⟨25, _⟩ => ⟨S1024x8x64, .f32⟩
  | .hbm, ⟨26, _⟩ => ⟨S_, .i32⟩
  | .hbm, ⟨27, _⟩ => ⟨S_, .f32⟩
  | .hbm, ⟨28, _⟩ => ⟨S1024x8x128, .f32⟩
  | .hbm, ⟨29, _⟩ => ⟨S1024x1024, .f32⟩
  | .hbm, ⟨30, _⟩ => ⟨S1024x256, .f32⟩
  | .hbm, ⟨31, _⟩ => ⟨S1024x4x64, .f32⟩
  | .hbm, ⟨32, _⟩ => ⟨S_, .i32⟩
  | .hbm, ⟨33, _⟩ => ⟨S_, .f32⟩
  | .hbm, ⟨34, _⟩ => ⟨S1024x4x128, .f32⟩
  | .hbm, ⟨35, _⟩ => ⟨S1024x512, .f32⟩
  | .hbm, ⟨36, _⟩ => ⟨S1024x256, .f32⟩
  | .hbm, ⟨37, _⟩ => ⟨S1024x512, .f32⟩
  | .hbm, ⟨38, _⟩ => ⟨S1024x8x64, .f32⟩
  | .hbm, ⟨39, _⟩ => ⟨S_, .i32⟩
  | .hbm, ⟨40, _⟩ => ⟨S_, .f32⟩
  | .hbm, ⟨41, _⟩ => ⟨S1024x8x128, .f32⟩
  | .hbm, ⟨42, _⟩ => ⟨S1024x1024, .f32⟩
  | .hbm, ⟨43, _⟩ => ⟨S1024x128, .f32⟩
  | .hbm, ⟨44, _⟩ => ⟨S1024x2x64, .f32⟩
  | .hbm, ⟨45, _⟩ => ⟨S_, .i32⟩
  | .hbm, ⟨46, _⟩ => ⟨S_, .f32⟩
  | .hbm, ⟨47, _⟩ => ⟨S1024x2x128, .f32⟩
  | .hbm, ⟨48, _⟩ => ⟨S1024x256, .f32⟩
  | .hbm, ⟨49, _⟩ => ⟨S1024x128, .f32⟩
  | .hbm, ⟨50, _⟩ => ⟨S1024x2x64, .f32⟩
  | .hbm, ⟨51, _⟩ => ⟨S_, .i32⟩
  | .hbm, ⟨52, _⟩ => ⟨S_, .f32⟩
  | .hbm, ⟨53, _⟩ => ⟨S1024x2x128, .f32⟩
  | .hbm, ⟨54, _⟩ => ⟨S1024x256, .f32⟩
  | .hbm, ⟨55, _⟩ => ⟨S1024x768, .f32⟩
  | .hbm, ⟨56, _⟩ => ⟨S1024x16, .f32⟩
  | .hbm, ⟨57, _⟩ => ⟨S_, .i32⟩
  | .hbm, ⟨58, _⟩ => ⟨S_, .f32⟩
  | .hbm, ⟨59, _⟩ => ⟨S1024x128, .f32⟩
  | .hbm, ⟨60, _⟩ => ⟨S1024x4224, .f32⟩
  | .hbm, ⟨61, _⟩ => ⟨S1024x4224, .bf16⟩
  | .hbm, ⟨62, _⟩ => ⟨S2x8448x1024, .f32⟩
  | .hbm, ⟨63, _⟩ => ⟨S2x8448x512, .f32⟩
  | .hbm, ⟨64, _⟩ => ⟨S2x8448x256, .f32⟩
  | .hbm, ⟨65, _⟩ => ⟨S2x8448x1024, .f32⟩
  | .hbm, ⟨66, _⟩ => ⟨S2x8448x256, .f32⟩
  | .hbm, ⟨67, _⟩ => ⟨S2x8448x256, .f32⟩
  | .hbm, ⟨68, _⟩ => ⟨S2x8448x768, .f32⟩
  | .hbm, ⟨69, _⟩ => ⟨S2x8448x128, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1024x4224, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x256, .f32⟩
  | .local _ .vmem, ⟨17, _⟩ => ⟨S1x256x256, .f32⟩
  | .local _ .vmem, ⟨18, _⟩ => ⟨S1x256x1024, .f32⟩
  | .local _ .vmem, ⟨19, _⟩ => ⟨S1x256x1024, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x768, .f32⟩
  | .local _ .vmem, ⟨25, _⟩ => ⟨S1x256x768, .f32⟩
  | .local _ .vmem, ⟨26, _⟩ => ⟨S1x256x128, .f32⟩
  | .local _ .vmem, ⟨27, _⟩ => ⟨S1x256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_1 : Ref sig .tc := ⟨.hbm, 39, rfl⟩
abbrev main_call2_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_call3_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_3 : Ref sig .tc := ⟨.hbm, 51, rfl⟩
abbrev main_call4_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_call5_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43_0 : Ref sig .tc := ⟨.hbm, 62, rfl⟩
abbrev main_v43_1 : Ref sig .tc := ⟨.hbm, 63, rfl⟩
abbrev main_v43_2 : Ref sig .tc := ⟨.hbm, 64, rfl⟩
abbrev main_v43_3 : Ref sig .tc := ⟨.hbm, 65, rfl⟩
abbrev main_v43_4 : Ref sig .tc := ⟨.hbm, 66, rfl⟩
abbrev main_v43_5 : Ref sig .tc := ⟨.hbm, 67, rfl⟩
abbrev main_v43_6 : Ref sig .tc := ⟨.hbm, 68, rfl⟩
abbrev main_v43_7 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 33], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x4224 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== Reference3Ideal.lean ====
abbrev S2x8192x1024 : Shape := ⟨3, ![2, 8192, 1024]⟩
abbrev S2x1024 : Shape := ⟨2, ![2, 1024]⟩
abbrev S2x256x1024 : Shape := ⟨3, ![2, 256, 1024]⟩
abbrev S1024 : Shape := ⟨1, ![1024]⟩
abbrev S2x1024x6144 : Shape := ⟨3, ![2, 1024, 6144]⟩
abbrev S2x6144 : Shape := ⟨2, ![2, 6144]⟩
abbrev S2x1024x2576 : Shape := ⟨3, ![2, 1024, 2576]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S2x1x6144 : Shape := ⟨3, ![2, 1, 6144]⟩
abbrev S2x1x1024 : Shape := ⟨3, ![2, 1, 1024]⟩
abbrev S1x1x6144 : Shape := ⟨3, ![1, 1, 6144]⟩
abbrev S1x1x1024 : Shape := ⟨3, ![1, 1, 1024]⟩
abbrev S2x8192 : Shape := ⟨2, ![2, 8192]⟩
abbrev S2x8192x1 : Shape := ⟨3, ![2, 8192, 1]⟩
abbrev S1x1024x2576 : Shape := ⟨3, ![1, 1024, 2576]⟩
abbrev S1024x2576 : Shape := ⟨2, ![1024, 2576]⟩
abbrev S2x8192x2576 : Shape := ⟨3, ![2, 8192, 2576]⟩
abbrev S2x256 : Shape := ⟨2, ![2, 256]⟩
abbrev S2x256x1 : Shape := ⟨3, ![2, 256, 1]⟩
abbrev S2x256x2576 : Shape := ⟨3, ![2, 256, 2576]⟩
abbrev S2x8448x2576 : Shape := ⟨3, ![2, 8448, 2576]⟩
abbrev S2x8448x512 : Shape := ⟨3, ![2, 8448, 512]⟩
abbrev S2x8448x256 : Shape := ⟨3, ![2, 8448, 256]⟩
abbrev S2x8448x16 : Shape := ⟨3, ![2, 8448, 16]⟩
abbrev S2x8448x128 : Shape := ⟨3, ![2, 8448, 128]⟩
abbrev S2x8448x768 : Shape := ⟨3, ![2, 8448, 768]⟩
abbrev S2x8448x8x64 : Shape := ⟨4, ![2, 8448, 8, 64]⟩
abbrev S2x8448x8x128 : Shape := ⟨4, ![2, 8448, 8, 128]⟩
abbrev S2x8448x1024 : Shape := ⟨3, ![2, 8448, 1024]⟩
abbrev S2x8448x4x64 : Shape := ⟨4, ![2, 8448, 4, 64]⟩
abbrev S2x8448x4x128 : Shape := ⟨4, ![2, 8448, 4, 128]⟩
abbrev S2x8448x2x64 : Shape := ⟨4, ![2, 8448, 2, 64]⟩
abbrev S2x8448x2x128 : Shape := ⟨4, ![2, 8448, 2, 128]⟩

abbrev nBuf : Space → Nat
  | .hbm => 156
  | .vmem => 0
  | .smem => 0
  | _ => 0

abbrev hbmTy0_0 (i : Nat) : BufTy := match i % 128 with
  | 0 => ⟨S2x8192x1024, .f32⟩
  | 1 => ⟨S2x1024, .f32⟩
  | 2 => ⟨S2x256x1024, .f32⟩
  | 3 => ⟨S1024, .f32⟩
  | 4 => ⟨S2x1024x6144, .f32⟩
  | 5 => ⟨S2x6144, .f32⟩
  | 6 => ⟨S2x1024x2576, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S1x1024x6144, .f32⟩
  | 17 => ⟨S1024x6144, .f32⟩
  | 18 => ⟨S2x6144, .f32⟩
  | 19 => ⟨S1x6144, .f32⟩
  | 20 => ⟨S6144, .f32⟩
  | 21 => ⟨S1x6144, .f32⟩
  | 22 => ⟨S2x6144, .f32⟩
  | 23 => ⟨S2x6144, .f32⟩
  | 24 => ⟨S2x1x6144, .f32⟩
  | 25 => ⟨S2x1x1024, .f32⟩
  | 26 => ⟨S2x1x1024, .f32⟩
  | 27 => ⟨S2x1x1024, .f32⟩
  | 28 => ⟨S2x1x1024, .f32⟩
  | 29 => ⟨S2x1x1024, .f32⟩
  | 30 => ⟨S2x1x1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S1x1024x6144, .f32⟩
  | 41 => ⟨S1024x6144, .f32⟩
  | 42 => ⟨S6144, .f32⟩
  | 43 => ⟨S1x6144, .f32⟩
  | 44 => ⟨S6144, .f32⟩
  | 45 => ⟨S6144, .f32⟩
  | 46 => ⟨S1x1x6144, .f32⟩
  | 47 => ⟨S1x1x1024, .f32⟩
  | 48 => ⟨S1x1x1024, .f32⟩
  | 49 => ⟨S1x1x1024, .f32⟩
  | 50 => ⟨S1x1x1024, .f32⟩
  | 51 => ⟨S1x1x1024, .f32⟩
  | 52 => ⟨S1x1x1024, .f32⟩
  | 53 => ⟨S_, .f32⟩
  | 54 => ⟨S2x8192, .f32⟩
  | 55 => ⟨S2x8192x1, .f32⟩
  | 56 => ⟨S_, .f32⟩
  | 57 => ⟨S2x8192x1, .f32⟩
  | 58 => ⟨S2x8192x1, .f32⟩
  | 59 => ⟨S2x8192x1024, .f32⟩
  | 60 => ⟨S2x8192x1024, .f32⟩
  | 61 => ⟨S2x8192x1024, .f32⟩
  | 62 => ⟨S_, .f32⟩
  | 63 => ⟨S2x8192, .f32⟩
  | 64 => ⟨S2x8192x1, .f32⟩
  | 65 => ⟨S_, .f32⟩
  | 66 => ⟨S2x8192x1, .f32⟩
  | 67 => ⟨S2x8192x1, .f32⟩
  | 68 => ⟨S2x8192x1024, .f32⟩
  | 69 => ⟨S2x8192x1024, .f32⟩
  | 70 => ⟨S_, .f32⟩
  | 71 => ⟨S2x8192x1, .f32⟩
  | 72 => ⟨S2x8192x1, .f32⟩
  | 73 => ⟨S2x8192x1, .f32⟩
  | 74 => ⟨S2x8192x1024, .f32⟩
  | 75 => ⟨S2x8192x1024, .f32⟩
  | 76 => ⟨S_, .f32⟩
  | 77 => ⟨S2x1x1024, .f32⟩
  | 78 => ⟨S2x1x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S1x1024x2576, .f32⟩
  | 84 => ⟨S1024x2576, .f32⟩
  | 85 => ⟨S2x8192x2576, .f32⟩
  | 86 => ⟨S_, .f32⟩
  | 87 => ⟨S2x256, .f32⟩
  | 88 => ⟨S2x256x1, .f32⟩
  | 89 => ⟨S_, .f32⟩
  | 90 => ⟨S2x256x1, .f32⟩
  | 91 => ⟨S2x256x1, .f32⟩
  | 92 => ⟨S2x256x1024, .f32⟩
  | 93 => ⟨S2x256x1024, .f32⟩
  | 94 => ⟨S2x256x1024, .f32⟩
  | 95 => ⟨S_, .f32⟩
  | 96 => ⟨S2x256, .f32⟩
  | 97 => ⟨S2x256x1, .f32⟩
  | 98 => ⟨S_, .f32⟩
  | 99 => ⟨S2x256x1, .f32⟩
  | 100 => ⟨S2x256x1, .f32⟩
  | 101 => ⟨S2x256x1024, .f32⟩
  | 102 => ⟨S2x256x1024, .f32⟩
  | 103 => ⟨S_, .f32⟩
  | 104 => ⟨S2x256x1, .f32⟩
  | 105 => ⟨S2x256x1, .f32⟩
  | 106 => ⟨S2x256x1, .f32⟩
  | 107 => ⟨S2x256x1024, .f32⟩
  | 108 => ⟨S2x256x1024, .f32⟩
  | 109 => ⟨S_, .f32⟩
  | 110 => ⟨S1x1x1024, .f32⟩
  | 111 => ⟨S1x1x1024, .f32⟩
  | 112 => ⟨S2x256x1024, .f32⟩
  | 113 => ⟨S2x256x1024, .f32⟩
  | 114 => ⟨S2x256x1024, .f32⟩
  | 115 => ⟨S2x256x1024, .f32⟩
  | 116 => ⟨S1x1024x2576, .f32⟩
  | 117 => ⟨S1024x2576, .f32⟩
  | 118 => ⟨S2x256x2576, .f32⟩
  | 119 => ⟨S2x8448x2576, .f32⟩
  | 120 => ⟨S2x8448x512, .f32⟩
  | 121 => ⟨S2x8448x256, .f32⟩
  | 122 => ⟨S2x8448x256, .f32⟩
  | 123 => ⟨S2x8448x16, .f32⟩
  | 124 => ⟨S2x8448x512, .f32⟩
  | 125 => ⟨S2x8448x128, .f32⟩
  | 126 => ⟨S2x8448x128, .f32⟩
  | 127 => ⟨S2x8448x768, .f32⟩
  | _ => ⟨S2x8192x1024, .f32⟩

abbrev hbmTy0_1 (i : Nat) : BufTy := match i % 128 with
  | 0 => ⟨S2x8448x8x64, .f32⟩
  | 1 => ⟨S_, .i32⟩
  | 2 => ⟨S_, .f32⟩
  | 3 => ⟨S2x8448x8x128, .f32⟩
  | 4 => ⟨S2x8448x1024, .f32⟩
  | 5 => ⟨S2x8448x4x64, .f32⟩
  | 6 => ⟨S_, .i32⟩
  | 7 => ⟨S_, .f32⟩
  | 8 => ⟨S2x8448x4x128, .f32⟩
  | 9 => ⟨S2x8448x512, .f32⟩
  | 10 => ⟨S2x8448x8x64, .f32⟩
  | 11 => ⟨S_, .i32⟩
  | 12 => ⟨S_, .f32⟩
  | 13 => ⟨S2x8448x8x128, .f32⟩
  | 14 => ⟨S2x8448x1024, .f32⟩
  | 15 => ⟨S2x8448x2x64, .f32⟩
  | 16 => ⟨S_, .i32⟩
  | 17 => ⟨S_, .f32⟩
  | 18 => ⟨S2x8448x2x128, .f32⟩
  | 19 => ⟨S2x8448x256, .f32⟩
  | 20 => ⟨S2x8448x2x64, .f32⟩
  | 21 => ⟨S_, .i32⟩
  | 22 => ⟨S_, .f32⟩
  | 23 => ⟨S2x8448x2x128, .f32⟩
  | 24 => ⟨S2x8448x256, .f32⟩
  | 25 => ⟨S_, .i32⟩
  | 26 => ⟨S_, .f32⟩
  | 27 => ⟨S2x8448x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_v31 : Ref sig .tc := ⟨.hbm, 55, rfl⟩
abbrev main_cst_0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_5 : Ref sig .tc := ⟨.hbm, 86, rfl⟩
abbrev main_v57 : Ref sig .tc := ⟨.hbm, 87, rfl⟩
abbrev main_v58 : Ref sig .tc := ⟨.hbm, 88, rfl⟩
abbrev main_cst_6 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_7 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_9 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c : Ref sig .tc := ⟨.hbm, 129, rfl⟩
abbrev main_call2_v0 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_11 : Ref sig .tc := ⟨.hbm, 134, rfl⟩
abbrev main_call3_v0 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_12 : Ref sig .tc := ⟨.hbm, 139, rfl⟩
abbrev main_call4_v0 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_13 : Ref sig .tc := ⟨.hbm, 144, rfl⟩
abbrev main_call5_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_14 : Ref sig .tc := ⟨.hbm, 149, rfl⟩
abbrev main_call6_v0 : Ref sig .tc := ⟨.hbm, 150, rfl⟩
abbrev main_v106 : Ref sig .tc := ⟨.hbm, 151, rfl⟩
abbrev main_v107 : Ref sig .tc := ⟨.hbm, 152, rfl⟩
abbrev main_c_15 : Ref sig .tc := ⟨.hbm, 153, rfl⟩
abbrev main_call7_v0 : Ref sig .tc := ⟨.hbm, 154, rfl⟩
abbrev main_v108 : Ref sig .tc := ⟨.hbm, 155, rfl⟩

abbrev nD : Nat := 1
abbrev τ : Topo := Topo.v7x

variable {F : FTy → Type} [FloatOps F]
-- ==== Proof.Attn.Math.lean ====
/-
  Arithmetic of one attention row over the extended reals: exponentials in base two of scores scaled by `1 / log 2`
  are exponentials of the scores, and a sum of weighted values divided by the sum of the weights is the sum of the
  values at the divided weights.
-/
module

public import Idealize.ShloMosaic.PureOps.Ideal
public import Mathlib.Analysis.SpecialFunctions.Pow.Real

@[expose] public section

noncomputable section

namespace Cert.AttnMath

open Idealize.ShloMosaic

/-- The greatest element of a family of reals, as an extended real, is a real that scales with the family. -/
theorem sup_scaled {K : ℕ} [NeZero K] (σ : Fin K → ℝ) (e : Fin K ≃ Fin K) (a : ℝ) (ha : 0 ≤ a) (s s' : Fin K → EReal)
    (hs : ∀ j, s (e j) = ((a * σ j : ℝ) : EReal)) (hs' : ∀ j, s' j = ((σ j : ℝ) : EReal)) :
    ∃ M : ℝ, Finset.univ.sup s' = (M : EReal) ∧ Finset.univ.sup s = ((a * M : ℝ) : EReal) := by
  obtain ⟨j₀, -, hj₀⟩ := Finset.exists_max_image (Finset.univ : Finset (Fin K)) σ ⟨0, Finset.mem_univ _⟩
  refine ⟨σ j₀, le_antisymm (Finset.sup_le fun j _ => ?_) ?_, le_antisymm (Finset.sup_le fun j _ => ?_) ?_⟩
  · rw [hs']; exact EReal.coe_le_coe_iff.mpr (hj₀ j (Finset.mem_univ _))
  · rw [← hs' j₀]; exact Finset.le_sup (Finset.mem_univ j₀)
  · obtain ⟨i, rfl⟩ := e.surjective j
    rw [hs]; exact EReal.coe_le_coe_iff.mpr (mul_le_mul_of_nonneg_left (hj₀ i (Finset.mem_univ _)) ha)
  · rw [← hs j₀]; exact Finset.le_sup (Finset.mem_univ _)

/-- A finite sum of extended reals times a nonnegative real is the sum of the products. -/
theorem sum_mul_coe {ι : Type} (t : Finset ι) (f : ι → EReal) (r : ℝ) (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih]
    rw [EReal.right_distrib_of_nonneg_of_ne_top (EReal.coe_nonneg.mpr hr) (EReal.coe_ne_top r)]

/-- A sum of reals, as extended reals. -/
theorem coe_sum {ι : Type} (t : Finset ι) (f : ι → ℝ) : ((∑ j ∈ t, f j : ℝ) : EReal) = ∑ j ∈ t, ((f j : ℝ) : EReal) := by
  classical
  induction t using Finset.induction_on with
  | empty => simp
  | insert a t ha ih => rw [Finset.sum_insert ha, Finset.sum_insert ha, EReal.coe_add, ih]

/-- Two raised to `x / log 2` is the exponential of `x`. -/
theorem exp2_scaled (x y : ℝ) : Ideal.exp2 (((Real.log 2)⁻¹ * x : ℝ) - ((Real.log 2)⁻¹ * y : ℝ) : EReal) = ((Real.exp (x - y) : ℝ) : EReal) := by
  rw [← EReal.coe_sub]
  show ((Real.rpow 2 _ : ℝ) : EReal) = _
  congr 1
  rw [Real.rpow_eq_pow, Real.rpow_def_of_pos (by norm_num)]
  congr 1
  have h : Real.log 2 ≠ 0 := (Real.log_pos (by norm_num)).ne'
  field_simp

/-- One row of attention: the values weighted by base-two exponentials of the scaled scores, summed over the keys in one
    order and divided by the sum of the weights, are the values weighted by the quotients, summed over the keys in the
    other order. -/
theorem softmax_row {K : ℕ} [NeZero K] (σ : Fin K → ℝ) (e : Fin K ≃ Fin K) (s s' v w : Fin K → EReal)
    (hs : ∀ j, s (e j) = (((Real.log 2)⁻¹ * σ j : ℝ) : EReal)) (hs' : ∀ j, s' j = ((σ j : ℝ) : EReal)) (hw : ∀ j, w (e j) = v j) :
    Ideal.div (∑ j, Ideal.exp2 (s j - Finset.univ.sup s) * w j) (∑ j, Ideal.exp2 (s j - Finset.univ.sup s) * 1)
      = ∑ j, Ideal.div (Ideal.exp (s' j - Finset.univ.sup s')) (∑ i, Ideal.exp (s' i - Finset.univ.sup s')) * v j := by
  obtain ⟨M, hM', hM⟩ := sup_scaled σ e (Real.log 2)⁻¹ (inv_nonneg.mpr (Real.log_nonneg (by norm_num))) s s' hs hs'
  have hp : ∀ j, Ideal.exp2 (s (e j) - Finset.univ.sup s) = ((Real.exp (σ j - M) : ℝ) : EReal) := fun j => by
    rw [hM, hs, exp2_scaled]
  have hp' : ∀ j, Ideal.exp (s' j - Finset.univ.sup s') = ((Real.exp (σ j - M) : ℝ) : EReal) := fun j => by
    rw [hM', hs', ← EReal.coe_sub]; rfl
  rw [← Equiv.sum_comp e (fun j => Ideal.exp2 (s j - Finset.univ.sup s) * w j),
    ← Equiv.sum_comp e (fun j => Ideal.exp2 (s j - Finset.univ.sup s) * 1)]
  simp only [hp, hp', hw, mul_one]
  rw [← coe_sum]
  have hL : 0 < ∑ j, Real.exp (σ j - M) :=
    Finset.sum_pos (fun j _ => Real.exp_pos _) ⟨0, Finset.mem_univ _⟩
  set L := ∑ j, Real.exp (σ j - M)
  have hL0 : ((L : ℝ) : EReal) ≠ 0 := by exact_mod_cast hL.ne'
  simp only [Ideal.div, if_neg hL0, ← EReal.coe_inv]
  rw [sum_mul_coe _ _ _ (inv_nonneg.mpr hL.le)]
  refine Finset.sum_congr rfl fun j _ => ?_
  rw [mul_assoc, mul_comm (v j), ← mul_assoc]

end Cert.AttnMath

end
-- ==== Proof.Attn.Rows.lean ====
module

public import proofs.«01_k».proof.Proof.Attn.Math
public import Idealize.ShloMosaic.Lib.Pointwise

/-! # One row of the attention, over the extended reals and over the reals

A head's row of 64 lanes is normalised by its root mean square, scaled by a weight and turned by the angles of its
position. With finite rows and weights every lane is a real number, given here by plain real formulas. -/

@[expose] public section

set_option maxRecDepth 16384

noncomputable section

namespace Cert.Rows

open Idealize.ShloMosaic

/-- Lane `l` of a row divided by its root mean square and multiplied by its weight. -/
def norm (x w : Fin 64 → EReal) (l : Fin 64) : EReal :=
  x l * Ideal.rsqrt (Ideal.div (∑ i, x i * x i) (Ideal.ofBits .f32 1115684864#32) + Ideal.ofBits .f32 897988541#32) * w l

/-- A quarter-turn of a head's lanes: within each group of 32, the second half negated, then the first. -/
def turn (y : Fin 64 → EReal) (l : Fin 64) : EReal :=
  if l.val % 32 < 16 then -y ⟨(l.val + 16) % 64, Nat.mod_lt _ (by omega)⟩ else y ⟨l.val - 16, by omega⟩

/-- The base frequency of lane `j` of 16. -/
def freq (j : ℕ) : EReal :=
  Ideal.pow (Ideal.ofBits .f32 1176256512#32) (Ideal.div (-FloatOps.sitofp (F := Ideal) .f32 (BitVec.ofNat 32 j)) (Ideal.ofBits .f32 1098907648#32))

/-- The column of position `n` on the grid, as the host computes a remainder that follows the divisor's sign. -/
def column (n : ℕ) : BitVec 32 :=
  Scalar.select
    (IntOp.andi
      (IntOp.cmpi CmpIPredicate.ne
        (IntOp.cmpi CmpIPredicate.slt
          (IntOp.remsi ArithUnit.host (BitVec.ofNat 32 n)
            (Scalar.select (IntOp.cmpi CmpIPredicate.eq (64#32) 0#32) (1#32) (64#32)))
          0#32)
        (IntOp.cmpi CmpIPredicate.slt
          (Scalar.select (IntOp.cmpi CmpIPredicate.eq (64#32) 0#32) (1#32) (64#32))
          0#32))
      (IntOp.cmpi CmpIPredicate.ne
        (IntOp.remsi ArithUnit.host (BitVec.ofNat 32 n)
          (Scalar.select (IntOp.cmpi CmpIPredicate.eq (64#32) 0#32) (1#32) (64#32)))
        0#32))
    (IntOp.addi
      (IntOp.remsi ArithUnit.host (BitVec.ofNat 32 n)
        (Scalar.select (IntOp.cmpi CmpIPredicate.eq (64#32) 0#32) (1#32) (64#32)))
      (Scalar.select (IntOp.cmpi CmpIPredicate.eq (64#32) 0#32) (1#32) (64#32)))
    (IntOp.remsi ArithUnit.host (BitVec.ofNat 32 n)
      (Scalar.select (IntOp.cmpi CmpIPredicate.eq (64#32) 0#32) (1#32) (64#32)))

/-- The angle of lane `j` of 16 by the row of position `n`. -/
def rowAngle (n j : ℕ) : EReal := FloatOps.sitofp (F := Ideal) .f32 (BitVec.ofNat 32 (n / 64)) * freq j

/-- The angle of lane `j` of 16 by the column of position `n`. -/
def colAngle (n j : ℕ) : EReal := FloatOps.sitofp (F := Ideal) .f32 (column n) * freq j

/-- The angle of lane `l` of 64 at position `n`: twice the row's 16, then twice the column's 16. -/
def angle (n l : ℕ) : EReal :=
  if l < 16 then rowAngle n l else if l - 16 < 16 then rowAngle n (l - 16)
  else if l - 16 - 16 < 16 then colAngle n (l - 16 - 16) else colAngle n (l - 16 - 16 - 16)

/-- The attention's weighted mean, with scores `s` and values `v`. -/
def mean {K : ℕ} (s v : Fin K → EReal) : EReal :=
  ∑ j, Ideal.div (Ideal.exp (s j - max (Ideal.ofBits .f32 0xFF800000#32) (Finset.univ.fold max (Ideal.ofBits .f32 0xFF800000#32) s)))
    (∑ i, Ideal.exp (s i - max (Ideal.ofBits .f32 0xFF800000#32) (Finset.univ.fold max (Ideal.ofBits .f32 0xFF800000#32) s))) * v j

/-- The cosine of lane `l` at row `n`: one at the 256 context rows, which have no position. -/
def cosAt (n l : ℕ) : EReal := if n < 256 then 1 else Ideal.cos (angle (n - 256) l)

/-- The sine of lane `l` at row `n`: zero at the context rows. -/
def sinAt (n l : ℕ) : EReal := if n < 256 then 0 else Ideal.sin (angle (n - 256) l)

/-! ## The constants -/

theorem c64 : Ideal.ofBits .f32 1115684864#32 = ((64 : ℝ) : EReal) := by
  simp [Ideal.ofBits, Ideal.ieee, -EReal.coe_mul]; norm_num
theorem c64inv : Ideal.ofBits .f32 1015021568#32 = ((1 / 64 : ℝ) : EReal) := by
  simp [Ideal.ofBits, Ideal.ieee, -EReal.coe_mul]; norm_num
theorem c8inv : Ideal.ofBits .f32 1040187392#32 = ((1 / 8 : ℝ) : EReal) := by
  simp [Ideal.ofBits, Ideal.ieee, -EReal.coe_mul]; norm_num
theorem c16 : Ideal.ofBits .f32 1098907648#32 = ((16 : ℝ) : EReal) := by
  simp [Ideal.ofBits, Ideal.ieee, -EReal.coe_mul]; norm_num
theorem c10000 : Ideal.ofBits .f32 1176256512#32 = ((10000 : ℝ) : EReal) := by
  simp [Ideal.ofBits, Ideal.ieee, -EReal.coe_mul]; norm_num
/-- The small number added under the root. -/
def eps : ℝ := 8796093 * (2 : ℝ) ^ (-43 : ℤ)
theorem ceps : Ideal.ofBits .f32 897988541#32 = ((eps : ℝ) : EReal) := by
  unfold eps
  simp [Ideal.ofBits, Ideal.ieee, -EReal.coe_mul]
  try norm_num
theorem eps_pos : 0 < eps := by unfold eps; positivity
theorem cbot : Ideal.ofBits .f32 0xFF800000#32 = ⊥ := by
  simp [Ideal.ofBits, Ideal.ieee]

theorem ctop : Ideal.ofBits .f32 0x7F800000#32 = ⊤ := by
  simp [Ideal.ofBits, Ideal.ieee]

/-! ## Angles are real -/

theorem freq_real (j : ℕ) : ∃ r : ℝ, freq j = (r : EReal) := by
  unfold freq
  rw [c10000, c16]
  show ∃ r : ℝ, Ideal.pow ((10000 : ℝ) : EReal) (Ideal.div (-(((BitVec.ofNat 32 j).toInt : ℝ) : EReal)) ((16 : ℝ) : EReal)) = (r : EReal)
  rw [Ideal.div_coe (by norm_num : (16 : ℝ) ≠ 0), ← EReal.coe_neg, ← EReal.coe_mul]
  exact ⟨_, rfl⟩

theorem rowAngle_real (n j : ℕ) : ∃ r : ℝ, rowAngle n j = (r : EReal) := by
  obtain ⟨r, h⟩ := freq_real j
  unfold rowAngle
  rw [h]
  exact ⟨((BitVec.ofNat 32 (n / 64)).toInt : ℝ) * r, (EReal.coe_mul _ _).symm⟩

theorem colAngle_real (n j : ℕ) : ∃ r : ℝ, colAngle n j = (r : EReal) := by
  obtain ⟨r, h⟩ := freq_real j
  unfold colAngle
  rw [h]
  exact ⟨((column n).toInt : ℝ) * r, (EReal.coe_mul _ _).symm⟩

theorem angle_real (n l : ℕ) : ∃ r : ℝ, angle n l = (r : EReal) := by
  unfold angle
  split_ifs
  · exact rowAngle_real _ _
  · exact rowAngle_real _ _
  · exact colAngle_real _ _
  · exact colAngle_real _ _

/-- The real cosine of lane `l` at row `n`. -/
def cosR (n l : ℕ) : ℝ := (cosAt n l).toReal
/-- The real sine of lane `l` at row `n`. -/
def sinR (n l : ℕ) : ℝ := (sinAt n l).toReal

theorem cosAt_eq (n l : ℕ) : cosAt n l = ((cosR n l : ℝ) : EReal) := by
  unfold cosR cosAt
  obtain ⟨r, h⟩ := angle_real (n - 256) l
  rw [h]
  split_ifs
  · rfl
  · rfl

theorem sinAt_eq (n l : ℕ) : sinAt n l = ((sinR n l : ℝ) : EReal) := by
  unfold sinR sinAt
  obtain ⟨r, h⟩ := angle_real (n - 256) l
  rw [h]
  split_ifs
  · rfl
  · rfl

theorem cosR_ctx {n : ℕ} (l : ℕ) (h : n < 256) : cosR n l = 1 := by
  unfold cosR cosAt; rw [if_pos h]; rfl

theorem sinR_ctx {n : ℕ} (l : ℕ) (h : n < 256) : sinR n l = 0 := by
  unfold sinR sinAt; rw [if_pos h]; rfl

/-! ## Rows of reals -/

/-- The reciprocal root mean square of a real row. -/
def rrms (x : Fin 64 → ℝ) : ℝ := (Real.sqrt ((∑ i, x i * x i) * (1 / 64) + eps))⁻¹

/-- `norm` of a real row. -/
def normR (x w : Fin 64 → ℝ) (l : Fin 64) : ℝ := x l * rrms x * w l

/-- `turn` of a real row. -/
def turnR (y : Fin 64 → ℝ) (l : Fin 64) : ℝ :=
  if l.val % 32 < 16 then -y ⟨(l.val + 16) % 64, Nat.mod_lt _ (by omega)⟩ else y ⟨l.val - 16, by omega⟩

/-- A prepared lane of a real row at row `n` of the sequence. -/
def laneR (x w : Fin 64 → ℝ) (n : ℕ) (l : Fin 64) : ℝ :=
  normR x w l * cosR n l + turnR (normR x w) l * sinR n l

theorem sq_sum_nonneg (x : Fin 64 → ℝ) : 0 < (∑ i, x i * x i) * (1 / 64) + eps := by
  have h : 0 ≤ ∑ i, x i * x i := Finset.sum_nonneg fun i _ => mul_self_nonneg _
  have := eps_pos
  positivity

theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reference's normalisation of a real row is real. -/
theorem norm_coe (x w : Fin 64 → ℝ) (l : Fin 64) : norm (fun i => (x i : EReal)) (fun i => (w i : EReal)) l = ((normR x w l : ℝ) : EReal) := by
  unfold norm normR rrms
  simp only [← EReal.coe_mul]
  rw [← Cert.AttnMath.coe_sum, c64, ceps, Ideal.div_coe (by norm_num : (64 : ℝ) ≠ 0), ← EReal.coe_mul, ← EReal.coe_add,
    rsqrt_pos (sq_sum_nonneg x), ← EReal.coe_mul, ← EReal.coe_mul]

theorem turn_coe (y : Fin 64 → ℝ) (l : Fin 64) : turn (fun i => (y i : EReal)) l = ((turnR y l : ℝ) : EReal) := by
  unfold turn turnR
  split_ifs
  · rw [EReal.coe_neg]
  · rfl

/-- A prepared lane is linear in the weight. -/
theorem laneR_scale (x w : Fin 64 → ℝ) (k : ℝ) (n : ℕ) (l : Fin 64) : laneR x (fun i => w i * k) n l = k * laneR x w n l := by
  unfold laneR turnR normR
  split_ifs <;> ring

/-- A context row's lanes are not turned. -/
theorem laneR_ctx (x w : Fin 64 → ℝ) {n : ℕ} (h : n < 256) (l : Fin 64) : laneR x w n l = normR x w l := by
  unfold laneR; rw [cosR_ctx l h, sinR_ctx l h]; ring

/-- A sum over 128 lanes whose upper 64 vanish. -/
theorem sum128 (f : Fin 128 → EReal) (h : ∀ i : Fin 128, 64 ≤ i.val → f i = 0) :
    ∑ i, f i = ∑ i : Fin 64, f ⟨i.val, by omega⟩ := by
  refine (Fin.sum_univ_add (a := 64) (b := 64) f).trans ?_
  rw [Finset.sum_eq_zero (s := (Finset.univ : Finset (Fin 64))) (f := fun i => f (Fin.natAdd 64 i)) (fun i _ => h _ (by simp)), add_zero]
  rfl

end Cert.Rows
-- ==== Proof.Attn.Finite.lean ====
module

public import proofs.«01_k».proof.Defs
public import proofs.«01_k».proof.Proof.Attn.Rows
public import Idealize.ShloMosaic.Lib.ReduceAll

/-! # What the precondition says: the queries, the keys and their weights are real numbers -/

@[expose] public section

set_option maxRecDepth 16384

noncomputable section

namespace Cert.Finite

open Idealize.ShloMosaic Cert.Pre_finite

/-- The side conditions of the precondition's operations. -/
theorem facts : Cert.Pre_finite.Facts where
  bcast_S_S2x8448x512 := by decide
  reducesTo_S2x8448x512_S_d0_1_2 := by decide
  h_S_ := by decide
  bcast_S_S2x8448x128 := by decide
  reducesTo_S2x8448x128_S_d0_1_2 := by decide
  bcast_S_S64 := by decide
  reducesTo_S64_S_d0 := by decide

theorem andi_left {a b : BitVec 1} (h : IntOp.andi a b = 1#1) : a = 1#1 := by
  revert h; revert a b; decide
theorem andi_right {a b : BitVec 1} (h : IntOp.andi a b = 1#1) : b = 1#1 := by
  revert h; revert a b; decide

/-- A number strictly between the infinities is real. -/
theorem real_of_between (x : EReal) (h : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : x = ((x.toReal : ℝ) : EReal) := by
  have hb : Ideal.ofBits .f32 0xFF800000#32 = ⊥ := Cert.Rows.cbot
  have ht : Ideal.ofBits .f32 0x7F800000#32 = ⊤ := Cert.Rows.ctop
  have h1 := andi_left h
  have h2 := andi_right h
  rw [ht] at h1
  rw [hb] at h2
  refine (EReal.coe_toReal ?_ ?_).symm
  · rintro rfl
    exact absurd h1 (by simp [FloatOps.cmpf, Ideal.cmp])
  · rintro rfl
    exact absurd h2 (by simp [FloatOps.cmpf, Ideal.cmp])

variable [Cert.Pre_finite.Facts]
variable (A0 : FVec Ideal S2x8448x512 .f32) (A1 A2 : FVec Ideal S2x8448x128 .f32) (A3 A4 : FVec Ideal S64 .f32)

/-- The precondition's four parts. -/
theorem parts (h : Cert.Pre_finite.fn (F := Ideal) A0 A1 A2 A3 A4 = fun _ => 1#1) :
    (∀ i, A0 i = (((A0 i : EReal).toReal : ℝ) : EReal)) ∧ (∀ i, A1 i = (((A1 i : EReal).toReal : ℝ) : EReal))
      ∧ (∀ i, A3 i = (((A3 i : EReal).toReal : ℝ) : EReal)) ∧ (∀ i, A4 i = (((A4 i : EReal).toReal : ℝ) : EReal)) := by
  have h0 := congrFun h ix0
  dsimp only [Cert.Pre_finite.fn, Cert.Pre_finite.fn_part1] at h0
  have hs : Subsingleton S_.Idx := ⟨fun a b => funext fun k => k.elim0⟩
  have e4 := andi_right h0
  have e3 := andi_right (andi_left h0)
  have e1 := andi_right (andi_left (andi_left h0))
  have e0 := andi_left (andi_left (andi_left h0))
  exact ⟨fun i => real_of_between _ (Host.reduce_andi_all _ _ _ _ _ e0 i), fun i => real_of_between _ (Host.reduce_andi_all _ _ _ _ _ e1 i),
    fun i => real_of_between _ (Host.reduce_andi_all _ _ _ _ _ e3 i), fun i => real_of_between _ (Host.reduce_andi_all _ _ _ _ _ e4 i)⟩

end Cert.Finite
-- ==== Proof.Attn.Target.lean ====
module

public import proofs.«01_k».proof.Proof.Attn.Rows

/-! # The attention both programs compute, over real queries and keys -/

@[expose] public section

set_option maxRecDepth 16384

noncomputable section

namespace Cert.Rows

open Idealize.ShloMosaic

/-- The keys in the reference's order: the latent rows, then the context rows. -/
def latKey : Fin 8448 ≃ Fin 8448 where
  toFun j := if h : j.val < 8192 then ⟨j.val + 256, by omega⟩ else ⟨j.val - 8192, by omega⟩
  invFun j := if h : j.val < 256 then ⟨j.val + 8192, by omega⟩ else ⟨j.val - 256, by omega⟩
  left_inv j := by
    apply Fin.ext
    by_cases h : j.val < 8192
    · simp only [dif_pos h, show ¬ (j.val + 256 < 256) by omega, dif_neg, not_false_eq_true]; omega
    · simp only [dif_neg h, show j.val - 8192 < 256 by omega, dif_pos]; omega
  right_inv j := by
    apply Fin.ext
    by_cases h : j.val < 256
    · simp only [dif_pos h, show ¬ (j.val + 8192 < 8192) by omega, dif_neg, not_false_eq_true]; omega
    · simp only [dif_neg h, show j.val - 256 < 8192 by omega, dif_pos]; omega

/-- The context rows among all rows. -/
def ctxKey (j : Fin 256) : Fin 8448 := ⟨j.val, by omega⟩

variable (xq : Fin 2 → Fin 8448 → Fin 512 → ℝ) (xk : Fin 2 → Fin 8448 → Fin 128 → ℝ) (wq wk : Fin 64 → ℝ)

/-- Head `h` of a row of the queries. -/
def qHead (b : Fin 2) (n : Fin 8448) (h : Fin 8) (l : Fin 64) : ℝ := xq b n ⟨h.val * 64 + l.val, by omega⟩

/-- Head `g` of a row of the keys. -/
def kHead (b : Fin 2) (n : Fin 8448) (g : Fin 2) (l : Fin 64) : ℝ := xk b n ⟨g.val * 64 + l.val, by omega⟩

/-- The key head that query head `h` reads. -/
def group (h : Fin 8) : Fin 2 := ⟨h.val / 4, by omega⟩

/-- The score of key row `r` for head `h` of query row `n`. -/
def sigma (b : Fin 2) (n : Fin 8448) (h : Fin 8) (r : Fin 8448) : ℝ :=
  ∑ i : Fin 64, laneR (qHead xq b n h) (fun l => wq l * (1 / 8)) n.val i * laneR (kHead xk b r (group h)) wk r.val i

/-- Lane `l` of head `h` of row `n` of the attention: context rows attend to the context rows, latent rows to all. -/
def target (v : Fin 2 → Fin 8448 → Fin 128 → EReal) (b : Fin 2) (n : Fin 8448) (h : Fin 8) (l : Fin 64) : EReal :=
  if n.val < 256 then mean (fun j : Fin 256 => ((sigma xq xk wq wk b n h (ctxKey j) : ℝ) : EReal)) (fun j => v b (ctxKey j) ⟨(group h).val * 64 + l.val, by omega⟩)
  else mean (fun j : Fin 8448 => ((sigma xq xk wq wk b n h (latKey j) : ℝ) : EReal)) (fun j => v b (latKey j) ⟨(group h).val * 64 + l.val, by omega⟩)

/-- The fold of the larger from minus infinity is the supremum. -/
theorem fold_max {K : ℕ} (s : Fin K → EReal) : Finset.univ.fold max (Ideal.ofBits .f32 0xFF800000#32) s = Finset.univ.sup s := by
  rw [cbot]; rfl

/-- The kernel's quotient of sums of powers of two is the reference's weighted mean. -/
theorem div_eq_mean {K : ℕ} [NeZero K] (σ : Fin K → ℝ) (e : Fin K ≃ Fin K) (s v w : Fin K → EReal)
    (hs : ∀ j, s (e j) = (((Real.log 2)⁻¹ * σ j : ℝ) : EReal)) (hw : ∀ j, w (e j) = v j) :
    Ideal.div (∑ j, Ideal.exp2 (s j - Finset.univ.fold max (Ideal.ofBits .f32 0xFF800000#32) s) * w j)
      (∑ j, Ideal.exp2 (s j - Finset.univ.fold max (Ideal.ofBits .f32 0xFF800000#32) s) * 1) = mean (fun j => ((σ j : ℝ) : EReal)) v := by
  unfold mean
  simp only [fold_max]
  rw [Cert.AttnMath.softmax_row σ e s (fun j => ((σ j : ℝ) : EReal)) v w hs (fun _ => rfl) hw, cbot]
  simp only [max_eq_right bot_le]

end Cert.Rows
-- ==== Proof.Attn.Prep.lean ====
module

public import proofs.«01_k».proof.Proof.Gen.KernelIdeal.Frame
public import Idealize.ShloMosaic.Lib.Pointwise
public import Idealize.ShloMosaic.Lib.Pipeline.ValueKit

/-! # What the query/key preparation stores, at an index

Each head's row of 128 lanes is normalised by its root mean square, scaled by the weight, rotated by the
position tables and cut to its first 64 lanes. All eight query heads and both key heads are the one function
`prepLane` of their row. -/

@[expose] public section

set_option maxRecDepth 16384

noncomputable section

namespace Cert.KernelIdeal.Prep

open Cert.KernelIdeal Cert.KernelIdeal.Gen Idealize.ShloMosaic

/-- Lane `l` of a row after root-mean-square normalisation and its weight. -/
def normLane (x w : Fin 128 → EReal) (l : Fin 128) : EReal :=
  x l * Ideal.rsqrt ((∑ i, x i * x i) * Ideal.ofBits .f32 1015021568#32 + Ideal.ofBits .f32 897988541#32) * w l

/-- The bit that says a lane belongs to the first 16 of its group of 32. -/
def firstHalf (l : Fin 128) : BitVec 1 := k0_pay4 (ix2 (0 : Fin 256) l)

/-- The bit that says a lane is one of the head's 64. -/
def inHead (l : Fin 128) : BitVec 1 := IntOp.cmpi .slt (BitVec.ofNat 32 l) 64#32

/-- Lane `l` of a prepared row: normalised, rotated with cosine `c` and sine `s`, cut to the head's 64 lanes. -/
def prepLane (x w : Fin 128 → EReal) (c s : EReal) (l : Fin 128) : EReal :=
  Scalar.select (inHead l)
    (normLane x w l * c
      + Scalar.select (firstHalf l) (0 - normLane x w ⟨(l + 128 - 112) % 128, Nat.mod_lt _ (by omega)⟩)
          (normLane x w ⟨(l + 128 - 16) % 128, Nat.mod_lt _ (by omega)⟩) * s) 0

/-- The factor the query weight is multiplied by: the reciprocal square root of the head size, in units of the
natural logarithm of two. -/
def qscale : EReal := Named.named (F := Ideal) (φ := .f32) κ "qscale" 0x3E38AA3B#32

/-- The value of store 11 of the preparation is a prepared row. -/
theorem pay11_at (x : Vec Ideal S1x256x128 .f32) (w : Vec Ideal S1x128 .f32) (c s : Vec Ideal S256x128 .f32) (r : Fin 256) (l : Fin 128) :
    k0_pay11 k0_pay3 k0_pay4 (k0_pay5 c) (k0_pay6 s) (k0_pay7 w) (k0_pay8 x) (k0_pay9 x) k0_pay10 (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay8, k0_pay9, k0_pay10, k0_pay11]

/-- The value of store 13 of the preparation is a prepared row. -/
theorem pay13_at (x : Vec Ideal S1x256x128 .f32) (w : Vec Ideal S1x128 .f32) (c s : Vec Ideal S256x128 .f32) (r : Fin 256) (l : Fin 128) :
    k0_pay13 k0_pay3 (k0_pay12 k0_pay4 (k0_pay5 c) (k0_pay6 s) (k0_pay7 w) x) (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay12, k0_pay13]

/-- The value of store 14 of the preparation is a prepared row. -/
theorem pay14_at (x : Vec Ideal S1x256x128 .f32) (w : Vec Ideal S1x128 .f32) (c s : Vec Ideal S256x128 .f32) (r : Fin 256) (l : Fin 128) :
    k0_pay14 k0_pay3 k0_pay4 (k0_pay5 c) (k0_pay6 s) (k0_pay7 w) x (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay14]

/-- The value of store 16 of the preparation is a prepared row. -/
theorem pay16_at (x : Vec Ideal S1x256x128 .f32) (w : Vec Ideal S1x128 .f32) (c s : Vec Ideal S256x128 .f32) (r : Fin 256) (l : Fin 128) :
    k0_pay16 k0_pay3 k0_pay4 (k0_pay5 c) (k0_pay6 s) (k0_pay7 w) (k0_pay15 x) (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay15, k0_pay16]

/-- The value of store 19 of the preparation is a prepared row. -/
theorem pay19_at (x : Vec Ideal S1x256x128 .f32) (w : Vec Ideal S1x128 .f32) (c s : Vec Ideal S256x128 .f32) (r : Fin 256) (l : Fin 128) :
    k0_pay19 k0_pay3 k0_pay4 (k0_pay5 c) (k0_pay6 s) (k0_pay17 (k0_pay7 w) x) (k0_pay18 (k0_pay7 w) x) (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay17, k0_pay18, k0_pay19]

/-- The value of store 21 of the preparation is a prepared row. -/
theorem pay21_at (x : Vec Ideal S1x256x128 .f32) (w : Vec Ideal S1x128 .f32) (c s : Vec Ideal S256x128 .f32) (r : Fin 256) (l : Fin 128) :
    k0_pay21 (k0_pay20 k0_pay3 k0_pay4 (k0_pay5 c) (k0_pay6 s) (k0_pay7 w) x) (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay20, k0_pay21]

/-- The value of store 22 of the preparation is a prepared row. -/
theorem pay22_at (x : Vec Ideal S1x256x128 .f32) (w : Vec Ideal S1x128 .f32) (c s : Vec Ideal S256x128 .f32) (r : Fin 256) (l : Fin 128) :
    k0_pay22 k0_pay3 k0_pay4 (k0_pay5 c) (k0_pay6 s) (k0_pay7 w) x (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay22]

/-- The value of store 25 of the preparation is a prepared row. -/
theorem pay25_at (x : Vec Ideal S1x256x128 .f32) (w : Vec Ideal S1x128 .f32) (c s : Vec Ideal S256x128 .f32) (r : Fin 256) (l : Fin 128) :
    k0_pay25 k0_pay3 k0_pay4 (k0_pay5 c) (k0_pay6 s) (k0_pay7 w) (k0_pay23 x) (k0_pay24 x) (Scalar.ofBits .f32 0x358637BD#32) (ix4 0 0 r l)
      = prepLane (fun i => x (ix3 0 r i)) (fun i => w (ix2 0 i) * qscale) (c (ix2 r l)) (s (ix2 r l)) l := by
  unfold prepLane normLane firstHalf inHead qscale
  pointwise [k0_pay3, k0_pay4, k0_pay5, k0_pay6, k0_pay7, k0_pay23, k0_pay24, k0_pay25]

/-- The value of store 28 of the preparation is a prepared row. -/
theorem pay28_at (x : Vec Ideal S1x256x128 .f32) (w : Vec Ideal S1x128 .f32) (c s : Vec Ideal S256x128 .f32) (r : Fin 256) (l : Fin 128) :
    k0_pay28 k0_pay3 k0_pay4 (k0_pay5 c) (k0_pay6 s) (k0_pay26 x w) (k0_pay27 x w) 16#32 (ix4 0 0 r l)
      = prepLane (fun i => x (ix3 0 r i)) (fun i => w (ix2 0 i)) (c (ix2 r l)) (s (ix2 r l)) l := by
  unfold prepLane normLane firstHalf inHead
  pointwise [k0_pay3, k0_pay4, k0_pay5, k0_pay6, k0_pay26, k0_pay27, k0_pay28]

/-- The value of store 1 of the preparation is a prepared row. -/
theorem pay1_at (x : Vec Ideal S1x256x128 .f32) (w : Vec Ideal S1x128 .f32) (c s : Vec Ideal S256x128 .f32) (r : Fin 256) (l : Fin 128) :
    k0_pay1 k0_pay3 k0_pay4 (k0_pay5 c) (k0_pay6 s) (k0_pay30 x) (k0_pay31 w) (ix4 0 0 r l)
      = prepLane (fun i => x (ix3 0 r i)) (fun i => w (ix2 0 i)) (c (ix2 r l)) (s (ix2 r l)) l := by
  unfold prepLane normLane firstHalf inHead
  pointwise [k0_pay3, k0_pay4, k0_pay5, k0_pay6, k0_pay30, k0_pay31, k0_pay1]

/-- Row `r` of head `h` (128 lanes) of a block of rows that holds its heads side by side. -/
def headRow {n : ℕ} (x : Vec Ideal ⟨3, ![1, 256, n]⟩ .f32) (h : ℕ) (hn : 0 < n) (r : Fin 256) (l : Fin 128) : EReal :=
  x (ix3 0 r ⟨(h * 128 + l) % n, Nat.mod_lt _ hn⟩)

/-- The value block's lanes: a row of values with a one in lane 64. -/
def valLane (x : Fin 128 → EReal) (l : Fin 128) : EReal :=
  Scalar.select (IntOp.cmpi .eq (BitVec.ofNat 32 l) 64#32) (Ideal.ofBits .f32 0x3F800000#32) (x l)

/-- The whole query block at an index. -/
theorem out0_7_at (x0 : Vec Ideal S1x256x1024 .f32) (x1 x2 : Vec Ideal S1x256x256 .f32)
    (x3 x4 : Vec Ideal S256x128 .f32) (x5 x6 : Vec Ideal S1x128 .f32) (h : Fin 8) (r : Fin 256) (l : Fin 128) :
    out0_7 x0 x1 x2 x3 x4 x5 x6 (ix4 0 h r l)
      = prepLane (headRow x0 h (by decide) r) (fun i => x5 (ix2 0 i) * qscale) (x3 (ix2 r l)) (x4 (ix2 r l)) l := by
  unfold_out out0_7
  canon_tiles z hz
  all_goals
    idx_vars z
    obtain rfl : r = z2 := Fin.ext hz2
    obtain rfl : l = z3 := Fin.ext hz3
    obtain rfl : z0 = 0 := Subsingleton.elim _ _
    obtain rfl : z1 = 0 := Subsingleton.elim _ _
    simp only [Fin.val_zero, Nat.add_zero] at hz1
    first | rw [pay11_at] | rw [pay13_at] | rw [pay14_at] | rw [pay16_at] | rw [pay19_at] | rw [pay21_at] | rw [pay22_at] | rw [pay25_at]
    rw [hz1]
    congr 1
    all_goals first
      | (funext i; simp only [headRow]; pointwise; simp (disch := omega) only [Nat.mod_eq_of_lt]; done)
      | (funext i; pointwise; done)
      | (pointwise; done)

/-- The whole key block at an index. -/
theorem out0_8_at (x0 : Vec Ideal S1x256x1024 .f32) (x1 x2 : Vec Ideal S1x256x256 .f32)
    (x3 x4 : Vec Ideal S256x128 .f32) (x5 x6 : Vec Ideal S1x128 .f32) (h : Fin 2) (r : Fin 256) (l : Fin 128) :
    out0_8 x0 x1 x2 x3 x4 x5 x6 (ix4 0 h r l)
      = prepLane (headRow x1 h (by decide) r) (fun i => x6 (ix2 0 i)) (x3 (ix2 r l)) (x4 (ix2 r l)) l := by
  unfold_out out0_8
  canon_tiles z hz
  all_goals
    idx_vars z
    obtain rfl : r = z2 := Fin.ext hz2
    obtain rfl : l = z3 := Fin.ext hz3
    obtain rfl : z0 = 0 := Subsingleton.elim _ _
    obtain rfl : z1 = 0 := Subsingleton.elim _ _
    simp only [Fin.val_zero, Nat.add_zero] at hz1
    first | rw [pay28_at] | rw [pay1_at]
    rw [hz1]
    congr 1
    all_goals first
      | (funext i; simp only [headRow]; pointwise; simp (disch := omega) only [Nat.mod_eq_of_lt]; done)
      | (funext i; pointwise; done)
      | (pointwise; done)

/-- The whole value block at an index. -/
theorem out0_9_at (x0 : Vec Ideal S1x256x1024 .f32) (x1 x2 : Vec Ideal S1x256x256 .f32)
    (x3 x4 : Vec Ideal S256x128 .f32) (x5 x6 : Vec Ideal S1x128 .f32) (h : Fin 2) (r : Fin 256) (l : Fin 128) :
    out0_9 x0 x1 x2 x3 x4 x5 x6 (ix4 0 h r l) = valLane (headRow x2 h (by decide) r) l := by
  unfold_out out0_9
  canon_tiles z hz
  all_goals
    idx_vars z
    obtain rfl : r = z2 := Fin.ext hz2
    obtain rfl : l = z3 := Fin.ext hz3
    obtain rfl : z0 = 0 := Subsingleton.elim _ _
    obtain rfl : z1 = 0 := Subsingleton.elim _ _
    simp only [Fin.val_zero, Nat.add_zero] at hz1
    unfold valLane headRow
    rw [hz1]
    pointwise [k0_pay2, k0_pay29, k0_pay32]
    simp (disch := omega) only [Nat.mod_eq_of_lt]

end Cert.KernelIdeal.Prep
-- ==== Proof.Attn.PrepReal.lean ====
module

public import proofs.«01_k».proof.Proof.Attn.Rows
public import proofs.«01_k».proof.Proof.Attn.Prep

/-! # A prepared row of the kernel, with real entries -/

@[expose] public section

set_option maxRecDepth 16384

noncomputable section

namespace Cert.KernelIdeal.Prep

open Cert.KernelIdeal Cert.KernelIdeal.Gen Idealize.ShloMosaic Cert.Rows

/-- A row of 64 reals, padded with zeros to 128 lanes. -/
def padRow (x : Fin 64 → ℝ) (l : Fin 128) : EReal := if h : l.val < 64 then ((x ⟨l.val, h⟩ : ℝ) : EReal) else 0

theorem select_one {α : Type} (a b : α) : Scalar.select 1#1 a b = a := rfl
theorem select_zero {α : Type} (a b : α) : Scalar.select 0#1 a b = b := rfl

theorem qscale_eq : qscale = (((1 / 8) * (Real.log 2)⁻¹ : ℝ) : EReal) := by
  unfold qscale
  exact IdealRules.named_const.ideal_named_scalar _ _ _ _ rfl

theorem firstHalf_eq : ∀ l : Fin 128, firstHalf l = if l.val % 32 < 16 then 1#1 else 0#1 := by
  intro l
  unfold firstHalf
  pointwise [k0_pay4]
  revert l
  decide +kernel

theorem inHead_eq : ∀ l : Fin 128, inHead l = if l.val < 64 then 1#1 else 0#1 := by
  unfold inHead
  decide +kernel

theorem padRow_sq (x : Fin 64 → ℝ) : ∑ i, padRow x i * padRow x i = ((∑ i, x i * x i : ℝ) : EReal) := by
  rw [sum128 _ (fun i hi => by unfold padRow; rw [dif_neg (by omega)]; exact mul_zero _), Cert.AttnMath.coe_sum]
  refine Finset.sum_congr rfl fun i _ => ?_
  unfold padRow
  rw [dif_pos i.isLt, EReal.coe_mul]

/-- The kernel's normalisation of a padded real row. -/
theorem normLane_coe (x w : Fin 64 → ℝ) (l : Fin 128) : normLane (padRow x) (padRow w) l = padRow (normR x w) l := by
  unfold normLane
  rw [padRow_sq, c64inv, ceps, ← EReal.coe_mul, ← EReal.coe_add, rsqrt_pos (sq_sum_nonneg x)]
  unfold padRow
  by_cases h : l.val < 64
  · rw [dif_pos h, dif_pos h, dif_pos h, ← EReal.coe_mul, ← EReal.coe_mul]
    rfl
  · rw [dif_neg h, dif_neg h, dif_neg h, mul_zero]

/-- A prepared lane of a padded real row. -/
theorem prepLane_coe (x w : Fin 64 → ℝ) (n : ℕ) (c s : EReal) (l : Fin 128) (hc : l.val < 64 → c = cosAt n l) (hs : l.val < 64 → s = sinAt n l) :
    prepLane (padRow x) (padRow w) c s l = padRow (laneR x w n) l := by
  unfold prepLane
  rw [inHead_eq, firstHalf_eq]
  by_cases h : l.val < 64
  · rw [hc h, hs h, cosAt_eq, sinAt_eq, if_pos h]
    simp only [normLane_coe]
    unfold padRow laneR turnR
    simp only [dif_pos h]
    by_cases h2 : l.val % 32 < 16
    · simp only [if_pos h2, select_one]
      rw [dif_pos (by show (l.val + 128 - 112) % 128 < 64; omega)]
      rw [zero_sub, ← EReal.coe_neg, ← EReal.coe_mul, ← EReal.coe_mul, ← EReal.coe_add]
      have e : (l.val + 128 - 112) % 128 = (l.val + 16) % 64 := by omega
      simp only [e]
    · simp only [if_neg h2, select_one, select_zero]
      rw [dif_pos (by show (l.val + 128 - 16) % 128 < 64; omega)]
      rw [← EReal.coe_mul, ← EReal.coe_mul, ← EReal.coe_add]
      have e : (l.val + 128 - 16) % 128 = l.val - 16 := by omega
      simp only [e]
  · rw [if_neg h]
    unfold padRow
    rw [dif_neg h, select_zero]

end Cert.KernelIdeal.Prep
-- ==== Proof.Attn.Arrays.lean ====
module

public import proofs.«01_k».proof.Proof.Attn.Prep

/-! # The arrays the two pipelined calls leave

The first call leaves the prepared queries, keys and values; the second the attention of each query row. Both
are stated over the arrays their windows read. -/

@[expose] public section

set_option maxRecDepth 16384

noncomputable section

namespace Cert.KernelIdeal.Arrays

open Cert.KernelIdeal Cert.KernelIdeal.Gen Idealize.ShloMosaic Idealize.ShloMosaic.TcCoe
open Idealize.ShloMosaic.Pipeline (Dat Cfg Window)
open Cert.KernelIdeal.Prep

variable (V : (c : Dev nD) → (b : Ref sig .tc) → Buf (Elt Ideal) ((c : Thread nD τ).loc b))

/-- The index maps of the first call, over its grid of 2 batches by 33 row blocks. -/
theorem idx0 : ∀ t : Fin cfg0.N, win0_0.index t = ![t.val / 33, t.val % 33, 0] ∧ win0_1.index t = ![t.val / 33, t.val % 33, 0]
    ∧ win0_2.index t = ![t.val / 33, t.val % 33, 0] ∧ win0_3.index t = ![t.val % 33, 0] ∧ win0_4.index t = ![t.val % 33, 0]
    ∧ win0_5.index t = ![0, 0] ∧ win0_6.index t = ![0, 0] ∧ win0_7.index t = ![t.val / 33, 0, t.val % 33, 0]
    ∧ win0_8.index t = ![t.val / 33, 0, t.val % 33, 0] ∧ win0_9.index t = ![t.val / 33, 0, t.val % 33, 0] ∧ t.val < 66 :=
  (by decide +kernel : ∀ t : Fin grid0.N, _)

/-- The 128 lanes of head `h` of row `n` of an array that holds its heads side by side. -/
def rowOf {N : ℕ} (A : Vec Ideal ⟨3, ![2, 8448, N]⟩ .f32) (hN : 0 < N) (b : Fin 2) (h : ℕ) (n : Fin 8448) (l : Fin 128) : EReal :=
  A (ix3 b n ⟨(h * 128 + l) % N, Nat.mod_lt _ hN⟩)

/-- The prepared rows of an array of heads. -/
def prepArr {N H : ℕ} (A : Vec Ideal ⟨3, ![2, 8448, N]⟩ .f32) (hN : 0 < N) (w : Fin 128 → EReal) (C S : Vec Ideal S8448x128 .f32)
    (b : Fin 2) (h : Fin H) (n : Fin 8448) (l : Fin 128) : EReal :=
  prepLane (rowOf A hN b h n) w (C (ix2 n l)) (S (ix2 n l)) l

/-- The prepared query array. -/
def qArr (A : Vec Ideal S2x8448x1024 .f32) (w : Vec Ideal S1x128 .f32) (C S : Vec Ideal S8448x128 .f32) : FVec Ideal S2x8x8448x128 .bf16 :=
  fun j => prepArr A (by decide) (fun i => w (ix2 0 i) * qscale) C S (j 0) (j 1 : Fin 8) (j 2) (j 3)

/-- The prepared key array. -/
def kArr (A : Vec Ideal S2x8448x256 .f32) (w : Vec Ideal S1x128 .f32) (C S : Vec Ideal S8448x128 .f32) : FVec Ideal S2x2x8448x128 .bf16 :=
  fun j => prepArr A (by decide) (fun i => w (ix2 0 i)) C S (j 0) (j 1 : Fin 2) (j 2) (j 3)

/-- The prepared value array. -/
def vArr (A : Vec Ideal S2x8448x256 .f32) : FVec Ideal S2x2x8448x128 .bf16 :=
  fun j => valLane (rowOf A (by decide) (j 0) (j 1 : Fin 2).val (j 2)) (j 3)

/-- The batch of point `t`. -/
def bOf (t : Fin cfg0.N) : Fin 2 := ⟨t.val / 33, by have := (idx0 t).2.2.2.2.2.2.2.2.2.2; omega⟩
/-- The row of the arrays at row `r` of point `t`'s blocks. -/
def nOf (t : Fin cfg0.N) (r : Fin 256) : Fin 8448 := ⟨t.val % 33 * 256 + r.val, by omega⟩
theorem bOf_val (t : Fin cfg0.N) : (bOf t).val = t.val / 33 := rfl
theorem nOf_val (t : Fin cfg0.N) (r : Fin 256) : (nOf t r).val = t.val % 33 * 256 + r.val := rfl

/-- Row `r` of window 0's block at a point, in its array. -/
theorem blk0_0 (c : Dev nD) (t : Fin cfg0.N) (r : Fin 256) (l : Fin 1024) : (iblk0 V c 0 t : Vec Ideal S1x256x1024 .f32) (ix3 0 r l)
    = (V c main_v2 : Vec Ideal S2x8448x1024 .f32) (ix3 (bOf t) (nOf t r) l) := by
  blk_ext [iblk0, idx0 t, bOf_val, nOf_val]

/-- Row `r` of window 1's block at a point, in its array. -/
theorem blk0_1 (c : Dev nD) (t : Fin cfg0.N) (r : Fin 256) (l : Fin 256) : (iblk0 V c 1 t : Vec Ideal S1x256x256 .f32) (ix3 0 r l)
    = (V c main_v5 : Vec Ideal S2x8448x256 .f32) (ix3 (bOf t) (nOf t r) l) := by
  blk_ext [iblk0, idx0 t, bOf_val, nOf_val]

/-- Row `r` of window 2's block at a point, in its array. -/
theorem blk0_2 (c : Dev nD) (t : Fin cfg0.N) (r : Fin 256) (l : Fin 256) : (iblk0 V c 2 t : Vec Ideal S1x256x256 .f32) (ix3 0 r l)
    = (V c main_v8 : Vec Ideal S2x8448x256 .f32) (ix3 (bOf t) (nOf t r) l) := by
  blk_ext [iblk0, idx0 t, bOf_val, nOf_val]

/-- Row `r` of window 3's block at a point, in its array. -/
theorem blk0_3 (c : Dev nD) (t : Fin cfg0.N) (r : Fin 256) (l : Fin 128) : (iblk0 V c 3 t : Vec Ideal S256x128 .f32) (ix2 r l)
    = (V c main_v34 : Vec Ideal S8448x128 .f32) (ix2 (nOf t r) l) := by
  blk_ext [iblk0, idx0 t, nOf_val]

/-- Row `r` of window 4's block at a point, in its array. -/
theorem blk0_4 (c : Dev nD) (t : Fin cfg0.N) (r : Fin 256) (l : Fin 128) : (iblk0 V c 4 t : Vec Ideal S256x128 .f32) (ix2 r l)
    = (V c main_v35 : Vec Ideal S8448x128 .f32) (ix2 (nOf t r) l) := by
  blk_ext [iblk0, idx0 t, nOf_val]

/-- Window 5's block is its array. -/
theorem blk0_5 (c : Dev nD) (t : Fin cfg0.N) (l : Fin 128) : (iblk0 V c 5 t : Vec Ideal S1x128 .f32) (ix2 0 l)
    = (V c main_v37 : Vec Ideal S1x128 .f32) (ix2 0 l) := by
  blk_ext [iblk0, idx0 t]

/-- Window 6's block is its array. -/
theorem blk0_6 (c : Dev nD) (t : Fin cfg0.N) (l : Fin 128) : (iblk0 V c 6 t : Vec Ideal S1x128 .f32) (ix2 0 l)
    = (V c main_v39 : Vec Ideal S1x128 .f32) (ix2 0 l) := by
  blk_ext [iblk0, idx0 t]

/-- Where window 7's block sits in its array. -/
theorem emb0_7 (t : Fin cfg0.N) (h : Fin 8) (r : Fin 256) (l : Fin 128) :
    (((View.whole main_v40_0).slice (win0_7.rect t)).emb (ix4 0 h r l)) = ix4 (bOf t) h (nOf t r) l := by
  blk_ext [idx0 t, bOf_val, nOf_val]

/-- Where window 8's block sits in its array. -/
theorem emb0_8 (t : Fin cfg0.N) (h : Fin 2) (r : Fin 256) (l : Fin 128) :
    (((View.whole main_v40_1).slice (win0_8.rect t)).emb (ix4 0 h r l)) = ix4 (bOf t) h (nOf t r) l := by
  blk_ext [idx0 t, bOf_val, nOf_val]

/-- Where window 9's block sits in its array. -/
theorem emb0_9 (t : Fin cfg0.N) (h : Fin 2) (r : Fin 256) (l : Fin 128) :
    (((View.whole main_v40_2).slice (win0_9.rect t)).emb (ix4 0 h r l)) = ix4 (bOf t) h (nOf t r) l := by
  blk_ext [idx0 t, bOf_val, nOf_val]

/-- Equal rows, weights and table entries give equal prepared lanes. -/
theorem prepLane_congr {x x' w w' : Fin 128 → EReal} {c c' s s' : EReal} (hx : x = x') (hw : w = w') (hc : c = c') (hs : s = s')
    (l : Fin 128) : prepLane x w c s l = prepLane x' w' c' s' l := by
  rw [hx, hw, hc, hs]

/-- The query array after the first call. -/
theorem arr0_7 (c : Dev nD) : (dat0 V c).arrAt 7 cfg0.N = qArr (V c main_v2) (V c main_v37) (V c main_v34) (V c main_v35) := by
  refine (dat0 V c).arrAt_eq_of_covers 7 _ (by decide +kernel) fun t hf y => ?_
  blk_simp
  rw [after0_7]
  idx_vars y
  obtain rfl : y0 = 0 := Subsingleton.elim _ _
  rw [emb0_7, out0_7_at]
  exact prepLane_congr (funext fun l => blk0_0 V c t y2 _) (funext fun l => congrArg (· * qscale) (blk0_5 V c t l)) (blk0_3 V c t y2 y3) (blk0_4 V c t y2 y3) y3

/-- The key array after the first call. -/
theorem arr0_8 (c : Dev nD) : (dat0 V c).arrAt 8 cfg0.N = kArr (V c main_v5) (V c main_v39) (V c main_v34) (V c main_v35) := by
  refine (dat0 V c).arrAt_eq_of_covers 8 _ (by decide +kernel) fun t hf y => ?_
  blk_simp
  rw [after0_8]
  idx_vars y
  obtain rfl : y0 = 0 := Subsingleton.elim _ _
  rw [emb0_8, out0_8_at]
  exact prepLane_congr (funext fun l => blk0_1 V c t y2 _) (funext fun l => blk0_6 V c t l) (blk0_3 V c t y2 y3) (blk0_4 V c t y2 y3) y3

/-- The value array after the first call. -/
theorem arr0_9 (c : Dev nD) : (dat0 V c).arrAt 9 cfg0.N = vArr (V c main_v8) := by
  refine (dat0 V c).arrAt_eq_of_covers 9 _ (by decide +kernel) fun t hf y => ?_
  blk_simp
  rw [after0_9]
  idx_vars y
  obtain rfl : y0 = 0 := Subsingleton.elim _ _
  rw [emb0_9, out0_9_at]
  exact congrArg (fun f => valLane f y3) (funext fun l => blk0_2 V c t y2 _)

end Cert.KernelIdeal.Arrays
-- ==== Proof.Attn.Scores.lean ====
module

public import proofs.«01_k».proof.Proof.Attn.Arrays
public import Idealize.ShloMosaic.Lib.Pipeline.ReadBack

/-! # The array the attention call leaves

A query row below 256 attends to the first 256 keys, every other row to all 8448. -/

@[expose] public section

set_option maxRecDepth 16384

noncomputable section

namespace Cert.KernelIdeal.Scores

open Cert.KernelIdeal Cert.KernelIdeal.Gen Idealize.ShloMosaic Idealize.ShloMosaic.TcCoe
open Idealize.ShloMosaic.Pipeline (Dat Cfg Window)
open Cert.KernelIdeal.Prep

variable (V : (c : Dev nD) → (b : Ref sig .tc) → Buf (Elt Ideal) ((c : Thread nD τ).loc b))

/-- The score of a query row against key `x`. -/
def score {K : ℕ} (q : Fin 128 → EReal) (k : Fin K → Fin 128 → EReal) (x : Fin K) : EReal := ∑ i, q i * k x i

/-- The weight of key `x`: two to the power of its score less the largest. -/
def weight {K : ℕ} (q : Fin 128 → EReal) (k : Fin K → Fin 128 → EReal) (x : Fin K) : EReal :=
  Ideal.exp2 (score q k x - Finset.fold max (Ideal.ofBits .f32 0xFF800000#32) (fun y => score q k y) Finset.univ)

/-- Lane `l` of a query row's attention: the weighted values over the weights' sum, which lane 64 of the values holds. -/
def attnLane {K : ℕ} (q : Fin 128 → EReal) (k v : Fin K → Fin 128 → EReal) (l : Fin 128) : EReal :=
  Scalar.select (inHead l) (Ideal.div (∑ x, weight q k x * v x l) (∑ x, weight q k x * v x 64)) 0

/-- Equal rows give equal attention. -/
theorem attnLane_congr {K : ℕ} {q q' : Fin 128 → EReal} {k k' v v' : Fin K → Fin 128 → EReal} (hq : q = q') (hk : k = k') (hv : v = v')
    (l : Fin 128) : attnLane q k v l = attnLane q' k' v' l := by
  rw [hq, hk, hv]

/-- The stored block of a point that attends to every key. -/
theorem full_at (q : Vec Ideal S1x1x256x128 .bf16) (k v : Vec Ideal S1x1x8448x128 .bf16) (r : Fin 256) (l : Fin 128) :
    k1_pay2 (k1_pay8 (k1_pay7 (k1_pay6 q k) (k1_pay6 q k)) v) (ix3 0 r l)
      = attnLane (fun i => q (ix4 0 0 r i)) (fun x i => k (ix4 0 0 x i)) (fun x i => v (ix4 0 0 x i)) l := by
  unfold attnLane weight score inHead
  pointwise [k1_pay2, k1_pay6, k1_pay7, k1_pay8]
  rfl

/-- The stored block of a point that attends to the first 256 keys. -/
theorem ctx_at (q k v : Vec Ideal S1x1x256x128 .bf16) (r : Fin 256) (l : Fin 128) :
    k1_pay1 (k1_pay5 (k1_pay4 (k1_pay3 q k) (k1_pay3 q k)) v) (ix3 0 r l)
      = attnLane (fun i => q (ix4 0 0 r i)) (fun x i => k (ix4 0 0 x i)) (fun x i => v (ix4 0 0 x i)) l := by
  unfold attnLane weight score inHead
  pointwise [k1_pay1, k1_pay3, k1_pay4, k1_pay5]
  rfl

/-- The index maps of the attention call, over 2 batches, 8 heads and 33 row blocks. -/
theorem idx1 : ∀ t : Fin cfg1.N, win1_0.index t = ![t.val / 264, t.val / 33 % 8, t.val % 33, 0]
    ∧ win1_1.index t = ![t.val / 264, t.val / 132 % 2, 0, 0] ∧ win1_2.index t = ![t.val / 264, t.val / 132 % 2, 0, 0]
    ∧ win1_3.index t = ![t.val / 264, t.val % 33, t.val / 33 % 8] ∧ t.val < 528 :=
  (by decide +kernel : ∀ t : Fin grid1.N, _)

/-- The first 256 keys of a block of keys. -/
abbrev ctxRect : Rect S1x1x8448x128 := Rect.unit ![0, 0, 0, 0] ![1, 1, 256, 128] inb_S1x1x8448x128_S1x1x256x128_0_0_0_0

/-- What a point of the first row block leaves. -/
theorem outs1_A (c : Dev nD) (t : Fin cfg1.N) (h : t.val % 33 = 0) (r : Fin 256) (l : Fin 128) : outsAt1 V c t.val t.isLt (ix3 0 r l)
    = attnLane (fun i => (iblk1 V c 0 t : Vec Ideal S1x1x256x128 .bf16) (ix4 0 0 r i))
        (fun (x : Fin 256) i => (iblk1 V c 1 t : Vec Ideal S1x1x8448x128 .bf16) (ix4 0 0 (x.castLE (by decide)) i))
        (fun (x : Fin 256) i => (iblk1 V c 2 t : Vec Ideal S1x1x8448x128 .bf16) (ix4 0 0 (x.castLE (by decide)) i)) l := by
  rw [outsAt1_A V c t h (by omega)]
  frame_open
  simp (disch := decide) only [↓ View.readCov_skip, ↓ View.readCov_cons_toLoadRect, ↓ View.readCov_fill]
  frame_out
  refine (ctx_at (iblk1 V c 0 t) (View.ld (iblk1 V c 1 t : Vec Ideal S1x1x8448x128 .bf16) ctxRect)
    (View.ld (iblk1 V c 2 t : Vec Ideal S1x1x8448x128 .bf16) ctxRect) r l).trans ?_
  have hld : ∀ (X : Vec Ideal S1x1x8448x128 .bf16) (x : Fin 256) (i : Fin 128),
      View.ld X ctxRect (ix4 0 0 x i) = X (ix4 0 0 (x.castLE (by decide)) i) := fun X x i => by
    pointwise
    rfl
  exact attnLane_congr rfl (funext fun x => funext fun i => hld _ x i) (funext fun x => funext fun i => hld _ x i) l

/-- What a point of a later row block leaves. -/
theorem outs1_B (c : Dev nD) (t : Fin cfg1.N) (h : ¬ t.val % 33 = 0) (r : Fin 256) (l : Fin 128) : outsAt1 V c t.val t.isLt (ix3 0 r l)
    = attnLane (fun i => (iblk1 V c 0 t : Vec Ideal S1x1x256x128 .bf16) (ix4 0 0 r i))
        (fun (x : Fin 8448) i => (iblk1 V c 1 t : Vec Ideal S1x1x8448x128 .bf16) (ix4 0 0 x i))
        (fun (x : Fin 8448) i => (iblk1 V c 2 t : Vec Ideal S1x1x8448x128 .bf16) (ix4 0 0 x i)) l := by
  rw [outsAt1_B V c t h (by omega)]
  frame_open
  simp (disch := decide) only [↓ View.readCov_skip, ↓ View.readCov_cons_toLoadRect, ↓ View.readCov_fill]
  frame_out
  exact full_at (iblk1 V c 0 t) (iblk1 V c 1 t) (iblk1 V c 2 t) r l

/-- The batch of point `t`. -/
def bOf (t : Fin cfg1.N) : Fin 2 := ⟨t.val / 264, by have := (idx1 t).2.2.2.2; omega⟩
/-- The query head of point `t`. -/
def hOf (t : Fin cfg1.N) : Fin 8 := ⟨t.val / 33 % 8, by omega⟩
/-- The key head of point `t`. -/
def gOf (t : Fin cfg1.N) : Fin 2 := ⟨t.val / 132 % 2, by omega⟩
/-- The row of the arrays at row `r` of point `t`'s blocks. -/
def nOf (t : Fin cfg1.N) (r : Fin 256) : Fin 8448 := ⟨t.val % 33 * 256 + r.val, by omega⟩
theorem bOf_val (t : Fin cfg1.N) : (bOf t).val = t.val / 264 := rfl
theorem hOf_val (t : Fin cfg1.N) : (hOf t).val = t.val / 33 % 8 := rfl
theorem gOf_val (t : Fin cfg1.N) : (gOf t).val = t.val / 132 % 2 := rfl
theorem nOf_val (t : Fin cfg1.N) (r : Fin 256) : (nOf t r).val = t.val % 33 * 256 + r.val := rfl

/-- A query row of a point's block, in the query array. -/
theorem blk1_0 (c : Dev nD) (t : Fin cfg1.N) (r : Fin 256) (l : Fin 128) : (iblk1 V c 0 t : Vec Ideal S1x1x256x128 .bf16) (ix4 0 0 r l)
    = (V c main_v40_0 : Vec Ideal S2x8x8448x128 .bf16) (ix4 (bOf t) (hOf t) (nOf t r) l) := by
  blk_ext [iblk1, idx1 t, bOf_val, hOf_val, nOf_val]

/-- A key row of a point's block, in the key array. -/
theorem blk1_1 (c : Dev nD) (t : Fin cfg1.N) (x : Fin 8448) (l : Fin 128) : (iblk1 V c 1 t : Vec Ideal S1x1x8448x128 .bf16) (ix4 0 0 x l)
    = (V c main_v40_1 : Vec Ideal S2x2x8448x128 .bf16) (ix4 (bOf t) (gOf t) x l) := by
  blk_ext [iblk1, idx1 t, bOf_val, gOf_val]

/-- A value row of a point's block, in the value array. -/
theorem blk1_2 (c : Dev nD) (t : Fin cfg1.N) (x : Fin 8448) (l : Fin 128) : (iblk1 V c 2 t : Vec Ideal S1x1x8448x128 .bf16) (ix4 0 0 x l)
    = (V c main_v40_2 : Vec Ideal S2x2x8448x128 .bf16) (ix4 (bOf t) (gOf t) x l) := by
  blk_ext [iblk1, idx1 t, bOf_val, gOf_val]

/-- Where the output block sits in the result. -/
theorem emb1_3 (t : Fin cfg1.N) (r : Fin 256) (l : Fin 128) :
    (((View.whole main_v41).slice (win1_3.rect t)).emb (ix3 0 r l))
      = ix3 (bOf t) (nOf t r) (⟨t.val / 33 % 8 * 128 + l.val, by omega⟩ : Fin 1024) := by
  blk_ext [idx1 t, bOf_val, nOf_val]

/-- One element of the result: batch `b`, row `n`, lane `l` of head `h`. -/
def attnAt (Q : Vec Ideal S2x8x8448x128 .bf16) (K W : Vec Ideal S2x2x8448x128 .bf16) (b : Fin 2) (n : Fin 8448) (h : Fin 8) (l : Fin 128) : EReal :=
  if n.val < 256 then
    attnLane (fun i => Q (ix4 b h n i)) (fun (x : Fin 256) i => K (ix4 b ⟨h.val / 4, by omega⟩ (x.castLE (by decide)) i))
      (fun (x : Fin 256) i => W (ix4 b ⟨h.val / 4, by omega⟩ (x.castLE (by decide)) i)) l
  else
    attnLane (fun i => Q (ix4 b h n i)) (fun (x : Fin 8448) i => K (ix4 b ⟨h.val / 4, by omega⟩ x i))
      (fun (x : Fin 8448) i => W (ix4 b ⟨h.val / 4, by omega⟩ x i)) l

/-- The head of a lane of a row of the result. -/
def headOf (a : Fin 1024) : Fin 8 := ⟨a.val / 128, by omega⟩

/-- The lane within its head of a lane of a row of the result. -/
def laneOf (a : Fin 1024) : Fin 128 := ⟨a.val % 128, by omega⟩

/-- The attention array. -/
def attnArr (Q : Vec Ideal S2x8x8448x128 .bf16) (K W : Vec Ideal S2x2x8448x128 .bf16) : FVec Ideal S2x8448x1024 .f32 := fun j =>
  attnAt Q K W (j 0) (j 1) (headOf (j 2)) (laneOf (j 2))

/-- The result array after the attention call. -/
theorem arr1_3 (c : Dev nD) : (dat1 V c).arrAt 3 cfg1.N = attnArr (V c main_v40_0) (V c main_v40_1) (V c main_v40_2) := by
  refine (dat1 V c).arrAt_eq_of_covers 3 _ (by decide +kernel) fun t hf y => ?_
  blk_simp
  rw [after1_3]
  idx_vars y
  obtain rfl : y0 = 0 := Subsingleton.elim _ _
  rw [emb1_3]
  have hg : (⟨(hOf t).val / 4, by have := (hOf t).isLt; omega⟩ : Fin 2) = gOf t := Fin.ext (by simp only [hOf_val, gOf_val]; omega)
  have hh : headOf ⟨t.val / 33 % 8 * 128 + y2.val, by omega⟩ = hOf t := Fin.ext (by simp only [hOf_val, headOf]; omega)
  have hl : laneOf ⟨t.val / 33 % 8 * 128 + y2.val, by omega⟩ = y2 := Fin.ext (by simp only [laneOf]; omega)
  have hR : attnArr (V c main_v40_0) (V c main_v40_1) (V c main_v40_2) (ix3 (bOf t) (nOf t y1) ⟨t.val / 33 % 8 * 128 + y2.val, by omega⟩)
      = attnAt (V c main_v40_0) (V c main_v40_1) (V c main_v40_2) (bOf t) (nOf t y1) (hOf t) y2 := by
    refine Eq.trans ?_ (congrArg₂ (attnAt (V c main_v40_0) (V c main_v40_1) (V c main_v40_2) (bOf t) (nOf t y1)) hh hl)
    rfl
  refine Eq.trans ?_ hR.symm
  unfold attnAt
  rw [hg]
  by_cases h : t.val % 33 = 0
  · rw [if_pos (by rw [nOf_val, h]; omega)]
    refine (outs1_A V c t h y1 y2).trans ?_
    exact attnLane_congr (funext fun i => blk1_0 V c t y1 i) (funext fun x => funext fun i => blk1_1 V c t _ i)
      (funext fun x => funext fun i => blk1_2 V c t _ i) y2
  · rw [if_neg (by rw [nOf_val]; omega)]
    refine (outs1_B V c t h y1 y2).trans ?_
    exact attnLane_congr (funext fun i => blk1_0 V c t y1 i) (funext fun x => funext fun i => blk1_1 V c t _ i)
      (funext fun x => funext fun i => blk1_2 V c t _ i) y2

end Cert.KernelIdeal.Scores
-- ==== Proof.Attn.Host.lean ====
module

public import proofs.«01_k».proof.Proof.Gen.KernelIdeal.Frame
public import Idealize.ShloMosaic.Lib.StableHlo.ReadAt
public import proofs.«01_k».proof.Proof.Attn.Rows

/-! # What the host prepares for the calls, at an index -/

@[expose] public section

set_option maxRecDepth 16384

noncomputable section

namespace Cert.KernelIdeal.HostAt

open Cert.KernelIdeal Cert.KernelIdeal.Gen Cert.Rows Idealize.ShloMosaic Idealize.ShloMosaic.TcCoe

variable (m : (ℓ : Loc nD τ sig) → Buf (Elt Ideal) ℓ) (ρ : Dev nD → PrngReg)

/-- The queries at launch. -/
def aQ (c : Dev nD) : FVec Ideal S2x8448x512 .f32 := W0 m ρ c (Proc.tc.devRef main_arg0)
/-- The keys at launch. -/
def aK (c : Dev nD) : FVec Ideal S2x8448x128 .f32 := W0 m ρ c (Proc.tc.devRef main_arg1)
/-- The values at launch. -/
def aV (c : Dev nD) : FVec Ideal S2x8448x128 .f32 := W0 m ρ c (Proc.tc.devRef main_arg2)
/-- The queries' weights at launch. -/
def wQ (c : Dev nD) : FVec Ideal S64 .f32 := W0 m ρ c (Proc.tc.devRef main_arg3)
/-- The keys' weights at launch. -/
def wK (c : Dev nD) : FVec Ideal S64 .f32 := W0 m ρ c (Proc.tc.devRef main_arg4)

/-- The host's zero. -/
theorem zero_eq : (FloatOps.sitofp .f32 (0#32 : BitVec 32) : Ideal .f32) = (0 : EReal) := by
  show ((((0#32 : BitVec 32).toInt : ℝ)) : EReal) = 0
  simp

/-- The first call's queries: each head's 64 lanes, padded with zeros to 128. -/
def pQ (c : Dev nD) : FVec Ideal S2x8448x1024 .f32 := W17 m ρ c (Proc.devRef .tc main_v2)
def pK (c : Dev nD) : FVec Ideal S2x8448x256 .f32 := W17 m ρ c (Proc.devRef .tc main_v5)
def pV (c : Dev nD) : FVec Ideal S2x8448x256 .f32 := W17 m ρ c (Proc.devRef .tc main_v8)
def pwQ (c : Dev nD) : FVec Ideal S1x128 .f32 := W17 m ρ c (Proc.devRef .tc main_v37)
def pwK (c : Dev nD) : FVec Ideal S1x128 .f32 := W17 m ρ c (Proc.devRef .tc main_v39)
def pCos (c : Dev nD) : FVec Ideal S8448x128 .f32 := W17 m ρ c (Proc.devRef .tc main_v34)
def pSin (c : Dev nD) : FVec Ideal S8448x128 .f32 := W17 m ρ c (Proc.devRef .tc main_v35)

theorem pQ_at (c : Dev nD) (b : Fin 2) (n : Fin 8448) (a : Fin 1024) :
    pQ m ρ c (ix3 b n a) = if h : a.val % 128 < 64 then aQ m ρ c (ix3 b n ⟨a.val / 128 * 64 + a.val % 128, by omega⟩) else 0 := by
  have key : pQ m ρ c (ix3 b n a) = if h : a.val / 128 < 8 ∧ a.val % 128 < 64 then aQ m ρ c (ix3 b n ⟨a.val / 128 * 64 + a.val % 128, by omega⟩)
      else FloatOps.sitofp .f32 (0#32 : BitVec 32) := by
    unfold pQ aQ
    after_reads_at
  rw [key, zero_eq]
  by_cases h : a.val % 128 < 64
  · rw [dif_pos h, dif_pos ⟨by omega, h⟩]
  · rw [dif_neg h, dif_neg fun k => h k.2]

theorem pK_at (c : Dev nD) (b : Fin 2) (n : Fin 8448) (a : Fin 256) :
    pK m ρ c (ix3 b n a) = if h : a.val % 128 < 64 then aK m ρ c (ix3 b n ⟨a.val / 128 * 64 + a.val % 128, by omega⟩) else 0 := by
  have key : pK m ρ c (ix3 b n a) = if h : a.val / 128 < 2 ∧ a.val % 128 < 64 then aK m ρ c (ix3 b n ⟨a.val / 128 * 64 + a.val % 128, by omega⟩)
      else FloatOps.sitofp .f32 (0#32 : BitVec 32) := by
    unfold pK aK
    after_reads_at
  rw [key, zero_eq]
  by_cases h : a.val % 128 < 64
  · rw [dif_pos h, dif_pos ⟨by omega, h⟩]
  · rw [dif_neg h, dif_neg fun k => h k.2]

theorem pV_at (c : Dev nD) (b : Fin 2) (n : Fin 8448) (a : Fin 256) :
    pV m ρ c (ix3 b n a) = if h : a.val % 128 < 64 then aV m ρ c (ix3 b n ⟨a.val / 128 * 64 + a.val % 128, by omega⟩) else 0 := by
  have key : pV m ρ c (ix3 b n a) = if h : a.val / 128 < 2 ∧ a.val % 128 < 64 then aV m ρ c (ix3 b n ⟨a.val / 128 * 64 + a.val % 128, by omega⟩)
      else FloatOps.sitofp .f32 (0#32 : BitVec 32) := by
    unfold pV aV
    after_reads_at
  rw [key, zero_eq]
  by_cases h : a.val % 128 < 64
  · rw [dif_pos h, dif_pos ⟨by omega, h⟩]
  · rw [dif_neg h, dif_neg fun k => h k.2]

theorem pwQ_at (c : Dev nD) (a : Fin 128) : pwQ m ρ c (ix2 0 a) = if h : a.val < 64 then wQ m ρ c (ix1 ⟨a.val, h⟩) else 0 := by
  rw [← zero_eq]
  unfold pwQ wQ
  after_reads_at

theorem pwK_at (c : Dev nD) (a : Fin 128) : pwK m ρ c (ix2 0 a) = if h : a.val < 64 then wK m ρ c (ix1 ⟨a.val, h⟩) else 0 := by
  rw [← zero_eq]
  unfold pwK wK
  after_reads_at

end Cert.KernelIdeal.HostAt
-- ==== Proof.Attn.HostTab.lean ====
module

public import proofs.«01_k».proof.Proof.Gen.KernelIdeal.Frame
public import proofs.«01_k».proof.Proof.Attn.Host
public import Idealize.ShloMosaic.Lib.StableHlo.ReadAt

/-! # The host's tables of angles, at an index -/

@[expose] public section

set_option maxRecDepth 16384

noncomputable section

namespace Cert.KernelIdeal.HostAt

open Cert.KernelIdeal Cert.KernelIdeal.Gen Cert.Rows Idealize.ShloMosaic Idealize.ShloMosaic.TcCoe

variable (m : (ℓ : Loc nD τ sig) → Buf (Elt Ideal) ℓ) (ρ : Dev nD → PrngReg)

/-- The angles by the rows. -/
def rowT (c : Dev nD) : FVec Ideal S8192x16 .f32 := StableHlo.upto hostOps0_8 (W8 m ρ c) 19 (Proc.tc.devRef main_v25)
/-- The angles by the columns. -/
def colT (c : Dev nD) : FVec Ideal S8192x16 .f32 := StableHlo.upto hostOps0_8 (W8 m ρ c) 19 (Proc.tc.devRef main_v30)

theorem rowT_at (c : Dev nD) (n : Fin 8192) (j : Fin 16) : rowT m ρ c (ix2 n j) = rowAngle n.val j.val := by
  unfold rowAngle freq rowT
  after_reads_at

theorem colT_at (c : Dev nD) (n : Fin 8192) (j : Fin 16) : colT m ρ c (ix2 n j) = colAngle n.val j.val := by
  unfold colAngle freq column colT
  after_reads_at
  rw [show (id (constantI S_ 32 64#32) ix0 : BitVec 32) = 64#32 from rfl]

/-- The cose table's entries before the angles are opened. -/
theorem pCos_raw (c : Dev nD) (n : Fin 8448) (a : Fin 128) (z : EReal)
    (hz : (if h : (256 ≤ n.val ∧ n.val - 256 < 8192) ∧ a.val < 64 then Ideal.cos (
      if h : a.val < 16 then rowT m ρ c (ix2 ⟨n.val - 256, by omega⟩ ⟨a.val, by omega⟩)
      else if h : a.val - 16 < 16 then rowT m ρ c (ix2 ⟨n.val - 256, by omega⟩ ⟨a.val - 16, by omega⟩)
      else if h : a.val - 16 - 16 < 16 then colT m ρ c (ix2 ⟨n.val - 256, by omega⟩ ⟨a.val - 16 - 16, by omega⟩)
      else colT m ρ c (ix2 ⟨n.val - 256, by omega⟩ ⟨a.val - 16 - 16 - 16, by omega⟩)) else Ideal.ofBits .f32 0x3F800000#32) = z) : pCos m ρ c (ix2 n a) = z := by
  unfold pCos
  after_reads_at
  exact hz

theorem pCos_at (c : Dev nD) (n : Fin 8448) (a : Fin 128) (h : a.val < 64) : pCos m ρ c (ix2 n a) = cosAt n.val a.val := by
  refine pCos_raw m ρ c n a _ ?_
  unfold cosAt
  by_cases hn : n.val < 256
  · rw [if_pos hn, dif_neg fun k => absurd k.1.1 (by omega)]
    exact Ideal.ofBits_one_f32
  · rw [if_neg hn, dif_pos ⟨⟨by omega, by omega⟩, h⟩]
    refine congrArg Ideal.cos ?_
    unfold angle
    split_ifs
    · exact rowT_at m ρ c _ _
    · exact rowT_at m ρ c _ _
    · exact colT_at m ρ c _ _
    · exact colT_at m ρ c _ _

/-- The sine table's entries before the angles are opened. -/
theorem pSin_raw (c : Dev nD) (n : Fin 8448) (a : Fin 128) (z : EReal)
    (hz : (if h : (256 ≤ n.val ∧ n.val - 256 < 8192) ∧ a.val < 64 then Ideal.sin (
      if h : a.val < 16 then rowT m ρ c (ix2 ⟨n.val - 256, by omega⟩ ⟨a.val, by omega⟩)
      else if h : a.val - 16 < 16 then rowT m ρ c (ix2 ⟨n.val - 256, by omega⟩ ⟨a.val - 16, by omega⟩)
      else if h : a.val - 16 - 16 < 16 then colT m ρ c (ix2 ⟨n.val - 256, by omega⟩ ⟨a.val - 16 - 16, by omega⟩)
      else colT m ρ c (ix2 ⟨n.val - 256, by omega⟩ ⟨a.val - 16 - 16 - 16, by omega⟩)) else (FloatOps.sitofp .f32 (0#32 : BitVec 32) : Ideal .f32)) = z) : pSin m ρ c (ix2 n a) = z := by
  unfold pSin
  after_reads_at
  exact hz

theorem pSin_at (c : Dev nD) (n : Fin 8448) (a : Fin 128) (h : a.val < 64) : pSin m ρ c (ix2 n a) = sinAt n.val a.val := by
  refine pSin_raw m ρ c n a _ ?_
  unfold sinAt
  by_cases hn : n.val < 256
  · rw [if_pos hn, dif_neg fun k => absurd k.1.1 (by omega)]
    exact zero_eq
  · rw [if_neg hn, dif_pos ⟨⟨by omega, by omega⟩, h⟩]
    refine congrArg Ideal.sin ?_
    unfold angle
    split_ifs
    · exact rowT_at m ρ c _ _
    · exact rowT_at m ρ c _ _
    · exact colT_at m ρ c _ _
    · exact colT_at m ρ c _ _

end Cert.KernelIdeal.HostAt
-- ==== Proof.Attn.KerValue.lean ====
module

public import proofs.«01_k».proof.Proof.Attn.Target
public import proofs.«01_k».proof.Proof.Attn.PrepReal
public import proofs.«01_k».proof.Proof.Attn.Scores
public import proofs.«01_k».proof.Proof.Attn.Arrays
public import proofs.«01_k».proof.Proof.Attn.Host
public import proofs.«01_k».proof.Proof.Attn.HostTab

/-! # The kernel's result, over real queries and keys -/

@[expose] public section

set_option maxRecDepth 16384

noncomputable section

namespace Cert.KernelIdeal.KerValue

open Cert.KernelIdeal Cert.KernelIdeal.Gen Cert.Rows Idealize.ShloMosaic Idealize.ShloMosaic.TcCoe
open Cert.KernelIdeal.Prep Cert.KernelIdeal.Arrays Cert.KernelIdeal.Scores Cert.KernelIdeal.HostAt

/-- A padded row's dot product with another's. -/
theorem dot_coe (u v : Fin 64 → ℝ) : ∑ i, padRow u i * padRow v i = ((∑ i, u i * v i : ℝ) : EReal) := by
  rw [sum128 _ (fun i hi => by unfold padRow; rw [dif_neg (by omega)]; exact zero_mul _), Cert.AttnMath.coe_sum]
  refine Finset.sum_congr rfl fun i _ => ?_
  unfold padRow
  rw [dif_pos i.isLt, dif_pos i.isLt, EReal.coe_mul]

/-- An attention row over real rows. -/
theorem attnLane_real {K : ℕ} [NeZero K] (u : Fin 64 → ℝ) (v : Fin K → Fin 64 → ℝ) (w : Fin K → Fin 128 → EReal) (σ : Fin K → ℝ) (y : Fin K → EReal)
    (e : Fin K ≃ Fin K) (l : Fin 128) (hl : l.val < 64) (hσ : ∀ j, ∑ i, u i * v (e j) i = (Real.log 2)⁻¹ * σ j) (hone : ∀ j, w j 64 = 1) (hy : ∀ j, w (e j) l = y j) :
    attnLane (padRow u) (fun x => padRow (v x)) w l = mean (fun j => ((σ j : ℝ) : EReal)) y := by
  unfold attnLane
  rw [inHead_eq, if_pos hl, select_one]
  unfold weight
  simp only [hone]
  exact div_eq_mean σ e _ y (fun x => w x l) (fun j => by unfold score; rw [dot_coe, hσ]) hy

theorem attnLane_off {K : ℕ} (q : Fin 128 → EReal) (k v : Fin K → Fin 128 → EReal) (l : Fin 128) (hl : ¬ l.val < 64) : attnLane q k v l = 0 := by
  unfold attnLane
  rw [inHead_eq, if_neg hl, select_zero]

theorem valLane_one (x : Fin 128 → EReal) : valLane x 64 = 1 := by
  unfold valLane
  rw [show IntOp.cmpi .eq (BitVec.ofNat 32 (64 : Fin 128).val) 64#32 = 1#1 from by decide, select_one]
  exact Ideal.ofBits_one_f32

theorem valLane_low (x : Fin 128 → EReal) (l : Fin 128) (hl : l.val < 64) : valLane x l = x l := by
  unfold valLane
  rw [(by decide +kernel : ∀ l : Fin 128, l.val < 64 → IntOp.cmpi .eq (BitVec.ofNat 32 l.val) 64#32 = 0#1) l hl, select_zero]

variable (m : (ℓ : Loc nD τ sig) → Buf (Elt Ideal) ℓ) (ρ : Dev nD → PrngReg) (c : Dev nD)
variable (xq : Fin 2 → Fin 8448 → Fin 512 → ℝ) (xk : Fin 2 → Fin 8448 → Fin 128 → ℝ) (wq wk : Fin 64 → ℝ)

section

variable (hq : ∀ b n i, aQ m ρ c (ix3 b n i) = ((xq b n i : ℝ) : EReal)) (hk : ∀ b n i, aK m ρ c (ix3 b n i) = ((xk b n i : ℝ) : EReal))
  (hwq : ∀ i, wQ m ρ c (ix1 i) = ((wq i : ℝ) : EReal)) (hwk : ∀ i, wK m ρ c (ix1 i) = ((wk i : ℝ) : EReal))

include hq in
theorem rowQ (b : Fin 2) (n : Fin 8448) (h : Fin 8) : rowOf (pQ m ρ c) (by decide) b h.val n = padRow (qHead xq b n h) := by
  funext l
  unfold rowOf padRow qHead
  rw [pQ_at]
  have e : (h.val * 128 + l.val) % 1024 = h.val * 128 + l.val := by omega
  by_cases hl : l.val < 64
  · rw [dif_pos (by show (h.val * 128 + l.val) % 1024 % 128 < 64; omega), dif_pos hl, hq]
    have e2 : (h.val * 128 + l.val) % 1024 / 128 * 64 + (h.val * 128 + l.val) % 1024 % 128 = h.val * 64 + l.val := by omega
    simp only [e2]
  · rw [dif_neg (by show ¬ (h.val * 128 + l.val) % 1024 % 128 < 64; omega), dif_neg hl]

include hk in
theorem rowK (b : Fin 2) (n : Fin 8448) (g : Fin 2) : rowOf (pK m ρ c) (by decide) b g.val n = padRow (kHead xk b n g) := by
  funext l
  unfold rowOf padRow kHead
  rw [pK_at]
  by_cases hl : l.val < 64
  · rw [dif_pos (by show (g.val * 128 + l.val) % 256 % 128 < 64; omega), dif_pos hl, hk]
    have e2 : (g.val * 128 + l.val) % 256 / 128 * 64 + (g.val * 128 + l.val) % 256 % 128 = g.val * 64 + l.val := by omega
    simp only [e2]
  · rw [dif_neg (by show ¬ (g.val * 128 + l.val) % 256 % 128 < 64; omega), dif_neg hl]

theorem rowV (b : Fin 2) (n : Fin 8448) (g : Fin 2) (l : Fin 128) (hl : l.val < 64) :
    rowOf (pV m ρ c) (by decide) b g.val n l = aV m ρ c (ix3 b n ⟨g.val * 64 + l.val, by omega⟩) := by
  unfold rowOf
  rw [pV_at, dif_pos (by show (g.val * 128 + l.val) % 256 % 128 < 64; omega)]
  have e2 : (g.val * 128 + l.val) % 256 / 128 * 64 + (g.val * 128 + l.val) % 256 % 128 = g.val * 64 + l.val := by omega
  simp only [e2]

include hwq in
theorem weightQ : (fun i => pwQ m ρ c (ix2 0 i) * qscale) = padRow (fun i => wq i * ((1 / 8) * (Real.log 2)⁻¹)) := by
  funext l
  unfold padRow
  rw [pwQ_at, qscale_eq]
  by_cases hl : l.val < 64
  · rw [dif_pos hl, dif_pos hl, hwq, ← EReal.coe_mul]
  · rw [dif_neg hl, dif_neg hl, zero_mul]

include hwk in
theorem weightK : (fun i => pwK m ρ c (ix2 0 i)) = padRow wk := by
  funext l
  unfold padRow
  rw [pwK_at]
  by_cases hl : l.val < 64
  · rw [dif_pos hl, dif_pos hl, hwk]
  · rw [dif_neg hl, dif_neg hl]

/-- The prepared query array. -/
def Q : FVec Ideal S2x8x8448x128 .bf16 := qArr (pQ m ρ c) (pwQ m ρ c) (pCos m ρ c) (pSin m ρ c)
/-- The prepared key array. -/
def K : FVec Ideal S2x2x8448x128 .bf16 := kArr (pK m ρ c) (pwK m ρ c) (pCos m ρ c) (pSin m ρ c)
/-- The prepared value array. -/
def W : FVec Ideal S2x2x8448x128 .bf16 := vArr (pV m ρ c)

include hq hwq in
theorem Q_at (b : Fin 2) (h : Fin 8) (n : Fin 8448) :
    (fun i => Q m ρ c (ix4 b h n i)) = padRow (laneR (qHead xq b n h) (fun i => wq i * ((1 / 8) * (Real.log 2)⁻¹)) n.val) := by
  funext l
  show prepLane (rowOf (pQ m ρ c) _ b h.val n) (fun i => pwQ m ρ c (ix2 0 i) * qscale) (pCos m ρ c (ix2 n l)) (pSin m ρ c (ix2 n l)) l = _
  rw [rowQ m ρ c xq hq, weightQ m ρ c wq hwq]
  exact prepLane_coe _ _ _ _ _ l (pCos_at m ρ c n l) (pSin_at m ρ c n l)

include hk hwk in
theorem K_at (b : Fin 2) (g : Fin 2) (n : Fin 8448) :
    (fun i => K m ρ c (ix4 b g n i)) = padRow (laneR (kHead xk b n g) wk n.val) := by
  funext l
  show prepLane (rowOf (pK m ρ c) _ b g.val n) (fun i => pwK m ρ c (ix2 0 i)) (pCos m ρ c (ix2 n l)) (pSin m ρ c (ix2 n l)) l = _
  rw [rowK m ρ c xk hk, weightK m ρ c wk hwk]
  exact prepLane_coe _ _ _ _ _ l (pCos_at m ρ c n l) (pSin_at m ρ c n l)

theorem W_one (b : Fin 2) (g : Fin 2) (n : Fin 8448) : W m ρ c (ix4 b g n 64) = 1 :=
  valLane_one (rowOf (pV m ρ c) (by decide) b g.val n)

theorem W_at (b : Fin 2) (g : Fin 2) (n : Fin 8448) (l : Fin 128) (hl : l.val < 64) :
    W m ρ c (ix4 b g n l) = aV m ρ c (ix3 b n ⟨g.val * 64 + l.val, by omega⟩) :=
  (valLane_low (rowOf (pV m ρ c) (by decide) b g.val n) l hl).trans (rowV m ρ c b n g l hl)

/-- The kernel's score is the reference's over the logarithm of two. -/
theorem dot_sigma (b : Fin 2) (n : Fin 8448) (h : Fin 8) (r : Fin 8448) :
    ∑ i, laneR (qHead xq b n h) (fun i => wq i * ((1 / 8) * (Real.log 2)⁻¹)) n.val i * laneR (kHead xk b r (group h)) wk r.val i
      = (Real.log 2)⁻¹ * sigma xq xk wq wk b n h r := by
  unfold sigma
  rw [Finset.mul_sum]
  refine Finset.sum_congr rfl fun i _ => ?_
  rw [laneR_scale, laneR_scale]
  ring

include hq hk hwq hwk in
/-- A lane of the attention over keys at rows `κ`. -/
theorem attn_row {N : ℕ} [NeZero N] (b : Fin 2) (n : Fin 8448) (h : Fin 8) (l : Fin 128) (hl : l.val < 64) (κ : Fin N → Fin 8448) (e : Fin N ≃ Fin N) :
    attnLane (fun i => Q m ρ c (ix4 b h n i)) (fun x i => K m ρ c (ix4 b (group h) (κ x) i)) (fun x i => W m ρ c (ix4 b (group h) (κ x) i)) l
      = mean (fun j => ((sigma xq xk wq wk b n h (κ (e j)) : ℝ) : EReal)) (fun j => aV m ρ c (ix3 b (κ (e j)) ⟨(group h).val * 64 + l.val, by have := (group h).isLt; omega⟩)) :=
  (attnLane_congr (Q_at m ρ c xq wq hq hwq b h n) (funext fun x => K_at m ρ c xk wk hk hwk b (group h) (κ x)) rfl l).trans
    (attnLane_real (laneR (qHead xq b n h) (fun i => wq i * ((1 / 8) * (Real.log 2)⁻¹)) n.val) (fun x => laneR (kHead xk b (κ x) (group h)) wk (κ x).val)
      (fun x i => W m ρ c (ix4 b (group h) (κ x) i)) (fun j => sigma xq xk wq wk b n h (κ (e j))) _ e l hl
      (fun j => dot_sigma xq xk wq wk b n h (κ (e j))) (fun j => W_one m ρ c b (group h) (κ j)) (fun j => W_at m ρ c b (group h) (κ (e j)) l hl))

include hq hk hwq hwk in
/-- The kernel's result at an index. -/
theorem attn_at (b : Fin 2) (n : Fin 8448) (a : Fin 1024) : attnArr (Q m ρ c) (K m ρ c) (W m ρ c) (ix3 b n a) =
    if h : a.val % 128 < 64 then target xq xk wq wk (fun b n i => aV m ρ c (ix3 b n i)) b n ⟨a.val / 128, by omega⟩ ⟨a.val % 128, h⟩ else 0 := by
  show attnAt (Q m ρ c) (K m ρ c) (W m ρ c) b n (headOf a) (laneOf a) = _
  unfold attnAt
  by_cases h : a.val % 128 < 64
  · rw [dif_pos h]
    unfold target
    by_cases hn : n.val < 256
    · rw [if_pos hn, if_pos hn]
      exact attn_row m ρ c xq xk wq wk hq hk hwq hwk b n (headOf a) (laneOf a) h (fun x : Fin 256 => x.castLE (by decide)) (Equiv.refl _)
    · rw [if_neg hn, if_neg hn]
      exact attn_row m ρ c xq xk wq wk hq hk hwq hwk b n (headOf a) (laneOf a) h (fun x : Fin 8448 => x) latKey
  · rw [dif_neg h]
    by_cases hn : n.val < 256
    · rw [if_pos hn]; exact attnLane_off _ _ _ _ h
    · rw [if_neg hn]; exact attnLane_off _ _ _ _ h

end

end Cert.KernelIdeal.KerValue
-- ==== Proof.Attn.RefDefs.lean ====
module

public import proofs.«01_k».proof.Proof.Gen.ReferenceIdeal.Run
public import Idealize.ShloMosaic.Lib.Pointwise

/-! # What the reference computes, at an index -/

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe

variable (V : Valuation τ sig (Elt Ideal))

/-- The normalised queries of the latent rows. -/
def nQ : FVec Ideal S2x2x4x8192x64 .f32 := res_main_v42 V
/-- The normalised keys of the latent rows. -/
def nK : FVec Ideal S2x2x8192x64 .f32 := res_main_v75 V
/-- The normalised keys of the context rows. -/
def nKc : FVec Ideal S2x2x256x64 .f32 := res_main_v108 V
/-- The context rows' values. -/
def vCtx : FVec Ideal S2x2x256x64 .f32 := res_main_v111 V
/-- The cosines of the angles. -/
def cosT : FVec Ideal S8192x64 .f32 := res_main_v23 V
/-- The sines of the angles. -/
def sinT : FVec Ideal S8192x64 .f32 := res_main_v24 V
/-- The queries. -/
def aQ : FVec Ideal S2x8448x512 .f32 := V (Proc.devRef .tc main_arg0)
/-- The keys. -/
def aK : FVec Ideal S2x8448x128 .f32 := V (Proc.devRef .tc main_arg1)
/-- The values. -/
def aV : FVec Ideal S2x8448x128 .f32 := V (Proc.devRef .tc main_arg2)
/-- The queries' weights. -/
def wQ : FVec Ideal S64 .f32 := V (Proc.devRef .tc main_arg3)
/-- The keys' weights. -/
def wK : FVec Ideal S64 .f32 := V (Proc.devRef .tc main_arg4)

/-- The rotated queries of the latent rows. -/
def qRot : FVec Ideal S2x2x4x8192x64 .f32 :=
  addf (mulf (res_main_v42 V) (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 (res_main_v23 V)))) (mulf (shapeCast _ (concatenate S2x2x4x8192x2x2x16 5 [⟨S2x2x4x8192x2x1x16, (broadcastInDim S2x2x4x8192x2x1x16 ![0, 1, 2, 3, 4, 6] bcast_S2x2x4x8192x2x16_S2x2x4x8192x2x1x16_0_1_2_3_4_6 (Host.negf (shapeCast _ (extractStridedSlice S2x2x4x8192x2x1x16 ![0, 0, 0, 0, 0, 1, 0] (res_main_v43 V) slices_S2x2x4x8192x2x2x16_S2x2x4x8192x2x1x16_0_0_0_0_0_1_0) shapeCasts_S2x2x4x8192x2x1x16_S2x2x4x8192x2x16)))⟩, ⟨S2x2x4x8192x2x1x16, (broadcastInDim S2x2x4x8192x2x1x16 ![0, 1, 2, 3, 4, 6] bcast_S2x2x4x8192x2x16_S2x2x4x8192x2x1x16_0_1_2_3_4_6 (shapeCast _ (extractStridedSlice S2x2x4x8192x2x1x16 ![0, 0, 0, 0, 0, 0, 0] (res_main_v43 V) slices_S2x2x4x8192x2x2x16_S2x2x4x8192x2x1x16_0_0_0_0_0_0_0) shapeCasts_S2x2x4x8192x2x1x16_S2x2x4x8192x2x16))⟩] concatenates_S2x2x4x8192x2x1x16_S2x2x4x8192x2x1x16_S2x2x4x8192x2x2x16_d5) shapeCasts_S2x2x4x8192x2x2x16_S2x2x4x8192x64) (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 (res_main_v24 V))))

/-- The rotated keys of the latent rows. -/
def kRot : FVec Ideal S2x2x8192x64 .f32 :=
  addf (mulf (res_main_v75 V) (broadcastInDim S2x2x8192x64 ![0, 1, 2, 3] bcast_S1x1x8192x64_S2x2x8192x64_0_1_2_3 (broadcastInDim S1x1x8192x64 ![2, 3] bcast_S8192x64_S1x1x8192x64_2_3 (res_main_v23 V)))) (mulf (shapeCast _ (concatenate S2x2x8192x2x2x16 4 [⟨S2x2x8192x2x1x16, (broadcastInDim S2x2x8192x2x1x16 ![0, 1, 2, 3, 5] bcast_S2x2x8192x2x16_S2x2x8192x2x1x16_0_1_2_3_5 (Host.negf (shapeCast _ (extractStridedSlice S2x2x8192x2x1x16 ![0, 0, 0, 0, 1, 0] (res_main_v76 V) slices_S2x2x8192x2x2x16_S2x2x8192x2x1x16_0_0_0_0_1_0) shapeCasts_S2x2x8192x2x1x16_S2x2x8192x2x16)))⟩, ⟨S2x2x8192x2x1x16, (broadcastInDim S2x2x8192x2x1x16 ![0, 1, 2, 3, 5] bcast_S2x2x8192x2x16_S2x2x8192x2x1x16_0_1_2_3_5 (shapeCast _ (extractStridedSlice S2x2x8192x2x1x16 ![0, 0, 0, 0, 0, 0] (res_main_v76 V) slices_S2x2x8192x2x2x16_S2x2x8192x2x1x16_0_0_0_0_0_0) shapeCasts_S2x2x8192x2x1x16_S2x2x8192x2x16))⟩] concatenates_S2x2x8192x2x1x16_S2x2x8192x2x1x16_S2x2x8192x2x2x16_d4) shapeCasts_S2x2x8192x2x2x16_S2x2x8192x64) (broadcastInDim S2x2x8192x64 ![0, 1, 2, 3] bcast_S1x1x8192x64_S2x2x8192x64_0_1_2_3 (broadcastInDim S1x1x8192x64 ![2, 3] bcast_S8192x64_S1x1x8192x64_2_3 (res_main_v24 V))))

/-- The normalised queries of the context rows. -/
def qCtx : FVec Ideal S2x2x4x256x64 .f32 :=
  mulf (mulf (mulf (res_main_v132 V) (broadcastInDim S2x2x4x256x64 ![0, 1, 2, 3, 4] bcast_S2x2x4x256x1_S2x2x4x256x64_0_1_2_3_4 (Host.rsqrt (addf (Host.divf (broadcastInDim S2x2x4x256x1 ![0, 1, 2, 3] bcast_S2x2x4x256_S2x2x4x256x1_0_1_2_3 (Host.reduceAdd (mulf (res_main_v132 V) (res_main_v132 V)) (constant S_ .f32 0x00000000#32) reducesTo_S2x2x4x256x64_S2x2x4x256_d4 h_S_)) (broadcastInDim S2x2x4x256x1 ![] bcast_S_S2x2x4x256x1 (constant S_ .f32 0x42800000#32))) (broadcastInDim S2x2x4x256x1 ![] bcast_S_S2x2x4x256x1 (constant S_ .f32 0x358637BD#32)))))) (broadcastInDim S2x2x4x256x64 ![0, 1, 2, 3, 4] bcast_S1x1x1x1x64_S2x2x4x256x64_0_1_2_3_4 (broadcastInDim S1x1x1x1x64 ![4] bcast_S64_S1x1x1x1x64_4 (V (Proc.devRef .tc main_arg3))))) (broadcastInDim S2x2x4x256x64 ![] bcast_S_S2x2x4x256x64 (constant S_ .f32 0x3E000000#32))

/-- All keys: the latent rows' and the context rows'. -/
def kAll (A : FVec Ideal S2x2x8192x64 .f32) (B : FVec Ideal S2x2x256x64 .f32) : FVec Ideal S2x2x8448x64 .f32 :=
  concatenate S2x2x8448x64 2 [⟨S2x2x8192x64, A⟩, ⟨S2x2x256x64, B⟩] concatenates_S2x2x8192x64_S2x2x256x64_S2x2x8448x64_d2

/-- The latent rows' values. -/
def vLat : FVec Ideal S2x2x8192x64 .f32 :=
  transpose S2x2x8192x64 [0, 2, 1, 3] (shapeCast _ (extractStridedSlice S2x8192x128 ![0, 256, 0] (V (Proc.devRef .tc main_arg2)) slices_S2x8448x128_S2x8192x128_0_256_0) shapeCasts_S2x8192x128_S2x8192x2x64) transposes_S2x8192x2x64_S2x2x8192x64_0_2_1_3

/-- The scores of the latent rows. -/
def sLat (A : FVec Ideal S2x2x4x8192x64 .f32) (B : FVec Ideal S2x2x8448x64 .f32) : FVec Ideal S2x2x4x8192x8448 .f32 :=
  Host.dotGeneral dot_S2x2x4x8192x64_S2x2x8448x64_S2x2x4x8192x8448_4_3_23_2_01_01 none A B

/-- The scores of the context rows. -/
def sCtx (A : FVec Ideal S2x2x4x256x64 .f32) (B : FVec Ideal S2x2x256x64 .f32) : FVec Ideal S2x2x4x256x256 .f32 :=
  Host.dotGeneral dot_S2x2x4x256x64_S2x2x256x64_S2x2x4x256x256_4_3_23_2_01_01 none A B

/-- The exponentials of the latent rows' scores, each less its row's largest. -/
def eLat (A : FVec Ideal S2x2x4x8192x8448 .f32) : FVec Ideal S2x2x4x8192x8448 .f32 :=
  Host.exp (subf A (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (maximumf (broadcastInDim S2x2x4x8192 ![] bcast_S_S2x2x4x8192 (constant S_ .f32 0xFF800000#32)) (Host.reduce FloatOps.maximumf A (constant S_ .f32 0xFF800000#32) reducesTo_S2x2x4x8192x8448_S2x2x4x8192_d4 h_S_)))))

/-- The exponentials of the context rows' scores, each less its row's largest. -/
def eCtx (A : FVec Ideal S2x2x4x256x256 .f32) : FVec Ideal S2x2x4x256x256 .f32 :=
  Host.exp (subf A (broadcastInDim S2x2x4x256x256 ![0, 1, 2, 3, 4] bcast_S2x2x4x256x1_S2x2x4x256x256_0_1_2_3_4 (broadcastInDim S2x2x4x256x1 ![0, 1, 2, 3] bcast_S2x2x4x256_S2x2x4x256x1_0_1_2_3 (maximumf (broadcastInDim S2x2x4x256 ![] bcast_S_S2x2x4x256 (constant S_ .f32 0xFF800000#32)) (Host.reduce FloatOps.maximumf A (constant S_ .f32 0xFF800000#32) reducesTo_S2x2x4x256x256_S2x2x4x256_d4 h_S_)))))

/-- The latent rows' attention from their exponentials. -/
def oLat (E : FVec Ideal S2x2x4x8192x8448 .f32) (B : FVec Ideal S2x2x8448x64 .f32) : FVec Ideal S2x2x4x8192x64 .f32 :=
  Host.dotGeneral dot_S2x2x4x8192x8448_S2x2x8448x64_S2x2x4x8192x64_4_2_23_3_01_01 none (Host.divf E (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (Host.reduceAdd E (constant S_ .f32 0x00000000#32) reducesTo_S2x2x4x8192x8448_S2x2x4x8192_d4 h_S_)))) B

/-- The context rows' attention from their exponentials. -/
def oCtx (E : FVec Ideal S2x2x4x256x256 .f32) (B : FVec Ideal S2x2x256x64 .f32) : FVec Ideal S2x2x4x256x64 .f32 :=
  Host.dotGeneral dot_S2x2x4x256x256_S2x2x256x64_S2x2x4x256x64_4_2_23_3_01_01 none (Host.divf E (broadcastInDim S2x2x4x256x256 ![0, 1, 2, 3, 4] bcast_S2x2x4x256x1_S2x2x4x256x256_0_1_2_3_4 (broadcastInDim S2x2x4x256x1 ![0, 1, 2, 3] bcast_S2x2x4x256_S2x2x4x256x1_0_1_2_3 (Host.reduceAdd E (constant S_ .f32 0x00000000#32) reducesTo_S2x2x4x256x256_S2x2x4x256_d4 h_S_)))) B

/-- The result: the context rows', then the latent rows' attention, each head's 64 lanes padded to 128. -/
def pack (A : FVec Ideal S2x2x4x256x64 .f32) (B : FVec Ideal S2x2x4x8192x64 .f32) : FVec Ideal S2x8448x1024 .f32 :=
  shapeCast _ (pad S2x8448x2x4x128 ![0, 0, 0, 0, 0] ![0, 0, 0, 0, 64] ![0, 0, 0, 0, 0] (transpose S2x8448x2x4x64 [0, 3, 1, 2, 4] (concatenate S2x2x4x8448x64 3 [⟨S2x2x4x256x64, A⟩, ⟨S2x2x4x8192x64, B⟩] concatenates_S2x2x4x256x64_S2x2x4x8192x64_S2x2x4x8448x64_d3) transposes_S2x2x4x8448x64_S2x8448x2x4x64_0_3_1_2_4) (sitofp .f32 (constantI S_ 32 0#32)) pads_S2x8448x2x4x64_S2x8448x2x4x128_000_000_000_000_0640 h_S_) shapeCasts_S2x8448x2x4x128_S2x8448x1024

theorem v117_eq : res_main_v117 V = sLat (qRot V) (kAll (kRot V) (res_main_v108 V)) := rfl
theorem v124_eq : res_main_v124 V = eLat (res_main_v117 V) := rfl
theorem v148_eq : res_main_v148 V = sCtx (qCtx V) (res_main_v108 V) := rfl
theorem v155_eq : res_main_v155 V = eCtx (res_main_v148 V) := rfl

/-- The reference's result. -/
def result : FVec Ideal S2x8448x1024 .f32 :=
  pack (oCtx (res_main_v155 V) (res_main_v111 V)) (oLat (res_main_v124 V) (kAll (vLat V) (res_main_v111 V)))

end Cert.ReferenceIdeal.At
-- ==== Proof.Attn.Turn.lean ====
module

public import proofs.«01_k».proof.Proof.Attn.RefDefs
public import proofs.«01_k».proof.Proof.Attn.Rows
public import Idealize.ShloMosaic.Lib.Pointwise

/-! # What the reference computes, at an index -/

@[expose] public section

set_option maxRecDepth 16384

noncomputable section

namespace Cert.ReferenceIdeal.At

open Cert.ReferenceIdeal Cert.ReferenceIdeal.Gen Cert.ReferenceIdeal.Value Cert.Rows Idealize.ShloMosaic Idealize.ShloMosaic.TcCoe

variable (V : Valuation τ sig (Elt Ideal))

/-- The negated half of the latent keys' turn. -/
def negK (A : FVec Ideal S2x2x8192x64 .f32) : FVec Ideal S2x2x8192x2x1x16 .f32 :=
  broadcastInDim S2x2x8192x2x1x16 ![0, 1, 2, 3, 5] bcast_S2x2x8192x2x16_S2x2x8192x2x1x16_0_1_2_3_5 (Host.negf (shapeCast _ (extractStridedSlice S2x2x8192x2x1x16 ![0, 0, 0, 0, 1, 0] (shapeCast _ A shapeCasts_S2x2x8192x64_S2x2x8192x2x2x16) slices_S2x2x8192x2x2x16_S2x2x8192x2x1x16_0_0_0_0_1_0) shapeCasts_S2x2x8192x2x1x16_S2x2x8192x2x16))

/-- The kept half of the latent keys' turn. -/
def posK (A : FVec Ideal S2x2x8192x64 .f32) : FVec Ideal S2x2x8192x2x1x16 .f32 :=
  broadcastInDim S2x2x8192x2x1x16 ![0, 1, 2, 3, 5] bcast_S2x2x8192x2x16_S2x2x8192x2x1x16_0_1_2_3_5 (shapeCast _ (extractStridedSlice S2x2x8192x2x1x16 ![0, 0, 0, 0, 0, 0] (shapeCast _ A shapeCasts_S2x2x8192x64_S2x2x8192x2x2x16) slices_S2x2x8192x2x2x16_S2x2x8192x2x1x16_0_0_0_0_0_0) shapeCasts_S2x2x8192x2x1x16_S2x2x8192x2x16)

/-- The latent keys' turn. -/
def rotK (A : FVec Ideal S2x2x8192x64 .f32) : FVec Ideal S2x2x8192x64 .f32 :=
  shapeCast _ (concatenate S2x2x8192x2x2x16 4 [⟨S2x2x8192x2x1x16, (negK A)⟩, ⟨S2x2x8192x2x1x16, (posK A)⟩] concatenates_S2x2x8192x2x1x16_S2x2x8192x2x1x16_S2x2x8192x2x2x16_d4) shapeCasts_S2x2x8192x2x2x16_S2x2x8192x64

/-- The negated half of the latent queries' turn. -/
def negQ (A : FVec Ideal S2x2x4x8192x64 .f32) : FVec Ideal S2x2x4x8192x2x1x16 .f32 :=
  broadcastInDim S2x2x4x8192x2x1x16 ![0, 1, 2, 3, 4, 6] bcast_S2x2x4x8192x2x16_S2x2x4x8192x2x1x16_0_1_2_3_4_6 (Host.negf (shapeCast _ (extractStridedSlice S2x2x4x8192x2x1x16 ![0, 0, 0, 0, 0, 1, 0] (shapeCast _ A shapeCasts_S2x2x4x8192x64_S2x2x4x8192x2x2x16) slices_S2x2x4x8192x2x2x16_S2x2x4x8192x2x1x16_0_0_0_0_0_1_0) shapeCasts_S2x2x4x8192x2x1x16_S2x2x4x8192x2x16))

/-- The kept half of the latent queries' turn. -/
def posQ (A : FVec Ideal S2x2x4x8192x64 .f32) : FVec Ideal S2x2x4x8192x2x1x16 .f32 :=
  broadcastInDim S2x2x4x8192x2x1x16 ![0, 1, 2, 3, 4, 6] bcast_S2x2x4x8192x2x16_S2x2x4x8192x2x1x16_0_1_2_3_4_6 (shapeCast _ (extractStridedSlice S2x2x4x8192x2x1x16 ![0, 0, 0, 0, 0, 0, 0] (shapeCast _ A shapeCasts_S2x2x4x8192x64_S2x2x4x8192x2x2x16) slices_S2x2x4x8192x2x2x16_S2x2x4x8192x2x1x16_0_0_0_0_0_0_0) shapeCasts_S2x2x4x8192x2x1x16_S2x2x4x8192x2x16)

/-- The latent queries' turn. -/
def rotQ (A : FVec Ideal S2x2x4x8192x64 .f32) : FVec Ideal S2x2x4x8192x64 .f32 :=
  shapeCast _ (concatenate S2x2x4x8192x2x2x16 5 [⟨S2x2x4x8192x2x1x16, (negQ A)⟩, ⟨S2x2x4x8192x2x1x16, (posQ A)⟩] concatenates_S2x2x4x8192x2x1x16_S2x2x4x8192x2x1x16_S2x2x4x8192x2x2x16_d5) shapeCasts_S2x2x4x8192x2x2x16_S2x2x4x8192x64

theorem negK_at (A : FVec Ideal S2x2x8192x64 .f32) (b g : Fin 2) (n : Fin 8192) (i : Fin 2) (l : Fin 16) :
    negK A (ix6 b g n i 0 l) = -A (ix4 b g n ⟨i.val * 32 + 16 + l.val, by omega⟩) := by
  pointwise [negK]

theorem posK_at (A : FVec Ideal S2x2x8192x64 .f32) (b g : Fin 2) (n : Fin 8192) (i : Fin 2) (l : Fin 16) :
    posK A (ix6 b g n i 0 l) = A (ix4 b g n ⟨i.val * 32 + l.val, by omega⟩) := by
  pointwise [posK]

theorem catK_at (A B : FVec Ideal S2x2x8192x2x1x16 .f32) (b g : Fin 2) (n : Fin 8192) (i j : Fin 2) (l : Fin 16) :
    concatenate S2x2x8192x2x2x16 4 [⟨S2x2x8192x2x1x16, A⟩, ⟨S2x2x8192x2x1x16, B⟩] concatenates_S2x2x8192x2x1x16_S2x2x8192x2x1x16_S2x2x8192x2x2x16_d4 (ix6 b g n i j l)
      = if j.val < 1 then A (ix6 b g n i 0 l) else B (ix6 b g n i 0 l) := by
  pointwise
  by_cases h : j.val < 1
  · rw [dif_pos h, if_pos h]; exact congrArg (fun t => A (ix6 b g n i t l)) (Subsingleton.elim _ _)
  · rw [dif_neg h, if_neg h]; exact congrArg (fun t => B (ix6 b g n i t l)) (Subsingleton.elim _ _)

/-- The latent keys' turn at an index. -/
theorem rotK_at (A : FVec Ideal S2x2x8192x64 .f32) (b g : Fin 2) (n : Fin 8192) (l : Fin 64) :
    rotK A (ix4 b g n l) = turn (fun i => A (ix4 b g n i)) l := by
  unfold rotK turn
  refine Eq.trans (b := concatenate S2x2x8192x2x2x16 4 [⟨S2x2x8192x2x1x16, negK A⟩, ⟨S2x2x8192x2x1x16, posK A⟩] concatenates_S2x2x8192x2x1x16_S2x2x8192x2x1x16_S2x2x8192x2x2x16_d4
    (ix6 b g n ⟨l.val / 32, by omega⟩ ⟨l.val / 16 % 2, by omega⟩ ⟨l.val % 16, by omega⟩)) ?_ ?_
  · show shapeCast (s := S2x2x8192x2x2x16) S2x2x8192x64 _ _ (ix4 b g n l) = _
    generalize concatenate S2x2x8192x2x2x16 4 _ _ = B
    pointwise
  · rw [catK_at, negK_at, posK_at]
    by_cases h : l.val % 32 < 16
    · rw [if_pos h, if_pos (by show l.val / 16 % 2 < 1; omega)]
      exact congrArg (fun t => -A (ix4 b g n t)) (Fin.ext (by show l.val / 32 * 32 + 16 + l.val % 16 = (l.val + 16) % 64; omega))
    · rw [if_neg h, if_neg (by show ¬ l.val / 16 % 2 < 1; omega)]
      exact congrArg (fun t => A (ix4 b g n t)) (Fin.ext (by show l.val / 32 * 32 + l.val % 16 = l.val - 16; omega))

theorem negQ_at (A : FVec Ideal S2x2x4x8192x64 .f32) (b g : Fin 2) (e : Fin 4) (n : Fin 8192) (i : Fin 2) (l : Fin 16) :
    negQ A (ix7 b g e n i 0 l) = -A (ix5 b g e n ⟨i.val * 32 + 16 + l.val, by omega⟩) := by
  pointwise [negQ]

theorem posQ_at (A : FVec Ideal S2x2x4x8192x64 .f32) (b g : Fin 2) (e : Fin 4) (n : Fin 8192) (i : Fin 2) (l : Fin 16) :
    posQ A (ix7 b g e n i 0 l) = A (ix5 b g e n ⟨i.val * 32 + l.val, by omega⟩) := by
  pointwise [posQ]

theorem catQ_at (A B : FVec Ideal S2x2x4x8192x2x1x16 .f32) (b g : Fin 2) (e : Fin 4) (n : Fin 8192) (i j : Fin 2) (l : Fin 16) :
    concatenate S2x2x4x8192x2x2x16 5 [⟨S2x2x4x8192x2x1x16, A⟩, ⟨S2x2x4x8192x2x1x16, B⟩] concatenates_S2x2x4x8192x2x1x16_S2x2x4x8192x2x1x16_S2x2x4x8192x2x2x16_d5 (ix7 b g e n i j l)
      = if j.val < 1 then A (ix7 b g e n i 0 l) else B (ix7 b g e n i 0 l) := by
  pointwise
  by_cases h : j.val < 1
  · rw [dif_pos h, if_pos h]; exact congrArg (fun t => A (ix7 b g e n i t l)) (Subsingleton.elim _ _)
  · rw [dif_neg h, if_neg h]; exact congrArg (fun t => B (ix7 b g e n i t l)) (Subsingleton.elim _ _)

/-- The latent queries' turn at an index. -/
theorem rotQ_at (A : FVec Ideal S2x2x4x8192x64 .f32) (b g : Fin 2) (e : Fin 4) (n : Fin 8192) (l : Fin 64) :
    rotQ A (ix5 b g e n l) = turn (fun i => A (ix5 b g e n i)) l := by
  unfold rotQ turn
  refine Eq.trans (b := concatenate S2x2x4x8192x2x2x16 5 [⟨S2x2x4x8192x2x1x16, negQ A⟩, ⟨S2x2x4x8192x2x1x16, posQ A⟩] concatenates_S2x2x4x8192x2x1x16_S2x2x4x8192x2x1x16_S2x2x4x8192x2x2x16_d5
    (ix7 b g e n ⟨l.val / 32, by omega⟩ ⟨l.val / 16 % 2, by omega⟩ ⟨l.val % 16, by omega⟩)) ?_ ?_
  · show shapeCast (s := S2x2x4x8192x2x2x16) S2x2x4x8192x64 _ _ (ix5 b g e n l) = _
    generalize concatenate S2x2x4x8192x2x2x16 5 _ _ = B
    pointwise
  · rw [catQ_at, negQ_at, posQ_at]
    by_cases h : l.val % 32 < 16
    · rw [if_pos h, if_pos (by show l.val / 16 % 2 < 1; omega)]
      exact congrArg (fun t => -A (ix5 b g e n t)) (Fin.ext (by show l.val / 32 * 32 + 16 + l.val % 16 = (l.val + 16) % 64; omega))
    · rw [if_neg h, if_neg (by show ¬ l.val / 16 % 2 < 1; omega)]
      exact congrArg (fun t => A (ix5 b g e n t)) (Fin.ext (by show l.val / 32 * 32 + l.val % 16 = l.val - 16; omega))

/-- Two terms of a rotation, at an index. -/
theorem combQ_at (A D : FVec Ideal S2x2x4x8192x64 .f32) (B C : FVec Ideal S8192x64 .f32) (b g : Fin 2) (e : Fin 4) (n : Fin 8192) (l : Fin 64) :
    addf (mulf A (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 B)))
      (mulf D (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 C))) (ix5 b g e n l)
      = A (ix5 b g e n l) * B (ix2 n l) + D (ix5 b g e n l) * C (ix2 n l) := by
  pointwise

theorem combK_at (A D : FVec Ideal S2x2x8192x64 .f32) (B C : FVec Ideal S8192x64 .f32) (b g : Fin 2) (n : Fin 8192) (l : Fin 64) :
    addf (mulf A (broadcastInDim S2x2x8192x64 ![0, 1, 2, 3] bcast_S1x1x8192x64_S2x2x8192x64_0_1_2_3 (broadcastInDim S1x1x8192x64 ![2, 3] bcast_S8192x64_S1x1x8192x64_2_3 B)))
      (mulf D (broadcastInDim S2x2x8192x64 ![0, 1, 2, 3] bcast_S1x1x8192x64_S2x2x8192x64_0_1_2_3 (broadcastInDim S1x1x8192x64 ![2, 3] bcast_S8192x64_S1x1x8192x64_2_3 C))) (ix4 b g n l)
      = A (ix4 b g n l) * B (ix2 n l) + D (ix4 b g n l) * C (ix2 n l) := by
  pointwise

theorem qRot_eq : qRot V = addf (mulf (nQ V) (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 (cosT V))))
    (mulf (rotQ (nQ V)) (broadcastInDim S2x2x4x8192x64 ![0, 1, 2, 3, 4] bcast_S1x1x1x8192x64_S2x2x4x8192x64_0_1_2_3_4 (broadcastInDim S1x1x1x8192x64 ![3, 4] bcast_S8192x64_S1x1x1x8192x64_3_4 (sinT V)))) := rfl

theorem kRot_eq : kRot V = addf (mulf (nK V) (broadcastInDim S2x2x8192x64 ![0, 1, 2, 3] bcast_S1x1x8192x64_S2x2x8192x64_0_1_2_3 (broadcastInDim S1x1x8192x64 ![2, 3] bcast_S8192x64_S1x1x8192x64_2_3 (cosT V))))
    (mulf (rotK (nK V)) (broadcastInDim S2x2x8192x64 ![0, 1, 2, 3] bcast_S1x1x8192x64_S2x2x8192x64_0_1_2_3 (broadcastInDim S1x1x8192x64 ![2, 3] bcast_S8192x64_S1x1x8192x64_2_3 (sinT V)))) := rfl

/-- The rotated latent queries at an index. -/
theorem qRot_at (b g : Fin 2) (e : Fin 4) (n : Fin 8192) (l : Fin 64) :
    qRot V (ix5 b g e n l) = nQ V (ix5 b g e n l) * cosT V (ix2 n l) + turn (fun i => nQ V (ix5 b g e n i)) l * sinT V (ix2 n l) :=
  (congrFun (qRot_eq V) _).trans ((combQ_at (nQ V) (rotQ (nQ V)) (cosT V) (sinT V) b g e n l).trans
    (congrArg (fun t => nQ V (ix5 b g e n l) * cosT V (ix2 n l) + t * sinT V (ix2 n l)) (rotQ_at (nQ V) b g e n l)))

/-- The rotated latent keys at an index. -/
theorem kRot_at (b g : Fin 2) (n : Fin 8192) (l : Fin 64) :
    kRot V (ix4 b g n l) = nK V (ix4 b g n l) * cosT V (ix2 n l) + turn (fun i => nK V (ix4 b g n i)) l * sinT V (ix2 n l) :=
  (congrFun (kRot_eq V) _).trans ((combK_at (nK V) (rotK (nK V)) (cosT V) (sinT V) b g n l).trans
    (congrArg (fun t => nK V (ix4 b g n l) * cosT V (ix2 n l) + t * sinT V (ix2 n l)) (rotK_at (nK V) b g n l)))

end Cert.ReferenceIdeal.At
-- ==== Proof.Attn.RefNorm.lean ====
module

public import proofs.«01_k».proof.Proof.Attn.RefDefs
public import proofs.«01_k».proof.Proof.Attn.Rows

/-! # The reference's normalised rows, at an index -/

@[expose] public section

set_option maxRecDepth 16384

noncomputable section

namespace Cert.ReferenceIdeal.At

open Cert.ReferenceIdeal Cert.ReferenceIdeal.Gen Cert.ReferenceIdeal.Value Cert.Rows Idealize.ShloMosaic Idealize.ShloMosaic.TcCoe

variable (V : Valuation τ sig (Elt Ideal))

/-- The latent queries. -/
theorem nQ_at (b g : Fin 2) (e : Fin 4) (n : Fin 8192) (l : Fin 64) :
    nQ V (ix5 b g e n l) = Rows.norm (fun i => aQ V (ix3 b ⟨256 + n.val, by omega⟩ ⟨g.val * 256 + e.val * 64 + i.val, by omega⟩)) (fun i => wQ V (ix1 i)) l
      * Ideal.ofBits .f32 1040187392#32 := by
  unfold Rows.norm aQ wQ
  pointwise [nQ, res_main_v42, res_main_v27]

/-- The context queries. -/
theorem qCtx_at (b g : Fin 2) (e : Fin 4) (n : Fin 256) (l : Fin 64) :
    qCtx V (ix5 b g e n l) = Rows.norm (fun i => aQ V (ix3 b ⟨n.val, by omega⟩ ⟨g.val * 256 + e.val * 64 + i.val, by omega⟩)) (fun i => wQ V (ix1 i)) l
      * Ideal.ofBits .f32 1040187392#32 := by
  unfold Rows.norm aQ wQ
  pointwise [qCtx, res_main_v132]

/-- The latent keys. -/
theorem nK_at (b g : Fin 2) (n : Fin 8192) (l : Fin 64) :
    nK V (ix4 b g n l) = Rows.norm (fun i => aK V (ix3 b ⟨256 + n.val, by omega⟩ ⟨g.val * 64 + i.val, by omega⟩)) (fun i => wK V (ix1 i)) l := by
  unfold Rows.norm aK wK
  pointwise [nK, res_main_v75, res_main_v62]

/-- The context keys. -/
theorem nKc_at (b g : Fin 2) (n : Fin 256) (l : Fin 64) :
    nKc V (ix4 b g n l) = Rows.norm (fun i => aK V (ix3 b ⟨n.val, by omega⟩ ⟨g.val * 64 + i.val, by omega⟩)) (fun i => wK V (ix1 i)) l := by
  unfold Rows.norm aK wK
  pointwise [nKc, res_main_v108, res_main_v95]

/-- The latent values. -/
theorem vLat_at (b g : Fin 2) (n : Fin 8192) (l : Fin 64) :
    vLat V (ix4 b g n l) = aV V (ix3 b ⟨256 + n.val, by omega⟩ ⟨g.val * 64 + l.val, by omega⟩) := by
  unfold aV
  pointwise [vLat]

/-- The context values. -/
theorem vCtx_at (b g : Fin 2) (n : Fin 256) (l : Fin 64) :
    vCtx V (ix4 b g n l) = aV V (ix3 b ⟨n.val, by omega⟩ ⟨g.val * 64 + l.val, by omega⟩) := by
  unfold aV
  pointwise [vCtx, res_main_v111]

end Cert.ReferenceIdeal.At
-- ==== Proof.Attn.RefTab.lean ====
module

public import proofs.«01_k».proof.Proof.Attn.RefDefs
public import proofs.«01_k».proof.Proof.Attn.Rows

/-! # The reference's tables of angles, at an index -/

@[expose] public section

set_option maxRecDepth 16384

noncomputable section

namespace Cert.ReferenceIdeal.At

open Cert.ReferenceIdeal Cert.ReferenceIdeal.Gen Cert.ReferenceIdeal.Value Cert.Rows Idealize.ShloMosaic Idealize.ShloMosaic.TcCoe

variable (V : Valuation τ sig (Elt Ideal))

/-- The angles by the rows. -/
def rowT : FVec Ideal S8192x16 .f32 := res_main_v16 V
/-- The angles by the columns. -/
def colT : FVec Ideal S8192x16 .f32 := res_main_v21 V
/-- All angles. -/
def angT : FVec Ideal S8192x64 .f32 := res_main_v22 V

theorem rowT_at (n : Fin 8192) (j : Fin 16) : rowT V (ix2 n j) = rowAngle n.val j.val := by
  unfold rowAngle freq
  pointwise [rowT, res_main_v16, res_main_v11]

theorem colT_at (n : Fin 8192) (j : Fin 16) : colT V (ix2 n j) = colAngle n.val j.val := by
  unfold colAngle freq column
  pointwise [colT, res_main_v21, res_main_v11, res_main_call0_v4, res_main_call0_v2, res_main_call0_v0]
  rw [show (id (constantI S_ 32 64#32) ix0 : BitVec 32) = 64#32 from rfl]

theorem angT_at (n : Fin 8192) (l : Fin 64) : angT V (ix2 n l) = angle n.val l.val := by
  have h : angT V (ix2 n l) = if h : l.val < 16 then rowT V (ix2 n ⟨l.val, by omega⟩) else if h : l.val - 16 < 16 then rowT V (ix2 n ⟨l.val - 16, by omega⟩)
      else if h : l.val - 16 - 16 < 16 then colT V (ix2 n ⟨l.val - 16 - 16, by omega⟩) else colT V (ix2 n ⟨l.val - 16 - 16 - 16, by omega⟩) := by
    unfold angT
    change (res_main_v22 V : FVec Ideal S8192x64 .f32) _ = _
    unfold res_main_v22
    change concatenate S8192x64 1 [⟨S8192x16, rowT V⟩, ⟨S8192x16, rowT V⟩, ⟨S8192x16, colT V⟩, ⟨S8192x16, colT V⟩] _ _ = _
    generalize rowT V = A
    generalize colT V = B
    pointwise
  rw [h]
  unfold angle
  split_ifs
  · exact rowT_at _ _ _
  · exact rowT_at _ _ _
  · exact colT_at _ _ _
  · exact colT_at _ _ _

theorem cosT_at (n : Fin 8192) (l : Fin 64) : cosT V (ix2 n l) = Ideal.cos (angle n.val l.val) := by
  rw [← angT_at V]
  rfl

theorem sinT_at (n : Fin 8192) (l : Fin 64) : sinT V (ix2 n l) = Ideal.sin (angle n.val l.val) := by
  rw [← angT_at V]
  rfl

end Cert.ReferenceIdeal.At
-- ==== Proof.Attn.RefSoft.lean ====
module

public import proofs.«01_k».proof.Proof.Attn.RefDefs
public import proofs.«01_k».proof.Proof.Attn.Rows

/-! # The reference's scores and weighted means, at an index -/

@[expose] public section

set_option maxRecDepth 16384

noncomputable section

namespace Cert.ReferenceIdeal.At

open Cert.ReferenceIdeal Cert.ReferenceIdeal.Gen Cert.ReferenceIdeal.Value Cert.Rows Idealize.ShloMosaic Idealize.ShloMosaic.TcCoe

variable (V : Valuation τ sig (Elt Ideal))

/-- A score of the latent rows. -/
theorem sLat_at (A : FVec Ideal S2x2x4x8192x64 .f32) (B : FVec Ideal S2x2x8448x64 .f32) (b g : Fin 2) (e : Fin 4) (n : Fin 8192) (k : Fin 8448) :
    sLat A B (ix5 b g e n k) = ∑ x : Fin 64, A (ix5 b g e n x) * B (ix4 b g k x) := by
  pointwise [sLat]

theorem maxLat_at (A : FVec Ideal S2x2x4x8192x8448 .f32) (b g : Fin 2) (e : Fin 4) (n : Fin 8192) :
    Host.reduce FloatOps.maximumf A (constant S_ .f32 0xFF800000#32) reducesTo_S2x2x4x8192x8448_S2x2x4x8192_d4 h_S_ (ix4 b g e n)
      = Finset.univ.fold max (Ideal.ofBits .f32 0xFF800000#32) (fun k => A (ix5 b g e n k)) := by
  pointwise

theorem expLat_at (A : FVec Ideal S2x2x4x8192x8448 .f32) (M : FVec Ideal S2x2x4x8192 .f32) (b g : Fin 2) (e : Fin 4) (n : Fin 8192) (k : Fin 8448) :
    Host.exp (subf A (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (maximumf (broadcastInDim S2x2x4x8192 ![] bcast_S_S2x2x4x8192 (constant S_ .f32 0xFF800000#32)) M)))) (ix5 b g e n k)
      = Ideal.exp (A (ix5 b g e n k) - max (Ideal.ofBits .f32 0xFF800000#32) (M (ix4 b g e n))) := by
  pointwise

/-- An exponential of the latent rows. -/
theorem eLat_at (A : FVec Ideal S2x2x4x8192x8448 .f32) (b g : Fin 2) (e : Fin 4) (n : Fin 8192) (k : Fin 8448) :
    eLat A (ix5 b g e n k) = Ideal.exp (A (ix5 b g e n k) - max (Ideal.ofBits .f32 0xFF800000#32) (Finset.univ.fold max (Ideal.ofBits .f32 0xFF800000#32) (fun k => A (ix5 b g e n k)))) := by
  rw [← maxLat_at]
  exact expLat_at A _ b g e n k

theorem oLat_sum (E : FVec Ideal S2x2x4x8192x8448 .f32) (B : FVec Ideal S2x2x8448x64 .f32) (b g : Fin 2) (e : Fin 4) (n : Fin 8192) (l : Fin 64) :
    oLat E B (ix5 b g e n l) = ∑ j : Fin 8448, Ideal.div (E (ix5 b g e n j)) (∑ i : Fin 8448, E (ix5 b g e n i)) * B (ix4 b g j l) := by
  pointwise [oLat]

/-- A result of the latent rows. -/
theorem oLat_at (A : FVec Ideal S2x2x4x8192x8448 .f32) (B : FVec Ideal S2x2x8448x64 .f32) (b g : Fin 2) (e : Fin 4) (n : Fin 8192) (l : Fin 64) :
    oLat (eLat A) B (ix5 b g e n l) = mean (fun j => A (ix5 b g e n j)) (fun j => B (ix4 b g j l)) := by
  rw [oLat_sum]
  simp only [eLat_at]
  rfl

/-- A score of the context rows. -/
theorem sCtx_at (A : FVec Ideal S2x2x4x256x64 .f32) (B : FVec Ideal S2x2x256x64 .f32) (b g : Fin 2) (e : Fin 4) (n : Fin 256) (k : Fin 256) :
    sCtx A B (ix5 b g e n k) = ∑ x : Fin 64, A (ix5 b g e n x) * B (ix4 b g k x) := by
  pointwise [sCtx]

theorem maxCtx_at (A : FVec Ideal S2x2x4x256x256 .f32) (b g : Fin 2) (e : Fin 4) (n : Fin 256) :
    Host.reduce FloatOps.maximumf A (constant S_ .f32 0xFF800000#32) reducesTo_S2x2x4x256x256_S2x2x4x256_d4 h_S_ (ix4 b g e n)
      = Finset.univ.fold max (Ideal.ofBits .f32 0xFF800000#32) (fun k => A (ix5 b g e n k)) := by
  pointwise

theorem expCtx_at (A : FVec Ideal S2x2x4x256x256 .f32) (M : FVec Ideal S2x2x4x256 .f32) (b g : Fin 2) (e : Fin 4) (n : Fin 256) (k : Fin 256) :
    Host.exp (subf A (broadcastInDim S2x2x4x256x256 ![0, 1, 2, 3, 4] bcast_S2x2x4x256x1_S2x2x4x256x256_0_1_2_3_4 (broadcastInDim S2x2x4x256x1 ![0, 1, 2, 3] bcast_S2x2x4x256_S2x2x4x256x1_0_1_2_3 (maximumf (broadcastInDim S2x2x4x256 ![] bcast_S_S2x2x4x256 (constant S_ .f32 0xFF800000#32)) M)))) (ix5 b g e n k)
      = Ideal.exp (A (ix5 b g e n k) - max (Ideal.ofBits .f32 0xFF800000#32) (M (ix4 b g e n))) := by
  pointwise

/-- An exponential of the context rows. -/
theorem eCtx_at (A : FVec Ideal S2x2x4x256x256 .f32) (b g : Fin 2) (e : Fin 4) (n : Fin 256) (k : Fin 256) :
    eCtx A (ix5 b g e n k) = Ideal.exp (A (ix5 b g e n k) - max (Ideal.ofBits .f32 0xFF800000#32) (Finset.univ.fold max (Ideal.ofBits .f32 0xFF800000#32) (fun k => A (ix5 b g e n k)))) := by
  rw [← maxCtx_at]
  exact expCtx_at A _ b g e n k

theorem oCtx_sum (E : FVec Ideal S2x2x4x256x256 .f32) (B : FVec Ideal S2x2x256x64 .f32) (b g : Fin 2) (e : Fin 4) (n : Fin 256) (l : Fin 64) :
    oCtx E B (ix5 b g e n l) = ∑ j : Fin 256, Ideal.div (E (ix5 b g e n j)) (∑ i : Fin 256, E (ix5 b g e n i)) * B (ix4 b g j l) := by
  pointwise [oCtx]

/-- A result of the context rows. -/
theorem oCtx_at (A : FVec Ideal S2x2x4x256x256 .f32) (B : FVec Ideal S2x2x256x64 .f32) (b g : Fin 2) (e : Fin 4) (n : Fin 256) (l : Fin 64) :
    oCtx (eCtx A) B (ix5 b g e n l) = mean (fun j => A (ix5 b g e n j)) (fun j => B (ix4 b g j l)) := by
  rw [oCtx_sum]
  simp only [eCtx_at]
  rfl

/-- The keys, or values, of all rows. -/
theorem kAll_at (A : FVec Ideal S2x2x8192x64 .f32) (B : FVec Ideal S2x2x256x64 .f32) (b g : Fin 2) (n : Fin 8448) (l : Fin 64) :
    kAll A B (ix4 b g n l) = if h : n.val < 8192 then A (ix4 b g ⟨n.val, h⟩ l) else B (ix4 b g ⟨n.val - 8192, by omega⟩ l) := by
  pointwise [kAll]

/-- The result's entries. -/
theorem pack_at (A : FVec Ideal S2x2x4x256x64 .f32) (B : FVec Ideal S2x2x4x8192x64 .f32) (b : Fin 2) (n : Fin 8448) (a : Fin 1024) :
    pack A B (ix3 b n a) = if h : a.val % 128 < 64 then
      (if k : n.val < 256 then A (ix5 b ⟨a.val / 512, by omega⟩ ⟨a.val / 128 % 4, by omega⟩ ⟨n.val, k⟩ ⟨a.val % 128, h⟩)
        else B (ix5 b ⟨a.val / 512, by omega⟩ ⟨a.val / 128 % 4, by omega⟩ ⟨n.val - 256, by omega⟩ ⟨a.val % 128, h⟩)) else 0 := by
  have key : pack A B (ix3 b n a) = if h : a.val / 512 < 2 ∧ a.val / 128 % 4 < 4 ∧ a.val % 128 < 64 then
      (if k : n.val < 256 then A (ix5 b ⟨a.val / 512, by omega⟩ ⟨a.val / 128 % 4, by omega⟩ ⟨n.val, k⟩ ⟨a.val % 128, h.2.2⟩)
        else B (ix5 b ⟨a.val / 512, by omega⟩ ⟨a.val / 128 % 4, by omega⟩ ⟨n.val - 256, by omega⟩ ⟨a.val % 128, h.2.2⟩)) else FloatOps.sitofp .f32 0#32 := by
    pointwise [pack]
  rw [key]
  by_cases h : a.val % 128 < 64
  · rw [dif_pos h, dif_pos ⟨by omega, by omega, h⟩]
  · rw [dif_neg h, dif_neg fun k => h k.2.2]
    show ((((0#32 : BitVec 32).toInt : ℝ)) : EReal) = 0
    simp

end Cert.ReferenceIdeal.At
-- ==== Proof.Attn.RefValue.lean ====
module

public import proofs.«01_k».proof.Proof.Attn.Target
public import proofs.«01_k».proof.Proof.Attn.Turn
public import proofs.«01_k».proof.Proof.Attn.RefNorm
public import proofs.«01_k».proof.Proof.Attn.RefTab
public import proofs.«01_k».proof.Proof.Attn.RefSoft

/-! # The reference's result, over real queries and keys -/

@[expose] public section

set_option maxRecDepth 16384

noncomputable section

namespace Cert.ReferenceIdeal.At

open Cert.ReferenceIdeal Cert.ReferenceIdeal.Gen Cert.ReferenceIdeal.Value Cert.Rows Idealize.ShloMosaic Idealize.ShloMosaic.TcCoe

variable (V : Valuation τ sig (Elt Ideal))
variable (xq : Fin 2 → Fin 8448 → Fin 512 → ℝ) (xk : Fin 2 → Fin 8448 → Fin 128 → ℝ) (wq wk : Fin 64 → ℝ)

/-- The head that group `g` and member `e` name. -/
def headGE (g : Fin 2) (e : Fin 4) : Fin 8 := ⟨g.val * 4 + e.val, by omega⟩

theorem group_headGE (g : Fin 2) (e : Fin 4) : group (headGE g e) = g := Fin.ext (by show (g.val * 4 + e.val) / 4 = g.val; omega)

theorem norm8 (x w : Fin 64 → ℝ) (l : Fin 64) :
    Rows.norm (fun i => ((x i : ℝ) : EReal)) (fun i => ((w i : ℝ) : EReal)) l * Ideal.ofBits .f32 1040187392#32 = ((normR x (fun i => w i * (1 / 8)) l : ℝ) : EReal) := by
  rw [norm_coe, c8inv, ← EReal.coe_mul]
  unfold normR
  rw [mul_assoc]

/-- A rotated row of reals. -/
theorem rot_coe (x w : Fin 64 → ℝ) (n : ℕ) (l : Fin 64) :
    ((normR x w l : ℝ) : EReal) * Ideal.cos (angle n l.val) + turn (fun i => ((normR x w i : ℝ) : EReal)) l * Ideal.sin (angle n l.val)
      = ((laneR x w (256 + n) l : ℝ) : EReal) := by
  have hc : Ideal.cos (angle n l.val) = ((cosR (256 + n) l.val : ℝ) : EReal) := by
    rw [← cosAt_eq]; unfold cosAt; rw [if_neg (by omega), Nat.add_sub_cancel_left]
  have hs : Ideal.sin (angle n l.val) = ((sinR (256 + n) l.val : ℝ) : EReal) := by
    rw [← sinAt_eq]; unfold sinAt; rw [if_neg (by omega), Nat.add_sub_cancel_left]
  rw [hc, hs, turn_coe, ← EReal.coe_mul, ← EReal.coe_mul, ← EReal.coe_add]
  rfl

section

variable (hq : ∀ b n i, aQ V (ix3 b n i) = ((xq b n i : ℝ) : EReal)) (hk : ∀ b n i, aK V (ix3 b n i) = ((xk b n i : ℝ) : EReal))
  (hwq : ∀ i, wQ V (ix1 i) = ((wq i : ℝ) : EReal)) (hwk : ∀ i, wK V (ix1 i) = ((wk i : ℝ) : EReal))

include hq hwq in
theorem nQ_real (b g : Fin 2) (e : Fin 4) (n : Fin 8192) (l : Fin 64) :
    nQ V (ix5 b g e n l) = ((normR (qHead xq b ⟨256 + n.val, by omega⟩ (headGE g e)) (fun i => wq i * (1 / 8)) l : ℝ) : EReal) := by
  rw [nQ_at, ← norm8]
  simp only [hq, hwq]
  have h : ∀ i : Fin 64, (⟨g.val * 256 + e.val * 64 + i.val, by omega⟩ : Fin 512) = ⟨(headGE g e).val * 64 + i.val, by have := (headGE g e).isLt; omega⟩ :=
    fun i => Fin.ext (by show g.val * 256 + e.val * 64 + i.val = (g.val * 4 + e.val) * 64 + i.val; omega)
  simp only [h]
  rfl

include hq hwq in
theorem qCtx_real (b g : Fin 2) (e : Fin 4) (n : Fin 256) (l : Fin 64) :
    qCtx V (ix5 b g e n l) = ((laneR (qHead xq b ⟨n.val, by omega⟩ (headGE g e)) (fun i => wq i * (1 / 8)) n.val l : ℝ) : EReal) := by
  rw [qCtx_at, laneR_ctx _ _ n.isLt, ← norm8]
  simp only [hq, hwq]
  have h : ∀ i : Fin 64, (⟨g.val * 256 + e.val * 64 + i.val, by omega⟩ : Fin 512) = ⟨(headGE g e).val * 64 + i.val, by have := (headGE g e).isLt; omega⟩ :=
    fun i => Fin.ext (by show g.val * 256 + e.val * 64 + i.val = (g.val * 4 + e.val) * 64 + i.val; omega)
  simp only [h]
  rfl

include hk hwk in
theorem nK_real (b g : Fin 2) (n : Fin 8192) (l : Fin 64) :
    nK V (ix4 b g n l) = ((normR (kHead xk b ⟨256 + n.val, by omega⟩ g) wk l : ℝ) : EReal) := by
  rw [nK_at, ← norm_coe]
  simp only [hk, hwk]
  rfl

include hk hwk in
theorem nKc_real (b g : Fin 2) (n : Fin 256) (l : Fin 64) :
    nKc V (ix4 b g n l) = ((laneR (kHead xk b ⟨n.val, by omega⟩ g) wk n.val l : ℝ) : EReal) := by
  rw [nKc_at, laneR_ctx _ _ n.isLt, ← norm_coe]
  simp only [hk, hwk]
  rfl

include hq hwq in
theorem qRot_real (b g : Fin 2) (e : Fin 4) (n : Fin 8192) (l : Fin 64) :
    qRot V (ix5 b g e n l) = ((laneR (qHead xq b ⟨256 + n.val, by omega⟩ (headGE g e)) (fun i => wq i * (1 / 8)) (256 + n.val) l : ℝ) : EReal) := by
  rw [qRot_at, cosT_at, sinT_at, ← rot_coe]
  simp only [nQ_real V xq wq hq hwq]

include hk hwk in
theorem kRot_real (b g : Fin 2) (n : Fin 8192) (l : Fin 64) :
    kRot V (ix4 b g n l) = ((laneR (kHead xk b ⟨256 + n.val, by omega⟩ g) wk (256 + n.val) l : ℝ) : EReal) := by
  rw [kRot_at, cosT_at, sinT_at, ← rot_coe]
  simp only [nK_real V xk wk hk hwk]

include hk hwk in
theorem keys_real (b g : Fin 2) (j : Fin 8448) (l : Fin 64) :
    kAll (kRot V) (nKc V) (ix4 b g j l) = ((laneR (kHead xk b (latKey j) g) wk (latKey j).val l : ℝ) : EReal) := by
  rw [kAll_at]
  by_cases h : j.val < 8192
  · rw [dif_pos h, kRot_real V xk wk hk hwk]
    have e : latKey j = ⟨256 + j.val, by omega⟩ := Fin.ext (by simp only [latKey, Equiv.coe_fn_mk, dif_pos h]; omega)
    rw [e]
  · rw [dif_neg h, nKc_real V xk wk hk hwk]
    have e : latKey j = ⟨j.val - 8192, by omega⟩ := Fin.ext (by simp only [latKey, Equiv.coe_fn_mk, dif_neg h])
    rw [e]

theorem values_all (b g : Fin 2) (j : Fin 8448) (l : Fin 64) :
    kAll (vLat V) (vCtx V) (ix4 b g j l) = aV V (ix3 b (latKey j) ⟨g.val * 64 + l.val, by omega⟩) := by
  rw [kAll_at]
  by_cases h : j.val < 8192
  · rw [dif_pos h, vLat_at]
    have e : latKey j = ⟨256 + j.val, by omega⟩ := Fin.ext (by simp only [latKey, Equiv.coe_fn_mk, dif_pos h]; omega)
    rw [e]
  · rw [dif_neg h, vCtx_at]
    have e : latKey j = ⟨j.val - 8192, by omega⟩ := Fin.ext (by simp only [latKey, Equiv.coe_fn_mk, dif_neg h])
    rw [e]

include hq hk hwq hwk in
theorem scores_lat (b g : Fin 2) (e : Fin 4) (n : Fin 8192) (j : Fin 8448) :
    sLat (qRot V) (kAll (kRot V) (nKc V)) (ix5 b g e n j) = ((sigma xq xk wq wk b ⟨256 + n.val, by omega⟩ (headGE g e) (latKey j) : ℝ) : EReal) := by
  rw [sLat_at]
  unfold sigma
  rw [Cert.AttnMath.coe_sum]
  refine Finset.sum_congr rfl fun i _ => ?_
  rw [qRot_real V xq wq hq hwq, keys_real V xk wk hk hwk, EReal.coe_mul, group_headGE]

include hq hk hwq hwk in
theorem scores_ctx (b g : Fin 2) (e : Fin 4) (n j : Fin 256) :
    sCtx (qCtx V) (nKc V) (ix5 b g e n j) = ((sigma xq xk wq wk b ⟨n.val, by omega⟩ (headGE g e) (ctxKey j) : ℝ) : EReal) := by
  rw [sCtx_at]
  unfold sigma
  rw [Cert.AttnMath.coe_sum]
  refine Finset.sum_congr rfl fun i _ => ?_
  rw [qCtx_real V xq wq hq hwq, nKc_real V xk wk hk hwk, EReal.coe_mul, group_headGE]
  rfl

theorem result_eq : result V = pack (oCtx (eCtx (sCtx (qCtx V) (nKc V))) (vCtx V)) (oLat (eLat (sLat (qRot V) (kAll (kRot V) (nKc V)))) (kAll (vLat V) (vCtx V))) := rfl

include hq hk hwq hwk in
/-- The reference's result at an index. -/
theorem result_at (b : Fin 2) (n : Fin 8448) (a : Fin 1024) : result V (ix3 b n a) =
    if h : a.val % 128 < 64 then target xq xk wq wk (fun b n i => aV V (ix3 b n i)) b n ⟨a.val / 128, by omega⟩ ⟨a.val % 128, h⟩ else 0 := by
  rw [result_eq, pack_at]
  by_cases h : a.val % 128 < 64
  · rw [dif_pos h, dif_pos h]
    have hh : headGE ⟨a.val / 512, by omega⟩ ⟨a.val / 128 % 4, by omega⟩ = ⟨a.val / 128, by omega⟩ :=
      Fin.ext (by show a.val / 512 * 4 + a.val / 128 % 4 = a.val / 128; omega)
    unfold target
    by_cases hn : n.val < 256
    · rw [dif_pos hn, if_pos hn, oCtx_at]
      simp only [scores_ctx V xq xk wq wk hq hk hwq hwk, hh, vCtx_at]
      have hg : ∀ j : Fin 64, (⟨a.val / 512 * 64 + j.val, by omega⟩ : Fin 128) = ⟨(group ⟨a.val / 128, by omega⟩).val * 64 + j.val, by have := (group ⟨a.val / 128, by omega⟩).isLt; omega⟩ :=
        fun j => Fin.ext (by show a.val / 512 * 64 + j.val = a.val / 128 / 4 * 64 + j.val; omega)
      have hg' := hg ⟨a.val % 128, h⟩
      simp only at hg'
      rw [hg']
      rfl
    · rw [dif_neg hn, if_neg hn, oLat_at]
      have hn' : (⟨256 + (n.val - 256), by omega⟩ : Fin 8448) = n := Fin.ext (by show 256 + (n.val - 256) = n.val; omega)
      simp only [scores_lat V xq xk wq wk hq hk hwq hwk, hh, values_all, hn']
      have hg : ∀ j : Fin 64, (⟨a.val / 512 * 64 + j.val, by omega⟩ : Fin 128) = ⟨(group ⟨a.val / 128, by omega⟩).val * 64 + j.val, by have := (group ⟨a.val / 128, by omega⟩).isLt; omega⟩ :=
        fun j => Fin.ext (by show a.val / 512 * 64 + j.val = a.val / 128 / 4 * 64 + j.val; omega)
      have hg' := hg ⟨a.val % 128, h⟩
      simp only at hg'
      rw [hg']
  · rw [dif_neg h, dif_neg h]

end

end Cert.ReferenceIdeal.At
-- ==== Proof.Attn.Run.lean ====
module

public import proofs.«01_k».proof.Proof.Gen.KernelIdeal.Frame
public import proofs.«01_k».proof.Proof.Attn.Scores
public import proofs.«01_k».proof.Proof.Attn.Arrays
public import proofs.«01_k».proof.Proof.Attn.Host
public import Idealize.ShloMosaic.Adequacy
public import Idealize.ShloMosaic.Init

/-! # The kernel's run: what its result array holds at the end -/

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Arrays Cert.KernelIdeal.Scores Cert.KernelIdeal.HostAt

/-- The machine's resources. -/
local notation "𝕄" => MT nD τ sig Unit (Elt Ideal) ℕ (UR sig nD τ) ℕ

variable (m : (ℓ : Loc nD τ sig) → Buf (Elt Ideal) ℓ) (ρ : Dev nD → PrngReg)

/-- The result array at the end of the run. -/
def final (c : Dev nD) : FVec Ideal S2x8448x1024 .f32 :=
  attnArr (qArr (pQ m ρ c) (pwQ m ρ c) (pCos m ρ c) (pSin m ρ c)) (kArr (pK m ρ c) (pwK m ρ c) (pCos m ρ c) (pSin m ρ c)) (vArr (pV m ρ c))

/-- The second call's result array, from the first call's results. -/
theorem W19_result (c : Dev nD) : W19 m ρ c (Proc.devRef .tc main_v41) = final m ρ c := by
  refine (W19_arr m ρ c 3).trans ((arr1_3 (V18 m ρ) c).trans ?_)
  have h0 : V18 m ρ c main_v40_0 = qArr (pQ m ρ c) (pwQ m ρ c) (pCos m ρ c) (pSin m ρ c) := (W18_arr m ρ c 7).trans (arr0_7 (V17 m ρ) c)
  have h1 : V18 m ρ c main_v40_1 = kArr (pK m ρ c) (pwK m ρ c) (pCos m ρ c) (pSin m ρ c) := (W18_arr m ρ c 8).trans (arr0_8 (V17 m ρ) c)
  have h2 : V18 m ρ c main_v40_2 = vArr (pV m ρ c) := (W18_arr m ρ c 9).trans (arr0_9 (V17 m ρ) c)
  rw [h0, h1, h2]
  rfl

set_option backward.isDefEq.respectTransparency.types false in
/-- The kernel runs from any launch, ends with its result array at `final` and its arguments unchanged. -/
theorem run : θ_run defs (onTc (τ := τ) (main (F := Ideal))) ⟨m, fun _ => 0, ρ⟩ (fun r => ∀ c : Dev nD,
      r.2.mem ((c.tc : Thread nD τ).loc main_v41) = final m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => fun c =>
      ⟨(h c _ (mem_uc main_v41 (by decide))).trans (W19_result m ρ c),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c)⟩)

end Cert.KernelIdeal.Run
-- ==== Proof.Attn.Value.lean ====
module

public import proofs.«01_k».proof.Defs
public import proofs.«01_k».proof.Proof.Attn.Finite
public import proofs.«01_k».proof.Proof.Attn.KerValue
public import proofs.«01_k».proof.Proof.Attn.RefValue
public import proofs.«01_k».proof.Proof.Attn.Run

/-! # The attention: the kernel's result is the reference's -/

@[expose] public section

set_option maxRecDepth 16384

noncomputable section

namespace Cert.AttnValue

open Idealize.ShloMosaic Idealize.ShloMosaic.TcCoe Idealize.SL.Sem

/-- The reference's run ends with its result at `At.result` of the launch, and its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v164) = Cert.ReferenceIdeal.At.result (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  Cert.ReferenceIdeal.Value.run m ρ

/-- From equal real arguments, the two results are equal. -/
theorem results_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V : Valuation Cert.ReferenceIdeal.τ Cert.ReferenceIdeal.sig (Elt Ideal))
    (e0 : Cert.ReferenceIdeal.At.aQ V = Cert.KernelIdeal.HostAt.aQ m ρ c) (e1 : Cert.ReferenceIdeal.At.aK V = Cert.KernelIdeal.HostAt.aK m ρ c)
    (e2 : Cert.ReferenceIdeal.At.aV V = Cert.KernelIdeal.HostAt.aV m ρ c) (e3 : Cert.ReferenceIdeal.At.wQ V = Cert.KernelIdeal.HostAt.wQ m ρ c)
    (e4 : Cert.ReferenceIdeal.At.wK V = Cert.KernelIdeal.HostAt.wK m ρ c)
    (h0 : ∀ i, Cert.KernelIdeal.HostAt.aQ m ρ c i = (((Cert.KernelIdeal.HostAt.aQ m ρ c i : EReal).toReal : ℝ) : EReal))
    (h1 : ∀ i, Cert.KernelIdeal.HostAt.aK m ρ c i = (((Cert.KernelIdeal.HostAt.aK m ρ c i : EReal).toReal : ℝ) : EReal))
    (h3 : ∀ i, Cert.KernelIdeal.HostAt.wQ m ρ c i = (((Cert.KernelIdeal.HostAt.wQ m ρ c i : EReal).toReal : ℝ) : EReal))
    (h4 : ∀ i, Cert.KernelIdeal.HostAt.wK m ρ c i = (((Cert.KernelIdeal.HostAt.wK m ρ c i : EReal).toReal : ℝ) : EReal)) :
    Cert.ReferenceIdeal.At.result V = Cert.KernelIdeal.Run.final m ρ c := by
  funext j
  have hr := Cert.ReferenceIdeal.At.result_at V (fun b n i => (Cert.KernelIdeal.HostAt.aQ m ρ c (ix3 b n i) : EReal).toReal)
    (fun b n i => (Cert.KernelIdeal.HostAt.aK m ρ c (ix3 b n i) : EReal).toReal) (fun i => (Cert.KernelIdeal.HostAt.wQ m ρ c (ix1 i) : EReal).toReal)
    (fun i => (Cert.KernelIdeal.HostAt.wK m ρ c (ix1 i) : EReal).toReal)
    (fun b n i => (congrFun e0 _).trans (h0 _)) (fun b n i => (congrFun e1 _).trans (h1 _)) (fun i => (congrFun e3 _).trans (h3 _)) (fun i => (congrFun e4 _).trans (h4 _))
  have hk := Cert.KernelIdeal.KerValue.attn_at m ρ c (fun b n i => (Cert.KernelIdeal.HostAt.aQ m ρ c (ix3 b n i) : EReal).toReal)
    (fun b n i => (Cert.KernelIdeal.HostAt.aK m ρ c (ix3 b n i) : EReal).toReal) (fun i => (Cert.KernelIdeal.HostAt.wQ m ρ c (ix1 i) : EReal).toReal)
    (fun i => (Cert.KernelIdeal.HostAt.wK m ρ c (ix1 i) : EReal).toReal)
    (fun b n i => h0 _) (fun b n i => h1 _) (fun i => h3 _) (fun i => h4 _)
  rw [e2] at hr
  obtain ⟨b, n, a, rfl⟩ : ∃ (b : Fin 2) (n : Fin 8448) (a : Fin 1024), j = ix3 b n a := ⟨j 0, j 1, j 2, by funext k; fin_cases k <;> rfl⟩
  exact (hr b n a).trans (hk b n a).symm

/-- The side conditions of the two programs' shapes, as the generated modules give them. -/
theorem algebraic : Cert.algebraic_KernelIdeal_ReferenceIdeal_pre_finite (hKernelIdeal := Cert.KernelIdeal.Gen.facts) (hReferenceIdeal := Cert.ReferenceIdeal.Gen.facts)
    (hPre_finite := Cert.Finite.facts) := by
  intro m g m' g' hpre hargs
  refine ⟨fun c => Cert.KernelIdeal.Run.final m g c, Cert.KernelIdeal.Run.run m g, ?_⟩
  refine (θ_run _ _ _).mono (fun r h c => ?_) (ref_run m' g')
  obtain ⟨a0, a1, a2, a3, a4⟩ := hargs c
  obtain ⟨h0, h1, h3, h4⟩ := @Cert.Finite.parts Cert.Finite.facts _ _ _ _ _ (hpre c)
  exact ⟨(h c).1.trans (results_eq m g c (StableHlo.launchContents m' c) a0 a1 a2 a3 a4 h0 h1 h3 h4), (h c).2⟩

end Cert.AttnValue
-- ==== Proof.Ffn.Runs.lean ====
/- The experts' feed-forward call: where its body clears and stores, its buffers at a point, and its accumulator. -/
module

public import proofs.«01_k».proof.Proof.Gen.Kernel2Ideal.Frame
public import proofs.«01_k».proof.Proof.Gen.Kernel2Ideal.Skeleton

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the accumulator: the second grid coordinate is 0. -/
abbrev cond0_0 (i : grid0.Coords) : Prop := (Scalar.cmpi .ne (Scalar.extui (Scalar.cmpi .eq (BitVec.ofNat 32 (i 1).val) 0#32)) 0#32) = 1#1
/-- That is at the points divisible by 11. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The body stores the result: the second grid coordinate is 10. -/
abbrev cond0_1 (i : grid0.Coords) : Prop := k0_cond2 i = 1#1
/-- That is at the points 10 modulo 11. -/
theorem hcond0_1 : ∀ t : Fin cfg0.N, cond0_1 (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- At a clearing point the result window is idle -/
theorem idleAt0_5_A : ∀ t : Fin cfg0.N, cond0_0 (grid0.coords t) → ¬cond0_1 (grid0.coords t) → cfg0.idle 5 (grid0.coords t) = true := by decide +kernel
/-- and is not written back. -/
theorem noFlush0_5_A : ∀ t : Fin cfg0.N, cond0_0 (grid0.coords t) → ¬cond0_1 (grid0.coords t) → (cfg0.win 5).flush t = false := by decide +kernel
/-- Between, the result window is idle -/
theorem idleAt0_5_B : ∀ t : Fin cfg0.N, ¬cond0_0 (grid0.coords t) → ¬cond0_1 (grid0.coords t) → cfg0.idle 5 (grid0.coords t) = true := by decide +kernel
/-- and is not written back. -/
theorem noFlush0_5_B : ∀ t : Fin cfg0.N, ¬cond0_0 (grid0.coords t) → ¬cond0_1 (grid0.coords t) → (cfg0.win 5).flush t = false := by decide +kernel
/-- At a storing point the result window is live. -/
theorem liveAt0_5_C : ∀ t : Fin cfg0.N, ¬cond0_0 (grid0.coords t) → cond0_1 (grid0.coords t) → cfg0.idle 5 (grid0.coords t) = false := by decide +kernel

/-- One buffer of the result window, through which its contents are stated. -/
abbrev VO0_5 : View sig .tc .vmem S1x17408x128 .f32 := (Memref.whole cc0_stg5_0 : Memref sig .tc .vmem S1x17408x128 .f32).view
/-- The windows' current buffers at a point, each a whole buffer. -/
abbrev ms0_0 (t : Fin cfg0.N) : Memref sig .tc .vmem S1x2112x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2112x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x17408x128 .f32 := win0_5.stage (cfg0.slots t 5)
abbrev hs0_5 (t : Fin cfg0.N) : (ms0_5 t).IsWhole := hstage0_5 ((cfg0.slots t 5).cast nbuf0_5)
/-- The accumulator. -/
abbrev scM0_0 : Memref sig .tc .vmem S2112x1024 .f32 := Memref.whole cc0_scratch0
/-- The accumulator as a view. -/
abbrev VS0_0 : View sig .tc .vmem S2112x1024 .f32 := scM0_0.view

/-- What the region owns besides its windows: the accumulator and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Ffn

end
-- ==== Proof.Ffn.RunA.lean ====
/- The experts' feed-forward body run at a clearing point: the accumulator is cleared, then added to. -/
module

public import proofs.«01_k».proof.Proof.Ffn.Runs

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x2112x1024 .bf16) (harg2 : arg2.IsWhole)
  (arg3 : Memref sig .tc .vmem S1x1x1024x256 .f32) (harg3 : arg3.IsWhole)
  (arg4 : Memref sig .tc .vmem S1x1x1024x256 .f32) (harg4 : arg4.IsWhole)
  (arg5 : Memref sig .tc .vmem S1x1x256x1024 .f32) (harg5 : arg5.IsWhole)
  (arg6 : Memref sig .tc .vmem S1x2112x1 .f32) (harg6 : arg6.IsWhole)
  (arg7 : Memref sig .tc .vmem S1x17408x128 .f32) (harg7 : arg7.IsWhole)
  (arg8 : Memref sig .tc .vmem S2112x1024 .f32) (harg8 : arg8.IsWhole)

set_option maxHeartbeats 1000000 in
/-- The body run at a clearing point: the accumulator is cleared, then added to. What it leaves in the result's buffer and in the accumulator is given as pieces, with the
    triple that says so. -/
noncomputable def kernelRun0_A (hc0 : cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) :
    Σ' (L5 : List (View.Piece (Elt F) S1x17408x128 .f32)), { LS0 : List (View.Piece (Elt F) S2112x1024 .f32) //
      ∀ (xi5 : Vec F S1x17408x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8) K } := by
  refine ⟨[], ?_, fun xi5 E K => ?run⟩
  case run =>
    simp only [cc0_expert_ffn_eq_skeleton]; unfold cc0_expert_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Ffn

end
-- ==== Proof.Ffn.RunB.lean ====
/- The experts' feed-forward body run between: the accumulator is added to. -/
module

public import proofs.«01_k».proof.Proof.Ffn.RunA

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x2112x1024 .bf16) (harg2 : arg2.IsWhole)
  (arg3 : Memref sig .tc .vmem S1x1x1024x256 .f32) (harg3 : arg3.IsWhole)
  (arg4 : Memref sig .tc .vmem S1x1x1024x256 .f32) (harg4 : arg4.IsWhole)
  (arg5 : Memref sig .tc .vmem S1x1x256x1024 .f32) (harg5 : arg5.IsWhole)
  (arg6 : Memref sig .tc .vmem S1x2112x1 .f32) (harg6 : arg6.IsWhole)
  (arg7 : Memref sig .tc .vmem S1x17408x128 .f32) (harg7 : arg7.IsWhole)
  (arg8 : Memref sig .tc .vmem S2112x1024 .f32) (harg8 : arg8.IsWhole)

set_option maxHeartbeats 1000000 in
/-- The body run between: the accumulator is added to. What it leaves in the result's buffer and in the accumulator is given as pieces, with the
    triple that says so. -/
noncomputable def kernelRun0_B (hc0 : ¬cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) :
    Σ' (L5 : List (View.Piece (Elt F) S1x17408x128 .f32)), { LS0 : List (View.Piece (Elt F) S2112x1024 .f32) //
      ∀ (xi5 : Vec F S1x17408x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8) K } := by
  refine ⟨[], ?_, fun xi5 E K => ?run⟩
  case run =>
    simp only [cc0_expert_ffn_eq_skeleton]; unfold cc0_expert_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Ffn

end
-- ==== Proof.Ffn.RunC.lean ====
/- The experts' feed-forward body run at a storing point: the accumulator is added to, then the result is stored, its rows eight apart. -/
module

public import proofs.«01_k».proof.Proof.Ffn.RunB

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x2112x1024 .bf16) (harg2 : arg2.IsWhole)
  (arg3 : Memref sig .tc .vmem S1x1x1024x256 .f32) (harg3 : arg3.IsWhole)
  (arg4 : Memref sig .tc .vmem S1x1x1024x256 .f32) (harg4 : arg4.IsWhole)
  (arg5 : Memref sig .tc .vmem S1x1x256x1024 .f32) (harg5 : arg5.IsWhole)
  (arg6 : Memref sig .tc .vmem S1x2112x1 .f32) (harg6 : arg6.IsWhole)
  (arg7 : Memref sig .tc .vmem S1x17408x128 .f32) (harg7 : arg7.IsWhole)
  (arg8 : Memref sig .tc .vmem S2112x1024 .f32) (harg8 : arg8.IsWhole)

set_option maxHeartbeats 1000000 in
/-- The body run at a storing point: the accumulator is added to, then the result is stored, its rows eight apart. What it leaves in the result's buffer and in the accumulator is given as pieces, with the
    triple that says so. -/
noncomputable def kernelRun0_C (hc0 : ¬cond0_0 i) (hc1 : cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) :
    Σ' (L5 : List (View.Piece (Elt F) S1x17408x128 .f32)), { LS0 : List (View.Piece (Elt F) S2112x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8) K } := by
  refine ⟨?_, ?_, fun E K => ?run⟩
  case run =>
    simp only [cc0_expert_ffn_eq_skeleton]; unfold cc0_expert_ffn_skel
    simp only [k0_part2_eq_skeleton, k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Ffn

end
-- ==== Proof.Ffn.Covers.lean ====
/- What the experts' feed-forward body leaves in its result's buffer and in its accumulator, case by case. -/
module

public import proofs.«01_k».proof.Proof.Ffn.RunC
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x2112x1024 .bf16) (harg2 : arg2.IsWhole)
  (arg3 : Memref sig .tc .vmem S1x1x1024x256 .f32) (harg3 : arg3.IsWhole)
  (arg4 : Memref sig .tc .vmem S1x1x1024x256 .f32) (harg4 : arg4.IsWhole)
  (arg5 : Memref sig .tc .vmem S1x1x256x1024 .f32) (harg5 : arg5.IsWhole)
  (arg6 : Memref sig .tc .vmem S1x2112x1 .f32) (harg6 : arg6.IsWhole)
  (arg7 : Memref sig .tc .vmem S1x17408x128 .f32) (harg7 : arg7.IsWhole)
  (arg8 : Memref sig .tc .vmem S2112x1024 .f32) (harg8 : arg8.IsWhole)

/-- A row of the result whose number is `k` modulo 8, below the tail, is in the rectangle of the rows eight apart from `k`. -/
theorem mem_rows (k : ℕ) (inb) (spos) (y : S1x17408x128.Idx) (h : (y 1).val < 16896) (hk : (y 1).val % 8 = k) :
    y ∈ ((⟨⟨![0, k, 0], ![1, 2112, 128], ![1, 8, 1], inb⟩, spos⟩ : Rect S1x17408x128)).set := by
  refine (LoadRect.mem_set _).mpr fun a => ?_
  match a with
  | 0 => exact ⟨0, Nat.one_pos, by have : (y 0).val < 1 := (y 0).isLt; simpa using this⟩
  | 1 => exact ⟨(y 1).val / 8, (by show (y 1).val / 8 < 2112; omega), (by show (y 1).val = k + 8 * ((y 1).val / 8); omega)⟩
  | 2 => exact ⟨(y 2).val, (y 2).isLt, (by show (y 2).val = 0 + 1 * (y 2).val; omega)⟩

/-- A row from 16896 on is in the tail. -/
theorem mem_tail (inb) (y : S1x17408x128.Idx) (h : ¬(y 1).val < 16896) :
    y ∈ (Rect.unit (s := S1x17408x128) ![0, 16896, 0] ![1, 512, 128] inb).set := by
  refine (LoadRect.mem_set _).mpr fun a => ?_
  match a with
  | 0 => exact ⟨0, Nat.one_pos, by have : (y 0).val < 1 := (y 0).isLt; simpa using this⟩
  | 1 => exact ⟨(y 1).val - 16896, (by have : (y 1).val < 17408 := (y 1).isLt; show (y 1).val - 16896 < 512; omega),
      (by show (y 1).val = 16896 + 1 * ((y 1).val - 16896); omega)⟩
  | 2 => exact ⟨(y 2).val, (y 2).isLt, (by show (y 2).val = 0 + 1 * (y 2).val; omega)⟩

/-- At a clearing point the result's buffer holds this (nothing is stored: never read). -/
def out0_A_5 (hc0 : cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) : Vec F S1x17408x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- At a clearing point every element of the accumulator is stored. -/
theorem scover0_A_0 (hc0 : cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) (y : S2112x1024.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_wholeMem (kernelRun0_A c i arg2 harg2 arg3 harg3 arg4 harg4 arg5 harg5 arg6 harg6 arg7 harg7 arg8 harg8 hc0 hc1 x0 x1 x2 x3 x4).2.1 (by sl_whole_mem) y

/-- At a clearing point the accumulator holds this. -/
def sout0_A_0 (hc0 : cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) : Vec F S2112x1024 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- Between the result's buffer holds this (nothing is stored: never read). -/
def out0_B_5 (hc0 : ¬cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) : Vec F S1x17408x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Between every element of the accumulator is stored. -/
theorem scover0_B_0 (hc0 : ¬cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) (y : S2112x1024.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S528x1024.size (by sl_kernel_rfl) y

/-- Between the accumulator holds this. -/
def sout0_B_0 (hc0 : ¬cond0_0 i) (hc1 : ¬cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) : Vec F S2112x1024 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- At a storing point every element of the result's buffer is stored. -/
theorem cover0_C_5 (hc0 : ¬cond0_0 i) (hc1 : cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) (y : S1x17408x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set := by
  dsimp only [kernelRun0_C]
  by_cases h : (y 1).val < 16896
  · have h8 : (y 1).val % 8 = 0 ∨ (y 1).val % 8 = 1 ∨ (y 1).val % 8 = 2 ∨ (y 1).val % 8 = 3 ∨ (y 1).val % 8 = 4 ∨ (y 1).val % 8 = 5
        ∨ (y 1).val % 8 = 6 ∨ (y 1).val % 8 = 7 := by omega
    rcases h8 with h8 | h8 | h8 | h8 | h8 | h8 | h8 | h8
    · exact ⟨_, .tail _ (.tail _ (.tail _ (.tail _ (.tail _ (.tail _ (.tail _ (.tail _ (.head _)))))))), mem_rows _ _ _ y h h8⟩
    · exact ⟨_, .tail _ (.tail _ (.tail _ (.tail _ (.tail _ (.tail _ (.tail _ (.head _))))))), mem_rows _ _ _ y h h8⟩
    · exact ⟨_, .tail _ (.tail _ (.tail _ (.tail _ (.tail _ (.tail _ (.head _)))))), mem_rows _ _ _ y h h8⟩
    · exact ⟨_, .tail _ (.tail _ (.tail _ (.tail _ (.tail _ (.head _))))), mem_rows _ _ _ y h h8⟩
    · exact ⟨_, .tail _ (.tail _ (.tail _ (.tail _ (.head _)))), mem_rows _ _ _ y h h8⟩
    · exact ⟨_, .tail _ (.tail _ (.tail _ (.head _))), mem_rows _ _ _ y h h8⟩
    · exact ⟨_, .tail _ (.tail _ (.head _)), mem_rows _ _ _ y h h8⟩
    · exact ⟨_, .tail _ (.head _), mem_rows _ _ _ y h h8⟩
  · exact ⟨_, .head _, mem_tail inb_S1x17408x128_S1x512x128_0_16896_0 y h⟩

/-- At a storing point the result's buffer holds this. -/
def out0_C_5 (hc0 : ¬cond0_0 i) (hc1 : cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) : Vec F S1x17408x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- At a storing point every element of the accumulator is stored. -/
theorem scover0_C_0 (hc0 : ¬cond0_0 i) (hc1 : cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) (y : S2112x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S528x1024.size (by sl_kernel_rfl) y

/-- At a storing point the accumulator holds this. -/
def sout0_C_0 (hc0 : ¬cond0_0 i) (hc1 : cond0_1 i)
    (x0 : Vec F S1x2112x1024 .bf16) (x1 : Vec F S1x1x1024x256 .f32) (x2 : Vec F S1x1x1024x256 .f32) (x3 : Vec F S1x1x256x1024 .f32) (x4 : Vec F S1x2112x1 .f32) (xs0 : Vec F S2112x1024 .f32) : Vec F S2112x1024 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

end Cert.Ffn

end
-- ==== Proof.Ffn.Frame.lean ====
/- The experts' feed-forward call: its accumulation point by point, its body's obligation, its run and its frame. -/
module

public import proofs.«01_k».proof.Proof.Ffn.Covers

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer and the accumulator after the body at each point. -/
def outsAt0 (c : Dev nD) : (n : ℕ) → n < cfg0.N → Vec F S1x17408x128 .f32 × Vec F S2112x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 11 = 0 then
      if h1 : (n + 1) % 11 = 10 then
        False.elim (by have hN : n + 1 < 176 := lt_of_lt_of_eq hn (show cfg0.N = 176 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 11 = 10 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- At a clearing point. -/
theorem outsAt0_A (c : Dev nD) (t : Fin cfg0.N) (h0 : t.val % 11 = 0) (h1 : ¬t.val % 11 = 10) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- Between: over what the point before left. -/
theorem outsAt0_B (c : Dev nD) (t : Fin cfg0.N) (h0 : ¬t.val % 11 = 0) (h1 : ¬t.val % 11 = 10) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point: over what the point before left. -/
theorem outsAt0_C (c : Dev nD) (t : Fin cfg0.N) (h0 : ¬t.val % 11 = 0) (h1 : t.val % 11 = 10) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the region owns before a point: the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before any later point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- The proof data of the call: the arrays as found, each input's buffer at its block, the result's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- What each input's buffer holds before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 11 = 10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 176 := lt_of_lt_of_eq t.isLt (show cfg0.N = 176 from N_0); omega
      · rw [PhiS_castSucc m c t, PhiS_pos m c _ _ hz]
        rw [outsAt0_C m c t h0 h1]
        unfold out0_C_5 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 176 := lt_of_lt_of_eq t.isLt (show cfg0.N = 176 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant forgets what the accumulator holds -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- after the last point. -/
theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in
/-- The program runs; its arrays end at what the proof data compute and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program runs, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Ffn

end
-- ==== Proof.Ffn.Frames.lean ====
/- The frames of the experts' feed-forward call, as printed and as read over the extended reals: one run for both. -/
module
public import proofs.«01_k».proof.Defs
public import proofs.«01_k».proof.Proof.Gen.Kernel2
public import proofs.«01_k».proof.Proof.Ffn.Frame

@[expose] public section

set_option maxRecDepth 16384

noncomputable section

namespace Cert.Ffn

open Idealize.ShloMosaic Idealize.SL.Sem

/-- The two programs' kernels are the same. -/
theorem defs₀_eq : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext c l
  obtain ⟨_ | n, h⟩ := c
  · obtain ⟨t, s⟩ := l
    rfl
  · exact absurd h (by omega)

/-- The two programs' tables are the same. -/
theorem defs_eq : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs _) defs₀_eq

/-- The printed program's frame. -/
theorem frame_bits : Cert.quiescent_Kernel2 (hKernel2 := Cert.Kernel2.Gen.facts) := fun m ρ _ => by
  refine (congrArg (fun d => θ_run d _ _ _) defs_eq).mpr ?_
  exact Cert.Ffn.frame (F := Bits) m ρ

/-- The ideal program's frame. -/
theorem frame_ideal : Cert.quiescent_Kernel2Ideal (hKernel2Ideal := Cert.Kernel2Ideal.Gen.facts) := fun m ρ _ => Cert.Ffn.frame m ρ

end Cert.Ffn

end
-- ==== Proof.Ffn.Chunk.lean ====
/- One point's contribution to the experts' feed-forward, at an index. -/
module

public import proofs.«01_k».proof.Proof.Gen.Kernel2Ideal.Skeleton
public import Idealize.ShloMosaic.Lib.Pointwise

@[expose] public section

set_option maxRecDepth 16384

noncomputable section

namespace Cert.FfnValue

open Cert.Kernel2Ideal Cert.Kernel2Ideal.Gen Idealize.ShloMosaic Idealize.ShloMosaic.TcCoe

/-- A gated unit: of a row `x`, a gate column `g` and an input column `u`. -/
def unit (x g u : Fin 1024 → EReal) : EReal :=
  (∑ k, x k * g k) * Ideal.logistic (∑ k, x k * g k) * (∑ k, x k * u k)

/-- What 256 units add to a lane: each unit times its output weight. -/
def part (x : Fin 1024 → EReal) (g u : Fin 256 → Fin 1024 → EReal) (w : Fin 256 → EReal) : EReal :=
  ∑ f, unit x (g f) (u f) * w f

/-- What the units of a point's blocks add to lane `d`, given a row. -/
def blockPart (x : Fin 1024 → EReal) (wg wu : Vec Ideal S1x1x1024x256 .f32) (wd : Vec Ideal S1x1x256x1024 .f32) (d : Fin 1024) : EReal :=
  part x (fun f k => wg (ix4 0 0 k f)) (fun f k => wu (ix4 0 0 k f)) (fun f => wd (ix4 0 0 f d))

section

variable (wg wu : Vec Ideal S1x1x1024x256 .f32) (wd : Vec Ideal S1x1x256x1024 .f32) (x : Vec Ideal S1x528x1024 .bf16) (acc : Vec Ideal S528x1024 .f32)
  (r : Fin 528) (d : Fin 1024)

/-- The first quarter of the rows. -/
theorem chunk_a : k0_pay17 wg wu wd x acc (ix2 r d) = acc (ix2 r d) + blockPart (fun k => x (ix3 0 r k)) wg wu wd d := by
  unfold blockPart part unit
  pointwise [k0_pay17, k0_pay13, k0_pay14, k0_pay15]

/-- The second quarter of the rows. -/
theorem chunk_b : k0_pay19 (k0_pay13 wg) (k0_pay14 wu) (k0_pay15 wd) (k0_pay18 x) (constant S528x256 .f32 0x00000000#32) acc (ix2 r d)
    = acc (ix2 r d) + blockPart (fun k => x (ix3 0 r k)) wg wu wd d := by
  unfold blockPart part unit
  pointwise [k0_pay19, k0_pay18, k0_pay13, k0_pay14, k0_pay15]

/-- The third quarter of the rows. -/
theorem chunk_c : k0_pay20 (k0_pay13 wg) (k0_pay14 wu) (k0_pay15 wd) x acc (ix2 r d)
    = acc (ix2 r d) + blockPart (fun k => x (ix3 0 r k)) wg wu wd d := by
  unfold blockPart part unit
  pointwise [k0_pay20, k0_pay13, k0_pay14, k0_pay15]

/-- The last quarter of the rows. -/
theorem chunk_d : k0_pay1 (k0_pay15 wd) (k0_pay21 (k0_pay13 wg) (k0_pay14 wu) x) acc (ix2 r d)
    = acc (ix2 r d) + blockPart (fun k => x (ix3 0 r k)) wg wu wd d := by
  unfold blockPart part unit
  pointwise [k0_pay1, k0_pay21, k0_pay13, k0_pay14, k0_pay15]

end

/-- The cleared accumulator. -/
theorem clear_at (y : S2112x1024.Idx) : (k0_pay16 : FVec Ideal S2112x1024 .f32) y = (0 : EReal) := by
  pointwise [k0_pay16]

section

variable (A : Vec Ideal S2112x1024 .f32) (tv : Vec Ideal S1x2112x1 .f32) (r : Fin 2112) (l : Fin 128)

/-- The rows of the result at remainder 0 modulo 8 hold the first 128 lanes of the weighted sums, and so on. -/
theorem lanes_0 : k0_pay6 A tv (ix3 0 r l) = A (ix2 r ⟨0 + l.val, by omega⟩) * tv (ix3 0 r 0) := by
  pointwise [k0_pay6, k0_pay5]
theorem lanes_1 : k0_pay7 A tv (ix3 0 r l) = A (ix2 r ⟨128 + l.val, by omega⟩) * tv (ix3 0 r 0) := by
  pointwise [k0_pay7, k0_pay5]
theorem lanes_2 : k0_pay8 A tv (ix3 0 r l) = A (ix2 r ⟨256 + l.val, by omega⟩) * tv (ix3 0 r 0) := by
  pointwise [k0_pay8, k0_pay5]
theorem lanes_3 : k0_pay9 A tv (ix3 0 r l) = A (ix2 r ⟨384 + l.val, by omega⟩) * tv (ix3 0 r 0) := by
  pointwise [k0_pay9, k0_pay5]
theorem lanes_4 : k0_pay10 A tv (ix3 0 r l) = A (ix2 r ⟨512 + l.val, by omega⟩) * tv (ix3 0 r 0) := by
  pointwise [k0_pay10, k0_pay5]
theorem lanes_5 : k0_pay11 A tv (ix3 0 r l) = A (ix2 r ⟨640 + l.val, by omega⟩) * tv (ix3 0 r 0) := by
  pointwise [k0_pay11, k0_pay5]
theorem lanes_6 : k0_pay2 (k0_pay12 A tv) (ix3 0 r l) = A (ix2 r ⟨768 + l.val, by omega⟩) * tv (ix3 0 r 0) := by
  pointwise [k0_pay2, k0_pay12, k0_pay5]
theorem lanes_7 : k0_pay3 (k0_pay5 A tv) (ix3 0 r l) = A (ix2 r ⟨896 + l.val, by omega⟩) * tv (ix3 0 r 0) := by
  pointwise [k0_pay3, k0_pay5]

end

/-- The tail of the result. -/
theorem tail_at (y : S1x512x128.Idx) : (k0_pay4 : FVec Ideal S1x512x128 .f32) y = (0 : EReal) := by
  pointwise [k0_pay4]

end Cert.FfnValue

end
-- ==== Proof.Ffn.Step.lean ====
/- What the experts' feed-forward body leaves at a point: the accumulator one point further, and at a storing point the result. -/
module

public import proofs.«01_k».proof.Proof.Ffn.Frame
public import proofs.«01_k».proof.Proof.Ffn.Chunk
public import Idealize.ShloMosaic.Lib.Pipeline.ValueKit
public import Idealize.ShloMosaic.Lib.Pipeline.ReadBack

@[expose] public section

set_option maxRecDepth 16384

noncomputable section

namespace Cert.FfnValue

open Cert.Kernel2Ideal Cert.Kernel2Ideal.Gen Cert.Ffn Idealize.ShloMosaic Idealize.ShloMosaic.TcCoe
open Idealize.ShloMosaic.Pipeline (Dat Cfg Window)

section

variable (x0 : Vec Ideal S1x2112x1024 .bf16) (x1 x2 : Vec Ideal S1x1x1024x256 .f32) (x3 : Vec Ideal S1x1x256x1024 .f32)
  (acc : Vec Ideal S2112x1024 .f32) (tv : Vec Ideal S1x2112x1 .f32)

/-- The accumulator one point further. -/
def step : FVec Ideal S2112x1024 .f32 := fun y => acc y + blockPart (fun k => x0 (ix3 0 (y 0) k)) x1 x2 x3 (y 1)

/-- The stored result, of an accumulator and the rows' weights. -/
def out : FVec Ideal S1x17408x128 .f32 := fun y =>
  if h : (y 1).val < 16896 then
    acc (ix2 (⟨(y 1).val / 8, by omega⟩ : Fin 2112) (⟨(y 1).val % 8 * 128 + (y 2).val, by have : (y 2).val < 128 := (y 2).isLt; omega⟩ : Fin 1024))
      * tv (ix3 0 (⟨(y 1).val / 8, by omega⟩ : Fin 2112) 0)
  else 0

/-- A quarter of the rows, from row `o` on, whose elements are each one point further, is a block of `step`. -/
theorem step_block (o : ℕ) (inbx) (inba) (P : FVec Ideal S528x1024 .f32)
    (hP : ∀ r d, P (ix2 r d) = (View.ld acc (Rect.unit (s := S2112x1024) ![o, 0] ![528, 1024] inba) : Vec Ideal S528x1024 .f32) (ix2 r d)
      + blockPart (fun k => (View.ld x0 (Rect.unit (s := S1x2112x1024) ![0, o, 0] ![1, 528, 1024] inbx) : Vec Ideal S1x528x1024 .bf16) (ix3 0 r k)) x1 x2 x3 d)
    (z : S528x1024.Idx) : P z = step x0 x1 x2 x3 acc ((Rect.unit (s := S2112x1024) ![o, 0] ![528, 1024] inba).emb z) := by
  obtain ⟨r, d, rfl⟩ : ∃ (r : Fin 528) (d : Fin 1024), z = ix2 r d := ⟨z 0, z 1, by funext k; fin_cases k <;> rfl⟩
  rw [hP]
  unfold step
  have hx : ∀ k : Fin 1024, (View.ld x0 (Rect.unit (s := S1x2112x1024) ![0, o, 0] ![1, 528, 1024] inbx) : Vec Ideal S1x528x1024 .bf16) (ix3 0 r k)
      = x0 (ix3 0 ((Rect.unit (s := S2112x1024) ![o, 0] ![528, 1024] inba).emb (ix2 r d) 0) k) := fun k => by
    refine congrArg x0 (funext fun a => Fin.ext ?_)
    fin_cases a
    · rfl
    · rfl
    · show 0 + 1 * k.val = k.val
      omega
  have hd : (Rect.unit (s := S2112x1024) ![o, 0] ![528, 1024] inba).emb (ix2 r d) 1 = d := Fin.ext (by show 0 + 1 * d.val = d.val; omega)
  simp only [hx]
  refine congrArg₂ (· + ·) rfl ?_
  exact congrArg _ hd.symm

/-- A store of rows eight apart from row `k`, holding the lanes from `128 * k` on, is a block of `out`. -/
theorem out_block (k : ℕ) (hk : k < 8) (inb) (spos) (P : FVec Ideal S1x2112x128 .f32)
    (hP : ∀ (r : Fin 2112) (l : Fin 128), P (ix3 0 r l) = acc (ix2 r ⟨128 * k + l.val, by omega⟩) * tv (ix3 0 r 0))
    (z : S1x2112x128.Idx) :
    P z = out acc tv ((⟨⟨![0, k, 0], ![1, 2112, 128], ![1, 8, 1], inb⟩, spos⟩ : Rect S1x17408x128).emb z) := by
  obtain ⟨b, r, l, rfl⟩ : ∃ (b : Fin 1) (r : Fin 2112) (l : Fin 128), z = ix3 b r l := ⟨z 0, z 1, z 2, by funext k; fin_cases k <;> rfl⟩
  obtain rfl : b = 0 := Subsingleton.elim _ _
  rw [hP]
  unfold out
  have h1 : ((⟨⟨![0, k, 0], ![1, 2112, 128], ![1, 8, 1], inb⟩, spos⟩ : Rect S1x17408x128).emb (ix3 0 r l) 1).val = k + 8 * r.val := rfl
  have h2 : ((⟨⟨![0, k, 0], ![1, 2112, 128], ![1, 8, 1], inb⟩, spos⟩ : Rect S1x17408x128).emb (ix3 0 r l) 2).val = l.val := by
    show 0 + 1 * l.val = l.val
    omega
  rw [dif_pos (by rw [h1]; omega)]
  have er : (⟨((⟨⟨![0, k, 0], ![1, 2112, 128], ![1, 8, 1], inb⟩, spos⟩ : Rect S1x17408x128).emb (ix3 0 r l) 1).val / 8, by rw [h1]; omega⟩ : Fin 2112) = r :=
    Fin.ext ((congrArg (· / 8) h1).trans (by show (k + 8 * r.val) / 8 = r.val; omega))
  have el : (⟨((⟨⟨![0, k, 0], ![1, 2112, 128], ![1, 8, 1], inb⟩, spos⟩ : Rect S1x17408x128).emb (ix3 0 r l) 1).val % 8 * 128
      + ((⟨⟨![0, k, 0], ![1, 2112, 128], ![1, 8, 1], inb⟩, spos⟩ : Rect S1x17408x128).emb (ix3 0 r l) 2).val, by rw [h1, h2]; omega⟩ : Fin 1024)
      = ⟨128 * k + l.val, by omega⟩ := Fin.ext ((congrArg₂ (fun a b => a % 8 * 128 + b) h1 h2).trans
        (by show (k + 8 * r.val) % 8 * 128 + l.val = 128 * k + l.val; omega))
  rw [er, el]

/-- The store of the tail is a block of `out`. -/
theorem out_tail (inb) (z : S1x512x128.Idx) :
    (k0_pay4 : FVec Ideal S1x512x128 .f32) z = out acc tv ((Rect.unit (s := S1x17408x128) ![0, 16896, 0] ![1, 512, 128] inb).emb z) := by
  rw [tail_at]
  unfold out
  rw [dif_neg]
  show ¬ 16896 + 1 * (z 1).val < 16896
  omega

end

section

variable (c : Dev nD) (i : grid0.Coords)
  (arg2 : Memref sig .tc .vmem S1x2112x1024 .bf16) (harg2 : arg2.IsWhole)
  (arg3 : Memref sig .tc .vmem S1x1x1024x256 .f32) (harg3 : arg3.IsWhole)
  (arg4 : Memref sig .tc .vmem S1x1x1024x256 .f32) (harg4 : arg4.IsWhole)
  (arg5 : Memref sig .tc .vmem S1x1x256x1024 .f32) (harg5 : arg5.IsWhole)
  (arg6 : Memref sig .tc .vmem S1x2112x1 .f32) (harg6 : arg6.IsWhole)
  (arg7 : Memref sig .tc .vmem S1x17408x128 .f32) (harg7 : arg7.IsWhole)
  (arg8 : Memref sig .tc .vmem S2112x1024 .f32) (harg8 : arg8.IsWhole)
  (x0 : Vec Ideal S1x2112x1024 .bf16) (x1 x2 : Vec Ideal S1x1x1024x256 .f32) (x3 : Vec Ideal S1x1x256x1024 .f32)
  (x4 : Vec Ideal S1x2112x1 .f32) (xs0 : Vec Ideal S2112x1024 .f32)

/-- The four stores of the accumulator, from an accumulator `acc`. -/
def stores (acc : Vec Ideal S2112x1024 .f32) : List (View.Piece (Elt Ideal) S2112x1024 .f32) :=
  [⟨Rect.unit ![1584, 0] ![528, 1024] inb_S2112x1024_S528x1024_1584_0,
      k0_pay1 (k0_pay15 x3) (k0_pay21 (k0_pay13 x1) (k0_pay14 x2) (View.ld x0 (Rect.unit ![0, 1584, 0] ![1, 528, 1024] inb_S1x2112x1024_S1x528x1024_0_1584_0)))
        (View.ld acc (Rect.unit ![1584, 0] ![528, 1024] inb_S2112x1024_S528x1024_1584_0))⟩,
    ⟨Rect.unit ![1056, 0] ![528, 1024] inb_S2112x1024_S528x1024_1056_0,
      k0_pay20 (k0_pay13 x1) (k0_pay14 x2) (k0_pay15 x3) (View.ld x0 (Rect.unit ![0, 1056, 0] ![1, 528, 1024] inb_S1x2112x1024_S1x528x1024_0_1056_0))
        (View.ld acc (Rect.unit ![1056, 0] ![528, 1024] inb_S2112x1024_S528x1024_1056_0))⟩,
    ⟨Rect.unit ![528, 0] ![528, 1024] inb_S2112x1024_S528x1024_528_0,
      k0_pay19 (k0_pay13 x1) (k0_pay14 x2) (k0_pay15 x3)
        (k0_pay18 (View.ld x0 (Rect.unit ![0, 528, 0] ![1, 528, 1024] inb_S1x2112x1024_S1x528x1024_0_528_0)))
        (constant S528x256 FTy.f32 0#32)
        (View.ld acc (Rect.unit ![528, 0] ![528, 1024] inb_S2112x1024_S528x1024_528_0))⟩,
    ⟨Rect.unit ![0, 0] ![528, 1024] inb_S2112x1024_S528x1024_0_0,
      k0_pay17 x1 x2 x3 (View.ld x0 (Rect.unit ![0, 0, 0] ![1, 528, 1024] inb_S1x2112x1024_S1x528x1024_0_0_0))
        (View.ld acc (Rect.unit ![0, 0] ![528, 1024] inb_S2112x1024_S528x1024_0_0))⟩]

/-- The four stores are blocks of the accumulator one point further. -/
theorem stores_pieces (acc : Vec Ideal S2112x1024 .f32) : View.PiecesOf (step x0 x1 x2 x3 acc) (stores x0 x1 x2 x3 acc) :=
  ⟨step_block x0 x1 x2 x3 acc 1584 _ _ _ (chunk_d x1 x2 x3 _ _), step_block x0 x1 x2 x3 acc 1056 _ _ _ (chunk_c x1 x2 x3 _ _),
    step_block x0 x1 x2 x3 acc 528 _ _ _ (chunk_b x1 x2 x3 _ _), step_block x0 x1 x2 x3 acc 0 _ _ _ (chunk_a x1 x2 x3 _ _), trivial⟩

/-- A row of the accumulator is in the quarter that holds it. -/
theorem mem_quarter (o : ℕ) (inb) (y : S2112x1024.Idx) (h0 : o ≤ (y 0).val) (h1 : (y 0).val < o + 528) :
    y ∈ (Rect.unit (s := S2112x1024) ![o, 0] ![528, 1024] inb).set := by
  refine (LoadRect.mem_set _).mpr fun a => ?_
  match a with
  | 0 => exact ⟨(y 0).val - o, (by show (y 0).val - o < 528; omega), (by show (y 0).val = o + 1 * ((y 0).val - o); omega)⟩
  | 1 => exact ⟨(y 1).val, (y 1).isLt, (by show (y 1).val = 0 + 1 * (y 1).val; omega)⟩

/-- The four stores cover the accumulator. -/
theorem stores_cover (acc : Vec Ideal S2112x1024 .f32) (y : S2112x1024.Idx) : ∃ p ∈ stores x0 x1 x2 x3 acc, y ∈ p.1.set := by
  have hy : (y 0).val < 2112 := (y 0).isLt
  unfold stores
  rcases (by omega : (y 0).val < 528 ∨ (528 ≤ (y 0).val ∧ (y 0).val < 1056) ∨ (1056 ≤ (y 0).val ∧ (y 0).val < 1584) ∨ 1584 ≤ (y 0).val) with h | h | h | h
  · exact ⟨_, .tail _ (.tail _ (.tail _ (.head _))), mem_quarter 0 inb_S2112x1024_S528x1024_0_0 y (by omega) (by omega)⟩
  · exact ⟨_, .tail _ (.tail _ (.head _)), mem_quarter 528 inb_S2112x1024_S528x1024_528_0 y (by omega) (by omega)⟩
  · exact ⟨_, .tail _ (.head _), mem_quarter 1056 inb_S2112x1024_S528x1024_1056_0 y (by omega) (by omega)⟩
  · exact ⟨_, .head _, mem_quarter 1584 inb_S2112x1024_S528x1024_1584_0 y (by omega) (by omega)⟩

/-- What the four stores leave, over whatever was there. -/
theorem stores_canon (acc : Vec Ideal S2112x1024 .f32) (L' : List (View.Piece (Elt Ideal) S2112x1024 .f32)) :
    View.canon (stores x0 x1 x2 x3 acc ++ L') = step x0 x1 x2 x3 acc :=
  funext fun y => View.canon_append_of_piecesOf _ L' _ (stores_pieces x0 x1 x2 x3 acc) y (stores_cover x0 x1 x2 x3 acc y)

/-- A clearing point leaves the first step from zero. -/
theorem sout_A (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = step x0 x1 x2 x3 (k0_pay16 : FVec Ideal S2112x1024 .f32) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  frame_open
  simp (disch := decide) only [↓ View.readCov_skip, ↓ View.readCov_cons_toLoadRect, ↓ View.readCov_fill]
  frame_out
  exact stores_canon x0 x1 x2 x3 _ [_]

/-- A point between leaves one more step. -/
theorem sout_B (hc0 : ¬cond0_0 i) (hc1 : ¬cond0_1 i) :
    sout0_B_0 c i arg2 harg2 arg3 harg3 arg4 harg4 arg5 harg5 arg6 harg6 arg7 harg7 arg8 harg8 hc0 hc1 x0 x1 x2 x3 x4 xs0 = step x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  frame_open
  frame_out
  exact stores_canon x0 x1 x2 x3 xs0 []

/-- So does a storing point. -/
theorem sout_C (hc0 : ¬cond0_0 i) (hc1 : cond0_1 i) :
    sout0_C_0 c i arg2 harg2 arg3 harg3 arg4 harg4 arg5 harg5 arg6 harg6 arg7 harg7 arg8 harg8 hc0 hc1 x0 x1 x2 x3 x4 xs0 = step x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  frame_open
  frame_out
  exact stores_canon x0 x1 x2 x3 xs0 []

/-- The whole accumulator read back after the four stores. -/
theorem read_back (v : View sig .tc .vmem S2112x1024 .f32) (acc : Vec Ideal S2112x1024 .f32) (inb) :
    v.readCov (stores x0 x1 x2 x3 acc) (Rect.unit (s := S2112x1024) ![0, 0] ![2112, 1024] inb).toLoadRect = step x0 x1 x2 x3 acc := by
  rw [View.readCov_eq_canon', show stores x0 x1 x2 x3 acc = stores x0 x1 x2 x3 acc ++ [] from (List.append_nil _).symm, stores_canon]
  funext y
  refine congrArg (step x0 x1 x2 x3 acc) (funext fun a => Fin.ext ?_)
  fin_cases a
  · show 0 + 1 * (y 0).val = (y 0).val
    omega
  · show 0 + 1 * (y 1).val = (y 1).val
    omega

/-- A storing point leaves the result of one more step. -/
theorem out_C (hc0 : ¬cond0_0 i) (hc1 : cond0_1 i) :
    out0_C_5 c i arg2 harg2 arg3 harg3 arg4 harg4 arg5 harg5 arg6 harg6 arg7 harg7 arg8 harg8 hc0 hc1 x0 x1 x2 x3 x4 xs0
      = out (step x0 x1 x2 x3 xs0) x4 := by
  unfold out0_C_5
  have hcov := cover0_C_5 c i arg2 harg2 arg3 harg3 arg4 harg4 arg5 harg5 arg6 harg6 arg7 harg7 arg8 harg8 hc0 hc1 x0 x1 x2 x3 x4 xs0
  rw [View.read_writes_eq_canon _ _ _ hcov]
  refine funext fun y => View.canon_apply_of_pieces (out (step x0 x1 x2 x3 xs0) x4) _ ?_ y (hcov y)
  refine View.PiecesOf.mem ?_
  frame_open
  frame_out
  have hb : ∀ inb, arg8.view.readCov (stores x0 x1 x2 x3 xs0) (Rect.unit (s := S2112x1024) ![0, 0] ![2112, 1024] inb).toLoadRect = step x0 x1 x2 x3 xs0 :=
    read_back x0 x1 x2 x3 arg8.view xs0
  unfold stores at hb
  rw [hb]
  exact ⟨out_tail _ _ inb_S1x17408x128_S1x512x128_0_16896_0,
    out_block _ _ 7 (by omega) inb_S1x17408x128_S1x2112x128_0_7_0_s_1_8_1 spos_1_8_1 _ (lanes_7 _ _),
    out_block _ _ 6 (by omega) inb_S1x17408x128_S1x2112x128_0_6_0_s_1_8_1 spos_1_8_1 _ (lanes_6 _ _),
    out_block _ _ 5 (by omega) inb_S1x17408x128_S1x2112x128_0_5_0_s_1_8_1 spos_1_8_1 _ (lanes_5 _ _),
    out_block _ _ 4 (by omega) inb_S1x17408x128_S1x2112x128_0_4_0_s_1_8_1 spos_1_8_1 _ (lanes_4 _ _),
    out_block _ _ 3 (by omega) inb_S1x17408x128_S1x2112x128_0_3_0_s_1_8_1 spos_1_8_1 _ (lanes_3 _ _),
    out_block _ _ 2 (by omega) inb_S1x17408x128_S1x2112x128_0_2_0_s_1_8_1 spos_1_8_1 _ (lanes_2 _ _),
    out_block _ _ 1 (by omega) inb_S1x17408x128_S1x2112x128_0_1_0_s_1_8_1 spos_1_8_1 _ (lanes_1 _ _),
    out_block _ _ 0 (by omega) inb_S1x17408x128_S1x2112x128_0_0_0_s_1_8_1 spos_1_8_1 _ (lanes_0 _ _), trivial⟩

end

end Cert.FfnValue

end
-- ==== Proof.Ffn.Acc.lean ====
/- The array the experts' feed-forward call leaves. -/
module

public import proofs.«01_k».proof.Proof.Ffn.Step

@[expose] public section

set_option maxRecDepth 16384

noncomputable section

namespace Cert.FfnValue

open Cert.Kernel2Ideal Cert.Kernel2Ideal.Gen Cert.Ffn Idealize.ShloMosaic Idealize.ShloMosaic.TcCoe
open Idealize.ShloMosaic.Pipeline (Dat Cfg Window)

variable (m : (ℓ : Loc nD τ sig) → Buf (Elt Ideal) ℓ) (c : Dev nD)

/-- Lane `d` of row `r` of expert `e`: the gated units, each times its output weight. -/
def ffn (xs : FVec Ideal S16x2112x1024 .bf16) (wg wu : FVec Ideal S2x16x1024x2816 .f32) (wd : FVec Ideal S2x16x2816x1024 .f32)
    (e : Fin 16) (r : Fin 2112) (d : Fin 1024) : EReal :=
  ∑ f : Fin 2816, unit (fun k => xs (ix3 e r k)) (fun k => wg (ix4 0 e k f)) (fun k => wu (ix4 0 e k f)) * wd (ix4 0 e f d)

/-- The result: row `r` of an expert, weighted, takes the rows `8 * r` to `8 * r + 7`, 128 lanes each; the last 512 rows are zero. -/
def ffnArr (xs : FVec Ideal S16x2112x1024 .bf16) (wg wu : FVec Ideal S2x16x1024x2816 .f32) (wd : FVec Ideal S2x16x2816x1024 .f32)
    (tv : FVec Ideal S16x2112x1 .f32) : FVec Ideal S16x17408x128 .f32 := fun j =>
  if h : (j 1).val < 16896 then
    ffn xs wg wu wd (j 0) (⟨(j 1).val / 8, by omega⟩ : Fin 2112) (⟨(j 1).val % 8 * 128 + (j 2).val, by have : (j 2).val < 128 := (j 2).isLt; omega⟩ : Fin 1024)
      * tv (ix3 (j 0) (⟨(j 1).val / 8, by omega⟩ : Fin 2112) 0)
  else 0

/-- The result at an index. -/
theorem ffnArr_at (xs : FVec Ideal S16x2112x1024 .bf16) (wg wu : FVec Ideal S2x16x1024x2816 .f32) (wd : FVec Ideal S2x16x2816x1024 .f32)
    (tv : FVec Ideal S16x2112x1 .f32) (e : Fin 16) (n : Fin 17408) (l : Fin 128) : ffnArr xs wg wu wd tv (ix3 e n l) =
      if h : n.val < 16896 then ffn xs wg wu wd e (⟨n.val / 8, by omega⟩ : Fin 2112) (⟨n.val % 8 * 128 + l.val, by omega⟩ : Fin 1024)
        * tv (ix3 e (⟨n.val / 8, by omega⟩ : Fin 2112) 0)
      else 0 := rfl

/-- A block of the result at an index. -/
theorem out_at (acc : FVec Ideal S2112x1024 .f32) (tv : FVec Ideal S1x2112x1 .f32) (n : Fin 17408) (l : Fin 128) : out acc tv (ix3 0 n l) =
      if h : n.val < 16896 then acc (ix2 (⟨n.val / 8, by omega⟩ : Fin 2112) (⟨n.val % 8 * 128 + l.val, by omega⟩ : Fin 1024))
        * tv (ix3 0 (⟨n.val / 8, by omega⟩ : Fin 2112) 0)
      else 0 := rfl

/-- The index maps of the call, over 16 experts and 11 blocks of units. -/
theorem idx : ∀ t : Fin cfg0.N, win0_0.index t = ![t.val / 11, 0, 0] ∧ win0_1.index t = ![0, t.val / 11, 0, t.val % 11]
    ∧ win0_2.index t = ![0, t.val / 11, 0, t.val % 11] ∧ win0_3.index t = ![0, t.val / 11, t.val % 11, 0]
    ∧ win0_4.index t = ![t.val / 11, 0, 0] ∧ win0_5.index t = ![t.val / 11, 0, 0] ∧ t.val < 176 :=
  (by decide +kernel : ∀ t : Fin grid0.N, _)

/-- The expert of point `t`. -/
def eOf (t : Fin cfg0.N) : Fin 16 := ⟨t.val / 11, by have := (idx t).2.2.2.2.2.2; omega⟩
/-- The unit of the arrays at unit `f` of point `t`'s blocks. -/
def fOf (t : Fin cfg0.N) (f : Fin 256) : Fin 2816 := ⟨t.val % 11 * 256 + f.val, by omega⟩
theorem eOf_val (t : Fin cfg0.N) : (eOf t).val = t.val / 11 := rfl
theorem fOf_val (t : Fin cfg0.N) (f : Fin 256) : (fOf t f).val = t.val % 11 * 256 + f.val := rfl

/-- A row of a point's block of rows. -/
theorem blk_0 (t : Fin cfg0.N) (r : Fin 2112) (k : Fin 1024) : (iblk m c 0 t : Vec Ideal S1x2112x1024 .bf16) (ix3 0 r k)
    = (V m c main_v0 : Vec Ideal S16x2112x1024 .bf16) (ix3 (eOf t) r k) := by
  blk_ext [iblk, idx t, eOf_val]

/-- A gate column of a point's block. -/
theorem blk_1 (t : Fin cfg0.N) (k : Fin 1024) (f : Fin 256) : (iblk m c 1 t : Vec Ideal S1x1x1024x256 .f32) (ix4 0 0 k f)
    = (V m c main_arg1 : Vec Ideal S2x16x1024x2816 .f32) (ix4 0 (eOf t) k (fOf t f)) := by
  blk_ext [iblk, idx t, eOf_val, fOf_val]

/-- An input column of a point's block. -/
theorem blk_2 (t : Fin cfg0.N) (k : Fin 1024) (f : Fin 256) : (iblk m c 2 t : Vec Ideal S1x1x1024x256 .f32) (ix4 0 0 k f)
    = (V m c main_arg2 : Vec Ideal S2x16x1024x2816 .f32) (ix4 0 (eOf t) k (fOf t f)) := by
  blk_ext [iblk, idx t, eOf_val, fOf_val]

/-- An output row of a point's block. -/
theorem blk_3 (t : Fin cfg0.N) (f : Fin 256) (d : Fin 1024) : (iblk m c 3 t : Vec Ideal S1x1x256x1024 .f32) (ix4 0 0 f d)
    = (V m c main_arg3 : Vec Ideal S2x16x2816x1024 .f32) (ix4 0 (eOf t) (fOf t f) d) := by
  blk_ext [iblk, idx t, eOf_val, fOf_val]

/-- A row's weight. -/
theorem blk_4 (t : Fin cfg0.N) (r : Fin 2112) : (iblk m c 4 t : Vec Ideal S1x2112x1 .f32) (ix3 0 r 0)
    = (V m c main_arg4 : Vec Ideal S16x2112x1 .f32) (ix3 (eOf t) r 0) := by
  blk_ext [iblk, idx t, eOf_val]

/-- Where the output block sits in the result. -/
theorem emb_5 (t : Fin cfg0.N) (n : Fin 17408) (l : Fin 128) :
    (((View.whole main_v1).slice (win0_5.rect t)).emb (ix3 0 n l)) = ix3 (eOf t) n l := by
  blk_ext [idx t, eOf_val]

/-- What point `t` adds to the accumulator. -/
def term (t : Fin cfg0.N) (y : S2112x1024.Idx) : EReal :=
  blockPart (fun k => (iblk m c 0 t : Vec Ideal S1x2112x1024 .bf16) (ix3 0 (y 0) k)) (iblk m c 1 t) (iblk m c 2 t) (iblk m c 3 t) (y 1)

/-- The accumulator after point `n`. -/
def accAt (n : ℕ) (h : n < cfg0.N) : S2112x1024.Idx → EReal := (outsAt0 m c n h).2

theorem acc_zero (t : Fin cfg0.N) (h : t.val % 11 = 0) (y : S2112x1024.Idx) : accAt m c t.val t.isLt y = 0 + term m c t y := by
  unfold accAt
  rw [outsAt0_A m c t h (by omega)]
  dsimp only
  rw [sout_A]
  unfold step
  rw [clear_at]
  rfl

theorem acc_step (t : Fin cfg0.N) (h : ¬t.val % 11 = 0) (y : S2112x1024.Idx) :
    accAt m c t.val t.isLt y = accAt m c (t.val - 1) (Nat.lt_of_le_of_lt (Nat.sub_le _ _) t.isLt) y + term m c t y := by
  unfold accAt
  by_cases h1 : t.val % 11 = 10
  · rw [outsAt0_C m c t h h1]
    dsimp only
    rw [sout_C]
    rfl
  · rw [outsAt0_B m c t h h1]
    dsimp only
    rw [sout_B]
    rfl

/-- The stored result is that of the accumulator just completed. -/
theorem stored (t : Fin cfg0.N) (h : t.val % 11 = 10) :
    (outsAt0 m c t.val t.isLt).1 = out (accAt m c t.val t.isLt) (iblk m c 4 t) := by
  unfold accAt
  rw [outsAt0_C m c t (by omega) h]
  dsimp only
  rw [out_C, sout_C]

/-- A storing point's accumulator holds the sums over all 2816 units. -/
theorem acc_full (t : Fin cfg0.N) (h : t.val % 11 = 10) (r : Fin 2112) (d : Fin 1024) :
    accAt m c t.val t.isLt (ix2 r d) = ffn (V m c main_v0) (V m c main_arg1) (V m c main_arg2) (V m c main_arg3) (eOf t) r d := by
  rw [Pipeline.eq_sum_fin_of_reset_step_apply_of_flush (accAt m c) 11 (fun _ => 0) (term m c) (acc_zero m c) (acc_step m c) t h, zero_add]
  unfold term blockPart part ffn
  refine Fin.sum_mul_add_congr (fun s f hl => ?_)
  have hN : t.val < 176 := (idx t).2.2.2.2.2.2
  have hp : 11 * (t.val / 11) + s.val < cfg0.N := Pipeline.run_point_lt_of_flush t h s
  have he : eOf ⟨11 * (t.val / 11) + s.val, hp⟩ = eOf t := Fin.ext (by simp only [eOf_val]; omega)
  have hf : fOf ⟨11 * (t.val / 11) + s.val, hp⟩ f = ⟨s.val * 256 + f.val, hl⟩ := Fin.ext (by simp only [fOf_val]; omega)
  refine congrArg₂ (· * ·) ?_ ?_
  · have e0 : (fun k => (iblk m c 0 ⟨11 * (t.val / 11) + s.val, hp⟩ : Vec Ideal S1x2112x1024 .bf16) (ix3 0 r k))
        = fun k => (V m c main_v0 : Vec Ideal S16x2112x1024 .bf16) (ix3 (eOf t) r k) := funext fun k => by rw [blk_0, he]
    have e1 : (fun k => (iblk m c 1 ⟨11 * (t.val / 11) + s.val, hp⟩ : Vec Ideal S1x1x1024x256 .f32) (ix4 0 0 k f))
        = fun k => (V m c main_arg1 : Vec Ideal S2x16x1024x2816 .f32) (ix4 0 (eOf t) k ⟨s.val * 256 + f.val, hl⟩) := funext fun k => by rw [blk_1, he, hf]
    have e2 : (fun k => (iblk m c 2 ⟨11 * (t.val / 11) + s.val, hp⟩ : Vec Ideal S1x1x1024x256 .f32) (ix4 0 0 k f))
        = fun k => (V m c main_arg2 : Vec Ideal S2x16x1024x2816 .f32) (ix4 0 (eOf t) k ⟨s.val * 256 + f.val, hl⟩) := funext fun k => by rw [blk_2, he, hf]
    exact (congrArg (fun x => unit x _ _) e0).trans ((congrArg (fun x => unit _ x _) e1).trans (congrArg (fun x => unit _ _ x) e2))
  · exact (blk_3 m c _ f d).trans (by rw [he, hf])

/-- The result array after the call. -/
theorem arr_5 : (dats m 0 c).arrAt 5 cfg0.N
    = ffnArr (V m c main_v0) (V m c main_arg1) (V m c main_arg2) (V m c main_arg3) (V m c main_arg4) := by
  refine (dats m 0 c).arrAt_eq_of_covers 5 _ (by decide +kernel) fun t hf y => ?_
  have h : t.val % 11 = 10 := (flush0_5 t).mp hf
  blk_simp
  rw [after0_5, stored m c t h]
  idx_vars y
  obtain rfl : y0 = 0 := Subsingleton.elim _ _
  rw [emb_5]
  refine (out_at _ _ y1 y2).trans (Eq.trans ?_ (ffnArr_at _ _ _ _ _ (eOf t) y1 y2).symm)
  by_cases hn : y1.val < 16896
  · rw [dif_pos hn, dif_pos hn]
    exact congrArg₂ (· * ·) (acc_full m c t h _ _) (blk_4 m c t _)
  · rw [dif_neg hn, dif_neg hn]

end Cert.FfnValue

end
-- ==== Proof.Ffn.RefAt.lean ====
/- What the reference of the experts' feed-forward computes, at an index. -/
module

public import proofs.«01_k».proof.Proof.Gen.Reference2Ideal.Run
public import Idealize.ShloMosaic.Lib.Pointwise

@[expose] public section

set_option maxRecDepth 16384

noncomputable section

namespace Cert.FfnRef

open Cert.Reference2Ideal Cert.Reference2Ideal.Gen Idealize.ShloMosaic Idealize.ShloMosaic.TcCoe

variable (xs : FVec Ideal S16x2112x1024 .f32) (wg wu : FVec Ideal S2x16x1024x2816 .f32) (wd : FVec Ideal S2x16x2816x1024 .f32) (tv : FVec Ideal S16x2112x1 .f32)

/-- A product of the rows with one weight array of the first layer. -/
def proj (w : FVec Ideal S2x16x1024x2816 .f32) : FVec Ideal S16x2112x2816 .f32 :=
  Host.dotGeneral dot_S16x2112x1024_S16x1024x2816_S16x2112x2816_2_1_1_2_0_0 none xs
    (shapeCast S16x1024x2816 (extractStridedSlice S1x16x1024x2816 ![0, 0, 0, 0] w slices_S2x16x1024x2816_S1x16x1024x2816_0_0_0_0) shapeCasts_S1x16x1024x2816_S16x1024x2816)

/-- The gated units. -/
def act (g u : FVec Ideal S16x2112x2816 .f32) : FVec Ideal S16x2112x2816 .f32 :=
  mulf (mulf g (Host.divf (broadcastInDim S16x2112x2816 ![] bcast_S_S16x2112x2816 (constant S_ .f32 0x3F800000#32))
    (addf (broadcastInDim S16x2112x2816 ![] bcast_S_S16x2112x2816 (constant S_ .f32 0x3F800000#32)) (Host.exp (Host.negf g))))) u

/-- The rows' results, weighted. -/
def rows (a : FVec Ideal S16x2112x2816 .f32) : FVec Ideal S16x2112x1024 .f32 :=
  mulf (Host.dotGeneral dot_S16x2112x2816_S16x2816x1024_S16x2112x1024_2_1_1_2_0_0 none a
    (shapeCast S16x2816x1024 (extractStridedSlice S1x16x2816x1024 ![0, 0, 0, 0] wd slices_S2x16x2816x1024_S1x16x2816x1024_0_0_0_0) shapeCasts_S1x16x2816x1024_S16x2816x1024))
    (broadcastInDim S16x2112x1024 ![0, 1, 2] bcast_S16x2112x1_S16x2112x1024_0_1_2 tv)

/-- The rows' results laid out in rows of 128 lanes, and 512 rows of zero. -/
def lay (y : FVec Ideal S16x2112x1024 .f32) : FVec Ideal S16x17408x128 .f32 :=
  pad S16x17408x128 ![0, 0, 0] ![0, 512, 0] ![0, 0, 0] (shapeCast S16x16896x128 y shapeCasts_S16x2112x1024_S16x16896x128)
    (sitofp .f32 (constantI S_ 32 0#32)) pads_S16x16896x128_S16x17408x128_000_05120_000 h_S_

theorem proj_at (w : FVec Ideal S2x16x1024x2816 .f32) (e : Fin 16) (r : Fin 2112) (f : Fin 2816) :
    proj xs w (ix3 e r f) = ∑ k : Fin 1024, xs (ix3 e r k) * w (ix4 0 e k f) := by
  pointwise [proj]

theorem act_at (g u : FVec Ideal S16x2112x2816 .f32) (e : Fin 16) (r : Fin 2112) (f : Fin 2816) :
    act g u (ix3 e r f) = g (ix3 e r f) * Ideal.logistic (g (ix3 e r f)) * u (ix3 e r f) := by
  unfold Ideal.logistic
  pointwise [act]

theorem rows_at (a : FVec Ideal S16x2112x2816 .f32) (e : Fin 16) (r : Fin 2112) (d : Fin 1024) :
    rows wd tv a (ix3 e r d) = (∑ f : Fin 2816, a (ix3 e r f) * wd (ix4 0 e f d)) * tv (ix3 e r 0) := by
  pointwise [rows]

theorem lay_at (y : FVec Ideal S16x2112x1024 .f32) (e : Fin 16) (n : Fin 17408) (l : Fin 128) :
    lay y (ix3 e n l) = if h : n.val < 16896 then y (ix3 e (⟨n.val / 8, by omega⟩ : Fin 2112) (⟨n.val % 8 * 128 + l.val, by omega⟩ : Fin 1024)) else 0 := by
  pointwise [lay]
  have hz : FloatOps.sitofp (F := Ideal) .f32 0#32 = (0 : EReal) := by
    show (((0#32 : BitVec 32).toInt : ℝ) : EReal) = 0
    simp
  rw [hz]

end Cert.FfnRef

end
-- ==== Proof.Ffn.Value.lean ====
/- The experts' feed-forward: the kernel's result is the reference's. -/
module

public import proofs.«01_k».proof.Defs
public import proofs.«01_k».proof.Proof.Ffn.Acc
public import proofs.«01_k».proof.Proof.Ffn.RefAt

@[expose] public section

set_option maxRecDepth 16384

noncomputable section

namespace Cert.FfnValue

open Cert.Kernel2Ideal.Gen Idealize.ShloMosaic Idealize.ShloMosaic.TcCoe Idealize.SL.Sem

/-- The plain feed-forward, laid out, is the result `ffnArr` states. -/
theorem ref_eq (xs : FVec Ideal Cert.Reference2Ideal.S16x2112x1024 .f32) (wg wu : FVec Ideal Cert.Reference2Ideal.S2x16x1024x2816 .f32)
    (wd : FVec Ideal Cert.Reference2Ideal.S2x16x2816x1024 .f32) (tv : FVec Ideal Cert.Reference2Ideal.S16x2112x1 .f32) :
    FfnRef.lay (FfnRef.rows wd tv (FfnRef.act (FfnRef.proj xs wg) (FfnRef.proj xs wu))) = ffnArr xs wg wu wd tv := by
  funext j
  obtain ⟨e, n, l, rfl⟩ : ∃ (e : Fin 16) (n : Fin 17408) (l : Fin 128), j = ix3 e n l := ⟨j 0, j 1, j 2, by funext k; fin_cases k <;> rfl⟩
  refine (FfnRef.lay_at _ e n l).trans (Eq.trans ?_ (ffnArr_at _ _ _ _ _ e n l).symm)
  by_cases hn : n.val < 16896
  · rw [dif_pos hn, dif_pos hn, FfnRef.rows_at]
    refine congrArg (· * _) (Finset.sum_congr rfl fun f _ => congrArg (· * _) ?_)
    rw [FfnRef.act_at, FfnRef.proj_at, FfnRef.proj_at]
    rfl
  · rw [dif_neg hn, dif_neg hn]

/-- The reference's run ends with its result at the plain feed-forward of its arguments, and these unchanged. -/
theorem ref_run (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v14) = FfnRef.lay (FfnRef.rows (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))
        (FfnRef.act (FfnRef.proj (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)))
          (FfnRef.proj (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg2)))))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) :=
  Cert.Reference2Ideal.Value.run m ρ

/-- The result stated of the kernel's launch. -/
def final (m : (ℓ : Loc Cert.Kernel2Ideal.nD Cert.Kernel2Ideal.τ Cert.Kernel2Ideal.sig) → Buf (Elt Ideal) ℓ) (c : Dev Cert.Kernel2Ideal.nD) :
    FVec Ideal Cert.Kernel2Ideal.S16x17408x128 .f32 :=
  ffnArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))

/-- Over the reals the rows the call reads are the argument's. -/
theorem host_rows (m : (ℓ : Loc Cert.Kernel2Ideal.nD Cert.Kernel2Ideal.τ Cert.Kernel2Ideal.sig) → Buf (Elt Ideal) ℓ) (c : Dev Cert.Kernel2Ideal.nD) :
    (V m c Cert.Kernel2Ideal.main_v0 : FVec Ideal Cert.Kernel2Ideal.S16x2112x1024 .bf16) = m ((c.tc : Thread Cert.Kernel2Ideal.nD Cert.Kernel2Ideal.τ).loc Cert.Kernel2Ideal.main_arg0) := by
  unfold V
  after_results <;> rfl

/-- The array the call leaves is that result. -/
theorem arr_final (m : (ℓ : Loc Cert.Kernel2Ideal.nD Cert.Kernel2Ideal.τ Cert.Kernel2Ideal.sig) → Buf (Elt Ideal) ℓ) (c : Dev Cert.Kernel2Ideal.nD) :
    (Cert.Ffn.dats m 0 c).arrAt 5 Cert.Kernel2Ideal.cfg0.N = final m c := by
  rw [arr_5, host_rows, V_main_arg1, V_main_arg2, V_main_arg3, V_main_arg4]
  rfl

/-- The kernel's run ends with that result, and its arguments unchanged. -/
theorem ker_run (m : (ℓ : Loc Cert.Kernel2Ideal.nD Cert.Kernel2Ideal.τ Cert.Kernel2Ideal.sig) → Buf (Elt Ideal) ℓ) (ρ : Dev Cert.Kernel2Ideal.nD → PrngReg) :
    θ_run Cert.Kernel2Ideal.defs (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v1) = final m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) :=
  (θ_run _ _ _).mono (fun r h c => ⟨((h.1 c).1 5).trans (arr_final m c), h.2 c⟩)
    (θ_run_and (Cert.Ffn.run_main m ρ) (Cert.Ffn.unchanged m ρ))

/-- From equal arguments, kernel and reference of the experts' feed-forward end with equal results. -/
theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => final m c, ker_run m g, ?_⟩
  refine (θ_run _ _ _).mono (fun r h c => ?_) (ref_run m' g')
  obtain ⟨a0, a1, a2, a3, a4⟩ := hargs c
  refine ⟨(h c).1.trans ((ref_eq _ _ _ _ _).trans ?_), (h c).2⟩
  unfold final
  rw [a0, a1, a2, a3, a4]

end Cert.FfnValue

end
-- ==== Proof.InProj.Pay.lean ====
/- What the modulation and the input projection store, at an index. -/
module

public import proofs.«01_k».proof.Proof.Gen.Kernel3Ideal.Frame
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Idealize.ShloMosaic

/-- The mean of a row of 1024. -/
def mean (x : Fin 1024 → EReal) : EReal := Ideal.div (∑ k, x k) (Ideal.ofBits .f32 0x44800000#32)

/-- Lane `l` of a row normalised by its mean and variance, scaled by one and `sc`, shifted by `sh`. -/
def lane (x sc sh : Fin 1024 → EReal) (l : Fin 1024) : EReal :=
  (x l - mean x) * Ideal.rsqrt (mean (fun k => (x k - mean x) * (x k - mean x)) + Ideal.ofBits .f32 0x3727C5AC#32)
    * (Ideal.ofBits .f32 0x3F800000#32 + sc l) + sh l

/-- One modulation: the gated condition times a column of weights, and its bias. -/
def modLane (c w : Fin 1024 → EReal) (b : EReal) : EReal := (∑ k, c k * Ideal.logistic (c k) * w k) + b

/-- The value of the modulation's store. -/
theorem mod_at (x0 : Vec Ideal S8x1024 .f32) (x1 : Vec Ideal S1x1024x1024 .f32) (x2 : Vec Ideal S1x1024 .f32) (r : Fin 8) (l : Fin 1024) :
    k0_pay1 x0 x1 x2 (ix2 r l) = modLane (fun k => x0 (ix2 r k)) (fun k => x1 (ix3 0 k l)) (x2 (ix2 0 l)) := by
  unfold modLane
  pointwise [k0_pay1]

/-- The normalised and modulated rows. -/
theorem lane_at (x : Vec Ideal S1x256x1024 .f32) (sc sh : Vec Ideal S1x1x1x1024 .f32) (r : Fin 256) (l : Fin 1024) :
    k1_pay4 x sc sh (ix2 r l) = lane (fun k => x (ix3 0 r k)) (fun k => sc (ix4 0 0 0 k)) (fun k => sh (ix4 0 0 0 k)) l := by
  unfold lane mean
  pointwise [k1_pay4]

theorem pay5_at (x : Vec Ideal S1x256x1024 .f32) (sc sh : Vec Ideal S1x1x1x1024 .f32) (w : Vec Ideal S1024x1024 .bf16) (r : Fin 256) (q : Fin 1024) :
    k1_pay5 x sc sh w (ix3 0 r q) = ∑ l, k1_pay4 x sc sh (ix2 r l) * w (ix2 l q) := by
  pointwise [k1_pay5]

theorem pay6_at (h : FVec Ideal S256x1024 .bf16) (w : Vec Ideal S1024x512 .bf16) (r : Fin 256) (q : Fin 512) :
    k1_pay6 h w (ix3 0 r q) = ∑ l, h (ix2 r l) * w (ix2 l q) := by
  pointwise [k1_pay6]

theorem pay7_at (h : FVec Ideal S256x1024 .bf16) (w : Vec Ideal S1024x256 .bf16) (r : Fin 256) (q : Fin 256) :
    k1_pay7 h w (ix3 0 r q) = ∑ l, h (ix2 r l) * w (ix2 l q) := by
  pointwise [k1_pay7]

theorem pay8_at (h : FVec Ideal S256x1024 .bf16) (w : Vec Ideal S1024x1024 .bf16) (r : Fin 256) (q : Fin 1024) :
    k1_pay8 h w (ix3 0 r q) = ∑ l, h (ix2 r l) * w (ix2 l q) := by
  pointwise [k1_pay8]

theorem pay9_at (h : FVec Ideal S256x1024 .bf16) (w : Vec Ideal S1024x256 .bf16) (r : Fin 256) (q : Fin 256) :
    k1_pay9 h w (ix3 0 r q) = ∑ l, h (ix2 r l) * w (ix2 l q) := by
  pointwise [k1_pay9]

theorem pay10_at (h : FVec Ideal S256x1024 .bf16) (w : Vec Ideal S1024x256 .bf16) (r : Fin 256) (q : Fin 256) :
    k1_pay1 (k1_pay10 h w) (ix3 0 r q) = ∑ l, h (ix2 r l) * w (ix2 l q) := by
  pointwise [k1_pay10, k1_pay1]

theorem pay2_at (h : FVec Ideal S256x1024 .bf16) (w : Vec Ideal S1024x768 .bf16) (r : Fin 256) (q : Fin 768) :
    k1_pay2 h w (ix3 0 r q) = ∑ l, h (ix2 r l) * w (ix2 l q) := by
  pointwise [k1_pay2]

theorem pay3_at (h : FVec Ideal S256x1024 .bf16) (w : Vec Ideal S1024x128 .bf16) (r : Fin 256) (q : Fin 128) :
    k1_pay3 h w (ix3 0 r q) = ∑ l, h (ix2 r l) * w (ix2 l q) := by
  pointwise [k1_pay3]

/-- Row `r`, column `q` of a block of rows' projection, `off` columns into the weights. -/
def projLane (x0 : Vec Ideal S1x256x1024 .f32) (x1 : Vec Ideal S1x1x6x1024 .f32) (x2 : Vec Ideal S1024x4224 .bf16) (r : Fin 256) (q : Fin 4224) : EReal :=
  ∑ l, lane (fun k => x0 (ix3 0 r k)) (fun k => x1 (ix4 0 0 1 k)) (fun k => x1 (ix4 0 0 0 k)) l * x2 (ix2 l q)

/-- The modulation's block at an index. -/
theorem out0_at (x0 : Vec Ideal S8x1024 .f32) (x1 : Vec Ideal S1x1024x1024 .f32) (x2 : Vec Ideal S1x1024 .f32) (r : Fin 8) (l : Fin 1024) :
    out0_3 x0 x1 x2 (ix2 r l) = modLane (fun k => x0 (ix2 r k)) (fun k => x1 (ix3 0 k l)) (x2 (ix2 0 l)) := by
  unfold out0_3
  canon_tiles z hz
  all_goals
    idx_vars z
    obtain rfl : r = z0 := Fin.ext hz0
    obtain rfl : l = z1 := Fin.ext hz1
    rw [mod_at]
    congr 1
    all_goals first
      | (funext k; pointwise; done)
      | (pointwise; done)

/-- The first block at an index. -/
theorem out1_3_at (x0 : Vec Ideal S1x256x1024 .f32) (x1 : Vec Ideal S1x1x6x1024 .f32) (x2 : Vec Ideal S1024x4224 .bf16) (r : Fin 256) (q : Fin 1024) :
    out1_3 x0 x1 x2 (ix3 0 r q) = projLane x0 x1 x2 r ⟨0 + q.val, by omega⟩ := by
  unfold out1_3
  canon_tiles z hz
  all_goals
    idx_vars z
    obtain rfl : r = z1 := Fin.ext hz1
    obtain rfl : q = z2 := Fin.ext hz2
    obtain rfl : z0 = 0 := Subsingleton.elim _ _
    rw [pay5_at]
    unfold projLane
    refine Finset.sum_congr rfl fun l _ => congrArg₂ (· * ·) ?_ ?_
    · rw [lane_at]
      congr 1
      all_goals (funext k; pointwise)
    · pointwise

/-- The second block at an index. -/
theorem out1_4_at (x0 : Vec Ideal S1x256x1024 .f32) (x1 : Vec Ideal S1x1x6x1024 .f32) (x2 : Vec Ideal S1024x4224 .bf16) (r : Fin 256) (q : Fin 512) :
    out1_4 x0 x1 x2 (ix3 0 r q) = projLane x0 x1 x2 r ⟨1024 + q.val, by omega⟩ := by
  unfold_out out1_4
  canon_tiles z hz
  all_goals
    idx_vars z
    obtain rfl : r = z1 := Fin.ext hz1
    obtain rfl : q = z2 := Fin.ext hz2
    obtain rfl : z0 = 0 := Subsingleton.elim _ _
    rw [pay6_at]
    unfold projLane
    refine Finset.sum_congr rfl fun l _ => congrArg₂ (· * ·) ?_ ?_
    · rw [lane_at]
      congr 1
      all_goals (funext k; pointwise)
    · pointwise

/-- The third block at an index. -/
theorem out1_5_at (x0 : Vec Ideal S1x256x1024 .f32) (x1 : Vec Ideal S1x1x6x1024 .f32) (x2 : Vec Ideal S1024x4224 .bf16) (r : Fin 256) (q : Fin 256) :
    out1_5 x0 x1 x2 (ix3 0 r q) = projLane x0 x1 x2 r ⟨1536 + q.val, by omega⟩ := by
  unfold_out out1_5
  canon_tiles z hz
  all_goals
    idx_vars z
    obtain rfl : r = z1 := Fin.ext hz1
    obtain rfl : q = z2 := Fin.ext hz2
    obtain rfl : z0 = 0 := Subsingleton.elim _ _
    rw [pay7_at]
    unfold projLane
    refine Finset.sum_congr rfl fun l _ => congrArg₂ (· * ·) ?_ ?_
    · rw [lane_at]
      congr 1
      all_goals (funext k; pointwise)
    · pointwise

/-- The fourth block at an index. -/
theorem out1_6_at (x0 : Vec Ideal S1x256x1024 .f32) (x1 : Vec Ideal S1x1x6x1024 .f32) (x2 : Vec Ideal S1024x4224 .bf16) (r : Fin 256) (q : Fin 1024) :
    out1_6 x0 x1 x2 (ix3 0 r q) = projLane x0 x1 x2 r ⟨1792 + q.val, by omega⟩ := by
  unfold_out out1_6
  canon_tiles z hz
  all_goals
    idx_vars z
    obtain rfl : r = z1 := Fin.ext hz1
    obtain rfl : q = z2 := Fin.ext hz2
    obtain rfl : z0 = 0 := Subsingleton.elim _ _
    rw [pay8_at]
    unfold projLane
    refine Finset.sum_congr rfl fun l _ => congrArg₂ (· * ·) ?_ ?_
    · rw [lane_at]
      congr 1
      all_goals (funext k; pointwise)
    · pointwise

/-- The fifth block at an index. -/
theorem out1_7_at (x0 : Vec Ideal S1x256x1024 .f32) (x1 : Vec Ideal S1x1x6x1024 .f32) (x2 : Vec Ideal S1024x4224 .bf16) (r : Fin 256) (q : Fin 256) :
    out1_7 x0 x1 x2 (ix3 0 r q) = projLane x0 x1 x2 r ⟨2816 + q.val, by omega⟩ := by
  unfold_out out1_7
  canon_tiles z hz
  all_goals
    idx_vars z
    obtain rfl : r = z1 := Fin.ext hz1
    obtain rfl : q = z2 := Fin.ext hz2
    obtain rfl : z0 = 0 := Subsingleton.elim _ _
    rw [pay9_at]
    unfold projLane
    refine Finset.sum_congr rfl fun l _ => congrArg₂ (· * ·) ?_ ?_
    · rw [lane_at]
      congr 1
      all_goals (funext k; pointwise)
    · pointwise

/-- The sixth block at an index. -/
theorem out1_8_at (x0 : Vec Ideal S1x256x1024 .f32) (x1 : Vec Ideal S1x1x6x1024 .f32) (x2 : Vec Ideal S1024x4224 .bf16) (r : Fin 256) (q : Fin 256) :
    out1_8 x0 x1 x2 (ix3 0 r q) = projLane x0 x1 x2 r ⟨3072 + q.val, by omega⟩ := by
  unfold_out out1_8
  canon_tiles z hz
  all_goals
    idx_vars z
    obtain rfl : r = z1 := Fin.ext hz1
    obtain rfl : q = z2 := Fin.ext hz2
    obtain rfl : z0 = 0 := Subsingleton.elim _ _
    rw [pay10_at]
    unfold projLane
    refine Finset.sum_congr rfl fun l _ => congrArg₂ (· * ·) ?_ ?_
    · rw [lane_at]
      congr 1
      all_goals (funext k; pointwise)
    · pointwise

/-- The seventh block at an index. -/
theorem out1_9_at (x0 : Vec Ideal S1x256x1024 .f32) (x1 : Vec Ideal S1x1x6x1024 .f32) (x2 : Vec Ideal S1024x4224 .bf16) (r : Fin 256) (q : Fin 768) :
    out1_9 x0 x1 x2 (ix3 0 r q) = projLane x0 x1 x2 r ⟨3328 + q.val, by omega⟩ := by
  unfold_out out1_9
  canon_tiles z hz
  all_goals
    idx_vars z
    obtain rfl : r = z1 := Fin.ext hz1
    obtain rfl : q = z2 := Fin.ext hz2
    obtain rfl : z0 = 0 := Subsingleton.elim _ _
    rw [pay2_at]
    unfold projLane
    refine Finset.sum_congr rfl fun l _ => congrArg₂ (· * ·) ?_ ?_
    · rw [lane_at]
      congr 1
      all_goals (funext k; pointwise)
    · pointwise

/-- The eighth block at an index. -/
theorem out1_10_at (x0 : Vec Ideal S1x256x1024 .f32) (x1 : Vec Ideal S1x1x6x1024 .f32) (x2 : Vec Ideal S1024x4224 .bf16) (r : Fin 256) (q : Fin 128) :
    out1_10 x0 x1 x2 (ix3 0 r q) = projLane x0 x1 x2 r ⟨4096 + q.val, by omega⟩ := by
  unfold_out out1_10
  canon_tiles z hz
  all_goals
    idx_vars z
    obtain rfl : r = z1 := Fin.ext hz1
    obtain rfl : q = z2 := Fin.ext hz2
    obtain rfl : z0 = 0 := Subsingleton.elim _ _
    rw [pay3_at]
    unfold projLane
    refine Finset.sum_congr rfl fun l _ => congrArg₂ (· * ·) ?_ ?_
    · rw [lane_at]
      congr 1
      all_goals (funext k; pointwise)
    · pointwise

end Cert.InProj

end
-- ==== Proof.InProj.Arrays.lean ====
/- The arrays the modulation and the input projection leave. -/
module

public import proofs.«01_k».proof.Proof.InProj.Pay

@[expose] public section

set_option maxRecDepth 16384

noncomputable section

namespace Cert.InProj

open Cert.Kernel3Ideal Cert.Kernel3Ideal.Gen Idealize.ShloMosaic Idealize.ShloMosaic.TcCoe
open Idealize.ShloMosaic.Pipeline (Dat Cfg Window)

variable (V : (c : Dev nD) → (b : Ref sig .tc) → Buf (Elt Ideal) ((c : Thread nD τ).loc b))

/-- The modulation array. -/
def modArr (x : Vec Ideal S8x1024 .f32) (w : Vec Ideal S2x1024x6144 .f32) (b : Vec Ideal S1x6144 .f32) : FVec Ideal S8x6144 .f32 := fun j =>
  modLane (fun k => x (ix2 (j 0) k)) (fun k => w (ix3 0 k (j 1))) (b (ix2 0 (j 1)))

/-- Which of the two modulations a row takes: the context's for the first 256 rows, then the latent rows'. -/
def seg (n : Fin 8448) : Fin 2 := if n.val < 256 then 0 else 1

/-- Lane `p` of the projection of row `n`, normalised and modulated. -/
def projAt (x : Vec Ideal S2x8448x1024 .f32) (s : Vec Ideal S2x2x6x1024 .f32) (w : Vec Ideal S1024x4224 .bf16) (b : Fin 2) (n : Fin 8448) (p : Fin 4224) : EReal :=
  ∑ l, lane (fun k => x (ix3 b n k)) (fun k => s (ix4 b (seg n) 1 k)) (fun k => s (ix4 b (seg n) 0 k)) l * w (ix2 l p)

/-- The index maps of the modulation, over 6 blocks of lanes. -/
theorem idx0 : ∀ t : Fin cfg0.N, win0_0.index t = ![0, 0] ∧ win0_1.index t = ![0, 0, t.val] ∧ win0_2.index t = ![0, t.val]
    ∧ win0_3.index t = ![0, t.val] ∧ t.val < 6 :=
  (by decide +kernel : ∀ t : Fin grid0.N, _)

/-- The lane of the array at lane `l` of point `t`'s block. -/
def lOf (t : Fin cfg0.N) (l : Fin 1024) : Fin 6144 := ⟨t.val * 1024 + l.val, by have := (idx0 t).2.2.2.2; omega⟩
theorem lOf_val (t : Fin cfg0.N) (l : Fin 1024) : (lOf t l).val = t.val * 1024 + l.val := rfl

theorem blk0_0 (c : Dev nD) (t : Fin cfg0.N) (r : Fin 8) (k : Fin 1024) : (iblk0 V c 0 t : Vec Ideal S8x1024 .f32) (ix2 r k)
    = (V c main_v2 : Vec Ideal S8x1024 .f32) (ix2 r k) := by
  blk_ext [iblk0, idx0 t]

theorem blk0_1 (c : Dev nD) (t : Fin cfg0.N) (k l : Fin 1024) : (iblk0 V c 1 t : Vec Ideal S1x1024x1024 .f32) (ix3 0 k l)
    = (V c main_arg4 : Vec Ideal S2x1024x6144 .f32) (ix3 0 k (lOf t l)) := by
  blk_ext [iblk0, idx0 t, lOf_val]

theorem blk0_2 (c : Dev nD) (t : Fin cfg0.N) (l : Fin 1024) : (iblk0 V c 2 t : Vec Ideal S1x1024 .f32) (ix2 0 l)
    = (V c main_v5 : Vec Ideal S1x6144 .f32) (ix2 0 (lOf t l)) := by
  blk_ext [iblk0, idx0 t, lOf_val]

theorem emb0_3 (t : Fin cfg0.N) (r : Fin 8) (l : Fin 1024) :
    (((View.whole main_v6).slice (win0_3.rect t)).emb (ix2 r l)) = ix2 r (lOf t l) := by
  blk_ext [idx0 t, lOf_val]

/-- The modulation array after its call. -/
theorem arr0_3 (c : Dev nD) : (dat0 V c).arrAt 3 cfg0.N = modArr (V c main_v2) (V c main_arg4) (V c main_v5) := by
  refine (dat0 V c).arrAt_eq_of_covers 3 _ (by decide +kernel) fun t hf y => ?_
  blk_simp
  rw [after0_3]
  idx_vars y
  rw [emb0_3, out0_at]
  refine Eq.trans ?_ (show modLane (fun k => (V c main_v2 : Vec Ideal S8x1024 .f32) (ix2 y0 k)) (fun k => (V c main_arg4 : Vec Ideal S2x1024x6144 .f32) (ix3 0 k (lOf t y1)))
    ((V c main_v5 : Vec Ideal S1x6144 .f32) (ix2 0 (lOf t y1))) = _ from rfl)
  rw [← blk0_2 V c t y1]
  exact congrArg₂ (modLane · · _) (funext fun k => blk0_0 V c t y0 k) (funext fun k => blk0_1 V c t k y1)

/-- The index maps of the projection, over 2 batches by 33 blocks of rows. -/
theorem idx1 : ∀ t : Fin cfg1.N, win1_0.index t = ![t.val / 33, t.val % 33, 0] ∧ win1_1.index t = ![t.val / 33, min (t.val % 33) 1, 0, 0]
    ∧ win1_2.index t = ![0, 0] ∧ t.val < 66 ∧ win1_3.index t = ![t.val / 33, t.val % 33, 0] ∧ win1_4.index t = ![t.val / 33, t.val % 33, 0] ∧ win1_5.index t = ![t.val / 33, t.val % 33, 0] ∧ win1_6.index t = ![t.val / 33, t.val % 33, 0] ∧ win1_7.index t = ![t.val / 33, t.val % 33, 0] ∧ win1_8.index t = ![t.val / 33, t.val % 33, 0] ∧ win1_9.index t = ![t.val / 33, t.val % 33, 0] ∧ win1_10.index t = ![t.val / 33, t.val % 33, 0] :=
  (by decide +kernel : ∀ t : Fin grid1.N, _)

/-- The batch of point `t`. -/
def bOf (t : Fin cfg1.N) : Fin 2 := ⟨t.val / 33, by have := (idx1 t).2.2.2.1; omega⟩
/-- The row of the arrays at row `r` of point `t`'s blocks. -/
def nOf (t : Fin cfg1.N) (r : Fin 256) : Fin 8448 := ⟨t.val % 33 * 256 + r.val, by omega⟩
theorem bOf_val (t : Fin cfg1.N) : (bOf t).val = t.val / 33 := rfl
theorem nOf_val (t : Fin cfg1.N) (r : Fin 256) : (nOf t r).val = t.val % 33 * 256 + r.val := rfl
theorem seg_val (t : Fin cfg1.N) (r : Fin 256) : (seg (nOf t r)).val = min (t.val % 33) 1 := by
  unfold seg
  have h := nOf_val t r
  by_cases hn : (nOf t r).val < 256
  · rw [if_pos hn]
    show 0 = _
    omega
  · rw [if_neg hn]
    show 1 = _
    omega

theorem blk1_0 (c : Dev nD) (t : Fin cfg1.N) (r : Fin 256) (k : Fin 1024) : (iblk1 V c 0 t : Vec Ideal S1x256x1024 .f32) (ix3 0 r k)
    = (V c main_v0 : Vec Ideal S2x8448x1024 .f32) (ix3 (bOf t) (nOf t r) k) := by
  blk_ext [iblk1, idx1 t, bOf_val, nOf_val]

theorem blk1_1 (c : Dev nD) (t : Fin cfg1.N) (r : Fin 256) (j : Fin 6) (k : Fin 1024) : (iblk1 V c 1 t : Vec Ideal S1x1x6x1024 .f32) (ix4 0 0 j k)
    = (V c main_v14 : Vec Ideal S2x2x6x1024 .f32) (ix4 (bOf t) (seg (nOf t r)) j k) := by
  blk_ext [iblk1, idx1 t, bOf_val, seg_val]

theorem blk1_2 (c : Dev nD) (t : Fin cfg1.N) (l : Fin 1024) (p : Fin 4224) : (iblk1 V c 2 t : Vec Ideal S1024x4224 .bf16) (ix2 l p)
    = (V c main_v42 : Vec Ideal S1024x4224 .bf16) (ix2 l p) := by
  blk_ext [iblk1, idx1 t]

/-- A block's projection is the arrays' projection. -/
theorem projLane_blk (c : Dev nD) (t : Fin cfg1.N) (r : Fin 256) (p : Fin 4224) :
    projLane (iblk1 V c 0 t : Vec Ideal S1x256x1024 .f32) (iblk1 V c 1 t : Vec Ideal S1x1x6x1024 .f32) (iblk1 V c 2 t : Vec Ideal S1024x4224 .bf16) r p
      = projAt (V c main_v0) (V c main_v14) (V c main_v42) (bOf t) (nOf t r) p := by
  unfold projLane projAt
  refine Finset.sum_congr rfl fun l _ => congrArg₂ (· * ·) ?_ (blk1_2 V c t l p)
  rw [funext fun k => blk1_0 V c t r k, funext fun k => blk1_1 V c t r 1 k, funext fun k => blk1_1 V c t r 0 k]

/-- The first result array. -/
def arr0 (x : Vec Ideal S2x8448x1024 .f32) (s : Vec Ideal S2x2x6x1024 .f32) (w : Vec Ideal S1024x4224 .bf16) : FVec Ideal S2x8448x1024 .f32 := fun j =>
  projAt x s w (j 0) (j 1) ⟨0 + (j 2).val, by have : (j 2).val < 1024 := (j 2).isLt; omega⟩

theorem arr0_at (x : Vec Ideal S2x8448x1024 .f32) (s : Vec Ideal S2x2x6x1024 .f32) (w : Vec Ideal S1024x4224 .bf16) (b : Fin 2) (n : Fin 8448) (q : Fin 1024) :
    arr0 x s w (ix3 b n q) = projAt x s w b n ⟨0 + q.val, by omega⟩ := rfl

theorem emb1_3 (t : Fin cfg1.N) (r : Fin 256) (q : Fin 1024) :
    (((View.whole main_v43_0).slice (win1_3.rect t)).emb (ix3 0 r q)) = ix3 (bOf t) (nOf t r) q := by
  blk_ext [idx1 t, bOf_val, nOf_val]

/-- What the projection leaves in its first result. -/
theorem arr1_3 (c : Dev nD) : (dat1 V c).arrAt 3 cfg1.N = arr0 (V c main_v0) (V c main_v14) (V c main_v42) := by
  refine (dat1 V c).arrAt_eq_of_covers 3 _ (by decide +kernel) fun t hf y => ?_
  blk_simp
  rw [after1_3]
  idx_vars y
  obtain rfl : y0 = 0 := Subsingleton.elim _ _
  rw [emb1_3, out1_3_at]
  exact projLane_blk V c t y1 _

/-- The second result array. -/
def arr1 (x : Vec Ideal S2x8448x1024 .f32) (s : Vec Ideal S2x2x6x1024 .f32) (w : Vec Ideal S1024x4224 .bf16) : FVec Ideal S2x8448x512 .f32 := fun j =>
  projAt x s w (j 0) (j 1) ⟨1024 + (j 2).val, by have : (j 2).val < 512 := (j 2).isLt; omega⟩

theorem arr1_at (x : Vec Ideal S2x8448x1024 .f32) (s : Vec Ideal S2x2x6x1024 .f32) (w : Vec Ideal S1024x4224 .bf16) (b : Fin 2) (n : Fin 8448) (q : Fin 512) :
    arr1 x s w (ix3 b n q) = projAt x s w b n ⟨1024 + q.val, by omega⟩ := rfl

theorem emb1_4 (t : Fin cfg1.N) (r : Fin 256) (q : Fin 512) :
    (((View.whole main_v43_1).slice (win1_4.rect t)).emb (ix3 0 r q)) = ix3 (bOf t) (nOf t r) q := by
  blk_ext [idx1 t, bOf_val, nOf_val]

/-- What the projection leaves in its second result. -/
theorem arr1_4 (c : Dev nD) : (dat1 V c).arrAt 4 cfg1.N = arr1 (V c main_v0) (V c main_v14) (V c main_v42) := by
  refine (dat1 V c).arrAt_eq_of_covers 4 _ (by decide +kernel) fun t hf y => ?_
  blk_simp
  rw [after1_4]
  idx_vars y
  obtain rfl : y0 = 0 := Subsingleton.elim _ _
  rw [emb1_4, out1_4_at]
  exact projLane_blk V c t y1 _

/-- The third result array. -/
def arr2 (x : Vec Ideal S2x8448x1024 .f32) (s : Vec Ideal S2x2x6x1024 .f32) (w : Vec Ideal S1024x4224 .bf16) : FVec Ideal S2x8448x256 .f32 := fun j =>
  projAt x s w (j 0) (j 1) ⟨1536 + (j 2).val, by have : (j 2).val < 256 := (j 2).isLt; omega⟩

theorem arr2_at (x : Vec Ideal S2x8448x1024 .f32) (s : Vec Ideal S2x2x6x1024 .f32) (w : Vec Ideal S1024x4224 .bf16) (b : Fin 2) (n : Fin 8448) (q : Fin 256) :
    arr2 x s w (ix3 b n q) = projAt x s w b n ⟨1536 + q.val, by omega⟩ := rfl

theorem emb1_5 (t : Fin cfg1.N) (r : Fin 256) (q : Fin 256) :
    (((View.whole main_v43_2).slice (win1_5.rect t)).emb (ix3 0 r q)) = ix3 (bOf t) (nOf t r) q := by
  blk_ext [idx1 t, bOf_val, nOf_val]

/-- What the projection leaves in its third result. -/
theorem arr1_5 (c : Dev nD) : (dat1 V c).arrAt 5 cfg1.N = arr2 (V c main_v0) (V c main_v14) (V c main_v42) := by
  refine (dat1 V c).arrAt_eq_of_covers 5 _ (by decide +kernel) fun t hf y => ?_
  blk_simp
  rw [after1_5]
  idx_vars y
  obtain rfl : y0 = 0 := Subsingleton.elim _ _
  rw [emb1_5, out1_5_at]
  exact projLane_blk V c t y1 _

/-- The fourth result array. -/
def arr3 (x : Vec Ideal S2x8448x1024 .f32) (s : Vec Ideal S2x2x6x1024 .f32) (w : Vec Ideal S1024x4224 .bf16) : FVec Ideal S2x8448x1024 .f32 := fun j =>
  projAt x s w (j 0) (j 1) ⟨1792 + (j 2).val, by have : (j 2).val < 1024 := (j 2).isLt; omega⟩

theorem arr3_at (x : Vec Ideal S2x8448x1024 .f32) (s : Vec Ideal S2x2x6x1024 .f32) (w : Vec Ideal S1024x4224 .bf16) (b : Fin 2) (n : Fin 8448) (q : Fin 1024) :
    arr3 x s w (ix3 b n q) = projAt x s w b n ⟨1792 + q.val, by omega⟩ := rfl

theorem emb1_6 (t : Fin cfg1.N) (r : Fin 256) (q : Fin 1024) :
    (((View.whole main_v43_3).slice (win1_6.rect t)).emb (ix3 0 r q)) = ix3 (bOf t) (nOf t r) q := by
  blk_ext [idx1 t, bOf_val, nOf_val]

/-- What the projection leaves in its fourth result. -/
theorem arr1_6 (c : Dev nD) : (dat1 V c).arrAt 6 cfg1.N = arr3 (V c main_v0) (V c main_v14) (V c main_v42) := by
  refine (dat1 V c).arrAt_eq_of_covers 6 _ (by decide +kernel) fun t hf y => ?_
  blk_simp
  rw [after1_6]
  idx_vars y
  obtain rfl : y0 = 0 := Subsingleton.elim _ _
  rw [emb1_6, out1_6_at]
  exact projLane_blk V c t y1 _

/-- The fifth result array. -/
def arr4 (x : Vec Ideal S2x8448x1024 .f32) (s : Vec Ideal S2x2x6x1024 .f32) (w : Vec Ideal S1024x4224 .bf16) : FVec Ideal S2x8448x256 .f32 := fun j =>
  projAt x s w (j 0) (j 1) ⟨2816 + (j 2).val, by have : (j 2).val < 256 := (j 2).isLt; omega⟩

theorem arr4_at (x : Vec Ideal S2x8448x1024 .f32) (s : Vec Ideal S2x2x6x1024 .f32) (w : Vec Ideal S1024x4224 .bf16) (b : Fin 2) (n : Fin 8448) (q : Fin 256) :
    arr4 x s w (ix3 b n q) = projAt x s w b n ⟨2816 + q.val, by omega⟩ := rfl

theorem emb1_7 (t : Fin cfg1.N) (r : Fin 256) (q : Fin 256) :
    (((View.whole main_v43_4).slice (win1_7.rect t)).emb (ix3 0 r q)) = ix3 (bOf t) (nOf t r) q := by
  blk_ext [idx1 t, bOf_val, nOf_val]

/-- What the projection leaves in its fifth result. -/
theorem arr1_7 (c : Dev nD) : (dat1 V c).arrAt 7 cfg1.N = arr4 (V c main_v0) (V c main_v14) (V c main_v42) := by
  refine (dat1 V c).arrAt_eq_of_covers 7 _ (by decide +kernel) fun t hf y => ?_
  blk_simp
  rw [after1_7]
  idx_vars y
  obtain rfl : y0 = 0 := Subsingleton.elim _ _
  rw [emb1_7, out1_7_at]
  exact projLane_blk V c t y1 _

/-- The sixth result array. -/
def arr5 (x : Vec Ideal S2x8448x1024 .f32) (s : Vec Ideal S2x2x6x1024 .f32) (w : Vec Ideal S1024x4224 .bf16) : FVec Ideal S2x8448x256 .f32 := fun j =>
  projAt x s w (j 0) (j 1) ⟨3072 + (j 2).val, by have : (j 2).val < 256 := (j 2).isLt; omega⟩

theorem arr5_at (x : Vec Ideal S2x8448x1024 .f32) (s : Vec Ideal S2x2x6x1024 .f32) (w : Vec Ideal S1024x4224 .bf16) (b : Fin 2) (n : Fin 8448) (q : Fin 256) :
    arr5 x s w (ix3 b n q) = projAt x s w b n ⟨3072 + q.val, by omega⟩ := rfl

theorem emb1_8 (t : Fin cfg1.N) (r : Fin 256) (q : Fin 256) :
    (((View.whole main_v43_5).slice (win1_8.rect t)).emb (ix3 0 r q)) = ix3 (bOf t) (nOf t r) q := by
  blk_ext [idx1 t, bOf_val, nOf_val]

/-- What the projection leaves in its sixth result. -/
theorem arr1_8 (c : Dev nD) : (dat1 V c).arrAt 8 cfg1.N = arr5 (V c main_v0) (V c main_v14) (V c main_v42) := by
  refine (dat1 V c).arrAt_eq_of_covers 8 _ (by decide +kernel) fun t hf y => ?_
  blk_simp
  rw [after1_8]
  idx_vars y
  obtain rfl : y0 = 0 := Subsingleton.elim _ _
  rw [emb1_8, out1_8_at]
  exact projLane_blk V c t y1 _

/-- The seventh result array. -/
def arr6 (x : Vec Ideal S2x8448x1024 .f32) (s : Vec Ideal S2x2x6x1024 .f32) (w : Vec Ideal S1024x4224 .bf16) : FVec Ideal S2x8448x768 .f32 := fun j =>
  projAt x s w (j 0) (j 1) ⟨3328 + (j 2).val, by have : (j 2).val < 768 := (j 2).isLt; omega⟩

theorem arr6_at (x : Vec Ideal S2x8448x1024 .f32) (s : Vec Ideal S2x2x6x1024 .f32) (w : Vec Ideal S1024x4224 .bf16) (b : Fin 2) (n : Fin 8448) (q : Fin 768) :
    arr6 x s w (ix3 b n q) = projAt x s w b n ⟨3328 + q.val, by omega⟩ := rfl

theorem emb1_9 (t : Fin cfg1.N) (r : Fin 256) (q : Fin 768) :
    (((View.whole main_v43_6).slice (win1_9.rect t)).emb (ix3 0 r q)) = ix3 (bOf t) (nOf t r) q := by
  blk_ext [idx1 t, bOf_val, nOf_val]

/-- What the projection leaves in its seventh result. -/
theorem arr1_9 (c : Dev nD) : (dat1 V c).arrAt 9 cfg1.N = arr6 (V c main_v0) (V c main_v14) (V c main_v42) := by
  refine (dat1 V c).arrAt_eq_of_covers 9 _ (by decide +kernel) fun t hf y => ?_
  blk_simp
  rw [after1_9]
  idx_vars y
  obtain rfl : y0 = 0 := Subsingleton.elim _ _
  rw [emb1_9, out1_9_at]
  exact projLane_blk V c t y1 _

/-- The eighth result array. -/
def arr7 (x : Vec Ideal S2x8448x1024 .f32) (s : Vec Ideal S2x2x6x1024 .f32) (w : Vec Ideal S1024x4224 .bf16) : FVec Ideal S2x8448x128 .f32 := fun j =>
  projAt x s w (j 0) (j 1) ⟨4096 + (j 2).val, by have : (j 2).val < 128 := (j 2).isLt; omega⟩

theorem arr7_at (x : Vec Ideal S2x8448x1024 .f32) (s : Vec Ideal S2x2x6x1024 .f32) (w : Vec Ideal S1024x4224 .bf16) (b : Fin 2) (n : Fin 8448) (q : Fin 128) :
    arr7 x s w (ix3 b n q) = projAt x s w b n ⟨4096 + q.val, by omega⟩ := rfl

theorem emb1_10 (t : Fin cfg1.N) (r : Fin 256) (q : Fin 128) :
    (((View.whole main_v43_7).slice (win1_10.rect t)).emb (ix3 0 r q)) = ix3 (bOf t) (nOf t r) q := by
  blk_ext [idx1 t, bOf_val, nOf_val]

/-- What the projection leaves in its eighth result. -/
theorem arr1_10 (c : Dev nD) : (dat1 V c).arrAt 10 cfg1.N = arr7 (V c main_v0) (V c main_v14) (V c main_v42) := by
  refine (dat1 V c).arrAt_eq_of_covers 10 _ (by decide +kernel) fun t hf y => ?_
  blk_simp
  rw [after1_10]
  idx_vars y
  obtain rfl : y0 = 0 := Subsingleton.elim _ _
  rw [emb1_10, out1_10_at]
  exact projLane_blk V c t y1 _

end Cert.InProj

end
-- ==== Proof.InProj.Host.lean ====
/- What the host prepares for the modulation and the input projection, at an index. -/
module

public import proofs.«01_k».proof.Proof.InProj.Pay
public import Idealize.ShloMosaic.Lib.StableHlo.ReadAt

@[expose] public section

set_option maxRecDepth 16384

noncomputable section

namespace Cert.InProj.HostAt

open Cert.Kernel3Ideal Cert.Kernel3Ideal.Gen Idealize.ShloMosaic Idealize.ShloMosaic.TcCoe

variable (m : (ℓ : Loc nD τ sig) → Buf (Elt Ideal) ℓ) (ρ : Dev nD → PrngReg)

/-- The projection's weights as the host reads them. -/
def w6 (c : Dev nD) : FVec Ideal S2x1024x2576 .f32 := W2 m ρ c (Proc.devRef .tc main_arg6)

/-- The host's zero. -/
theorem zero_eq : (FloatOps.sitofp .f32 (0#32 : BitVec 32) : Ideal .f32) = (0 : EReal) := by
  show ((((0#32 : BitVec 32).toInt : ℝ)) : EReal) = 0
  simp

/-- The joined rows, where the context's come first. -/
theorem rows_at (c : Dev nD) (b : Fin 2) (n : Fin 8448) (k : Fin 1024) :
    (W1 m ρ c (Proc.devRef .tc main_v0) : FVec Ideal S2x8448x1024 .f32) (ix3 b n k)
      = if h : n.val < 256 then (W0 m ρ c (Proc.devRef .tc main_arg2) : FVec Ideal S2x256x1024 .f32) (ix3 b ⟨n.val, h⟩ k)
        else (W0 m ρ c (Proc.devRef .tc main_arg0) : FVec Ideal S2x8192x1024 .f32) (ix3 b ⟨n.val - 256, by omega⟩ k) := by
  after_reads_at

/-- The conditions: one row for each batch, then the context's. -/
theorem conds_at (c : Dev nD) (r : Fin 8) (k : Fin 1024) :
    (W1 m ρ c (Proc.devRef .tc main_v2) : FVec Ideal S8x1024 .f32) (ix2 r k)
      = if h : r.val < 2 then (W0 m ρ c (Proc.devRef .tc main_arg1) : FVec Ideal S2x1024 .f32) (ix2 ⟨r.val, h⟩ k)
        else (W0 m ρ c (Proc.devRef .tc main_arg3) : FVec Ideal S1024 .f32) (ix1 k) := by
  after_reads_at

/-- The first layer's bias. -/
theorem bias_at (c : Dev nD) (p : Fin 6144) :
    (W1 m ρ c (Proc.devRef .tc main_v5) : FVec Ideal S1x6144 .f32) (ix2 0 p)
      = (W0 m ρ c (Proc.devRef .tc main_arg5) : FVec Ideal S2x6144 .f32) (ix2 0 p) := by
  after_reads_at

/-- The modulations laid out by batch and kind of row: the context's is the third row, a latent row's its batch's. -/
theorem mods_at (U : Valuation τ sig (Elt Ideal)) (b s : Fin 2) (j : Fin 6) (k : Fin 1024) :
    (StableHlo.after hostOps1 U (Proc.devRef .tc main_v14) : FVec Ideal S2x2x6x1024 .f32) (ix4 b s j k)
      = if _h : s.val < 1 then (U (Proc.devRef .tc main_v6) : FVec Ideal S8x6144 .f32) (ix2 2 ⟨j.val * 1024 + k.val, by omega⟩)
        else (U (Proc.devRef .tc main_v6) : FVec Ideal S8x6144 .f32) (ix2 ⟨b.val, by omega⟩ ⟨j.val * 1024 + k.val, by omega⟩) := by
  after_reads_at

/-- The first group of the joined weight columns. -/
theorem cat0 (U : Valuation τ sig (Elt Ideal)) (l : Fin 1024) (q : Fin 1024) :
    (StableHlo.after hostOps1_12 U (Proc.devRef .tc main_v42) : FVec Ideal S1024x4224 .bf16) (ix2 l ⟨0 + q.val, by omega⟩)
      = (U (Proc.devRef .tc main_v20) : FVec Ideal S1024x1024 .f32) (ix2 l q) := by
  after_reads_at
  rfl

/-- The first group's columns: 8 heads of 64, each padded with zeros to 128. -/
theorem col0 (c : Dev nD) (l : Fin 1024) (q : Fin 1024) :
    (W14 m ρ c (Proc.devRef .tc main_v20) : FVec Ideal S1024x1024 .f32) (ix2 l q)
      = if h : q.val % 128 < 64 then w6 m ρ c (ix3 0 l ⟨0 + (q.val / 128 * 64 + q.val % 128), by omega⟩) else 0 := by
  have key : (W14 m ρ c (Proc.devRef .tc main_v20) : FVec Ideal S1024x1024 .f32) (ix2 l q)
      = if h : q.val / 128 < 8 ∧ q.val % 128 < 64 then w6 m ρ c (ix3 0 l ⟨0 + (q.val / 128 * 64 + q.val % 128), by omega⟩)
        else FloatOps.sitofp .f32 (0#32 : BitVec 32) := by
    unfold w6
    after_reads_at
  rw [key, zero_eq]
  by_cases h : q.val % 128 < 64
  · rw [dif_pos h, dif_pos ⟨by omega, h⟩]
  · rw [dif_neg h, dif_neg fun k => h k.2]

/-- The second group of the joined weight columns. -/
theorem cat1 (U : Valuation τ sig (Elt Ideal)) (l : Fin 1024) (q : Fin 512) :
    (StableHlo.after hostOps1_12 U (Proc.devRef .tc main_v42) : FVec Ideal S1024x4224 .bf16) (ix2 l ⟨1024 + q.val, by omega⟩)
      = (U (Proc.devRef .tc main_v24) : FVec Ideal S1024x512 .f32) (ix2 l q) := by
  after_reads_at
  rfl

/-- The second group's columns: 4 heads of 64, each padded with zeros to 128. -/
theorem col1 (c : Dev nD) (l : Fin 1024) (q : Fin 512) :
    (W14 m ρ c (Proc.devRef .tc main_v24) : FVec Ideal S1024x512 .f32) (ix2 l q)
      = if h : q.val % 128 < 64 then w6 m ρ c (ix3 0 l ⟨512 + (q.val / 128 * 64 + q.val % 128), by omega⟩) else 0 := by
  have key : (W14 m ρ c (Proc.devRef .tc main_v24) : FVec Ideal S1024x512 .f32) (ix2 l q)
      = if h : q.val / 128 < 4 ∧ q.val % 128 < 64 then w6 m ρ c (ix3 0 l ⟨512 + (q.val / 128 * 64 + q.val % 128), by omega⟩)
        else FloatOps.sitofp .f32 (0#32 : BitVec 32) := by
    unfold w6
    after_reads_at
  rw [key, zero_eq]
  by_cases h : q.val % 128 < 64
  · rw [dif_pos h, dif_pos ⟨by omega, h⟩]
  · rw [dif_neg h, dif_neg fun k => h k.2]

/-- The third group of the joined weight columns. -/
theorem cat2 (U : Valuation τ sig (Elt Ideal)) (l : Fin 1024) (q : Fin 256) :
    (StableHlo.after hostOps1_12 U (Proc.devRef .tc main_v42) : FVec Ideal S1024x4224 .bf16) (ix2 l ⟨1536 + q.val, by omega⟩)
      = (U (Proc.devRef .tc main_v25) : FVec Ideal S1024x256 .f32) (ix2 l q) := by
  after_reads_at
  rw [dif_neg (by omega), dif_neg (by omega), dif_pos (by omega)]
  rw [show StableHlo.upto hostOps1_12 U 0 = U from rfl]
  refine congrArg (U (Proc.devRef .tc main_v25)) (congrArg (ix2 l) (Fin.ext ?_))
  show 1536 + q.val - 1024 - 512 = q.val
  omega

/-- The third group's columns. -/
theorem col2 (c : Dev nD) (l : Fin 1024) (q : Fin 256) :
    (W14 m ρ c (Proc.devRef .tc main_v25) : FVec Ideal S1024x256 .f32) (ix2 l q)
      = w6 m ρ c (ix3 0 l ⟨768 + q.val, by omega⟩) := by
  unfold w6
  after_reads_at

/-- The fourth group of the joined weight columns. -/
theorem cat3 (U : Valuation τ sig (Elt Ideal)) (l : Fin 1024) (q : Fin 1024) :
    (StableHlo.after hostOps1_12 U (Proc.devRef .tc main_v42) : FVec Ideal S1024x4224 .bf16) (ix2 l ⟨1792 + q.val, by omega⟩)
      = (U (Proc.devRef .tc main_v29) : FVec Ideal S1024x1024 .f32) (ix2 l q) := by
  after_reads_at
  rw [dif_neg (by omega), dif_neg (by omega), dif_neg (by omega), dif_pos (by omega)]
  rw [show StableHlo.upto hostOps1_12 U 0 = U from rfl]
  refine congrArg (U (Proc.devRef .tc main_v29)) (congrArg (ix2 l) (Fin.ext ?_))
  show 1792 + q.val - 1024 - 512 - 256 = q.val
  omega

/-- The fourth group's columns: 8 heads of 64, each padded with zeros to 128. -/
theorem col3 (c : Dev nD) (l : Fin 1024) (q : Fin 1024) :
    (W14 m ρ c (Proc.devRef .tc main_v29) : FVec Ideal S1024x1024 .f32) (ix2 l q)
      = if h : q.val % 128 < 64 then w6 m ρ c (ix3 0 l ⟨1040 + (q.val / 128 * 64 + q.val % 128), by omega⟩) else 0 := by
  have key : (W14 m ρ c (Proc.devRef .tc main_v29) : FVec Ideal S1024x1024 .f32) (ix2 l q)
      = if h : q.val / 128 < 8 ∧ q.val % 128 < 64 then w6 m ρ c (ix3 0 l ⟨1040 + (q.val / 128 * 64 + q.val % 128), by omega⟩)
        else FloatOps.sitofp .f32 (0#32 : BitVec 32) := by
    unfold w6
    after_reads_at
  rw [key, zero_eq]
  by_cases h : q.val % 128 < 64
  · rw [dif_pos h, dif_pos ⟨by omega, h⟩]
  · rw [dif_neg h, dif_neg fun k => h k.2]

/-- The fifth group of the joined weight columns. -/
theorem cat4 (U : Valuation τ sig (Elt Ideal)) (l : Fin 1024) (q : Fin 256) :
    (StableHlo.after hostOps1_12 U (Proc.devRef .tc main_v42) : FVec Ideal S1024x4224 .bf16) (ix2 l ⟨2816 + q.val, by omega⟩)
      = (U (Proc.devRef .tc main_v33) : FVec Ideal S1024x256 .f32) (ix2 l q) := by
  after_reads_at
  rw [dif_neg (by omega), dif_neg (by omega), dif_neg (by omega), dif_neg (by omega), dif_pos (by omega)]
  rw [show StableHlo.upto hostOps1_12 U 0 = U from rfl]
  refine congrArg (U (Proc.devRef .tc main_v33)) (congrArg (ix2 l) (Fin.ext ?_))
  show 2816 + q.val - 1024 - 512 - 256 - 1024 = q.val
  omega

/-- The fifth group's columns: 2 heads of 64, each padded with zeros to 128. -/
theorem col4 (c : Dev nD) (l : Fin 1024) (q : Fin 256) :
    (W14 m ρ c (Proc.devRef .tc main_v33) : FVec Ideal S1024x256 .f32) (ix2 l q)
      = if h : q.val % 128 < 64 then w6 m ρ c (ix3 0 l ⟨1552 + (q.val / 128 * 64 + q.val % 128), by omega⟩) else 0 := by
  have key : (W14 m ρ c (Proc.devRef .tc main_v33) : FVec Ideal S1024x256 .f32) (ix2 l q)
      = if h : q.val / 128 < 2 ∧ q.val % 128 < 64 then w6 m ρ c (ix3 0 l ⟨1552 + (q.val / 128 * 64 + q.val % 128), by omega⟩)
        else FloatOps.sitofp .f32 (0#32 : BitVec 32) := by
    unfold w6
    after_reads_at
  rw [key, zero_eq]
  by_cases h : q.val % 128 < 64
  · rw [dif_pos h, dif_pos ⟨by omega, h⟩]
  · rw [dif_neg h, dif_neg fun k => h k.2]

/-- The sixth group of the joined weight columns. -/
theorem cat5 (U : Valuation τ sig (Elt Ideal)) (l : Fin 1024) (q : Fin 256) :
    (StableHlo.after hostOps1_12 U (Proc.devRef .tc main_v42) : FVec Ideal S1024x4224 .bf16) (ix2 l ⟨3072 + q.val, by omega⟩)
      = (U (Proc.devRef .tc main_v37) : FVec Ideal S1024x256 .f32) (ix2 l q) := by
  after_reads_at
  rw [dif_neg (by omega), dif_neg (by omega), dif_neg (by omega), dif_neg (by omega), dif_neg (by omega), dif_pos (by omega)]
  rw [show StableHlo.upto hostOps1_12 U 0 = U from rfl]
  refine congrArg (U (Proc.devRef .tc main_v37)) (congrArg (ix2 l) (Fin.ext ?_))
  show 3072 + q.val - 1024 - 512 - 256 - 1024 - 256 = q.val
  omega

/-- The sixth group's columns: 2 heads of 64, each padded with zeros to 128. -/
theorem col5 (c : Dev nD) (l : Fin 1024) (q : Fin 256) :
    (W14 m ρ c (Proc.devRef .tc main_v37) : FVec Ideal S1024x256 .f32) (ix2 l q)
      = if h : q.val % 128 < 64 then w6 m ρ c (ix3 0 l ⟨1680 + (q.val / 128 * 64 + q.val % 128), by omega⟩) else 0 := by
  have key : (W14 m ρ c (Proc.devRef .tc main_v37) : FVec Ideal S1024x256 .f32) (ix2 l q)
      = if h : q.val / 128 < 2 ∧ q.val % 128 < 64 then w6 m ρ c (ix3 0 l ⟨1680 + (q.val / 128 * 64 + q.val % 128), by omega⟩)
        else FloatOps.sitofp .f32 (0#32 : BitVec 32) := by
    unfold w6
    after_reads_at
  rw [key, zero_eq]
  by_cases h : q.val % 128 < 64
  · rw [dif_pos h, dif_pos ⟨by omega, h⟩]
  · rw [dif_neg h, dif_neg fun k => h k.2]

/-- The seventh group of the joined weight columns. -/
theorem cat6 (U : Valuation τ sig (Elt Ideal)) (l : Fin 1024) (q : Fin 768) :
    (StableHlo.after hostOps1_12 U (Proc.devRef .tc main_v42) : FVec Ideal S1024x4224 .bf16) (ix2 l ⟨3328 + q.val, by omega⟩)
      = (U (Proc.devRef .tc main_v38) : FVec Ideal S1024x768 .f32) (ix2 l q) := by
  after_reads_at
  rw [dif_neg (by omega), dif_neg (by omega), dif_neg (by omega), dif_neg (by omega), dif_neg (by omega), dif_neg (by omega), dif_pos (by omega)]
  rw [show StableHlo.upto hostOps1_12 U 0 = U from rfl]
  refine congrArg (U (Proc.devRef .tc main_v38)) (congrArg (ix2 l) (Fin.ext ?_))
  show 3328 + q.val - 1024 - 512 - 256 - 1024 - 256 - 256 = q.val
  omega

/-- The seventh group's columns. -/
theorem col6 (c : Dev nD) (l : Fin 1024) (q : Fin 768) :
    (W14 m ρ c (Proc.devRef .tc main_v38) : FVec Ideal S1024x768 .f32) (ix2 l q)
      = w6 m ρ c (ix3 0 l ⟨1808 + q.val, by omega⟩) := by
  unfold w6
  after_reads_at

/-- The eighth group of the joined weight columns. -/
theorem cat7 (U : Valuation τ sig (Elt Ideal)) (l : Fin 1024) (q : Fin 128) :
    (StableHlo.after hostOps1_12 U (Proc.devRef .tc main_v42) : FVec Ideal S1024x4224 .bf16) (ix2 l ⟨4096 + q.val, by omega⟩)
      = (U (Proc.devRef .tc main_v40) : FVec Ideal S1024x128 .f32) (ix2 l q) := by
  after_reads_at
  rw [dif_neg (by omega), dif_neg (by omega), dif_neg (by omega), dif_neg (by omega), dif_neg (by omega), dif_neg (by omega), dif_neg (by omega)]
  rw [show StableHlo.upto hostOps1_12 U 0 = U from rfl]
  refine congrArg (U (Proc.devRef .tc main_v40)) (congrArg (ix2 l) (Fin.ext ?_))
  show 4096 + q.val - 1024 - 512 - 256 - 1024 - 256 - 256 - 768 = q.val
  omega

/-- The eighth group's columns: 16, padded with zeros to 128. -/
theorem col7 (c : Dev nD) (l : Fin 1024) (q : Fin 128) :
    (W14 m ρ c (Proc.devRef .tc main_v40) : FVec Ideal S1024x128 .f32) (ix2 l q)
      = if h : q.val < 16 then w6 m ρ c (ix3 0 l ⟨1024 + q.val, by omega⟩) else 0 := by
  rw [← zero_eq]
  unfold w6
  after_reads_at

end Cert.InProj.HostAt

end
-- ==== Proof.InProj.Target.lean ====
/- The modulated input projection as a function of the arguments. -/
module

public import proofs.«01_k».proof.Proof.InProj.Pay

@[expose] public section

set_option maxRecDepth 16384

noncomputable section

namespace Cert.InProj.Target

open Cert.Kernel3Ideal Idealize.ShloMosaic Cert.InProj

variable (x : FVec Ideal S2x8192x1024 .f32) (cv : FVec Ideal S2x1024 .f32) (ctx : FVec Ideal S2x256x1024 .f32) (cc : FVec Ideal S1024 .f32)
  (wm : FVec Ideal S2x1024x6144 .f32) (bm : FVec Ideal S2x6144 .f32) (w : FVec Ideal S2x1024x2576 .f32)

/-- Row `n` of a batch: the context's 256 rows come first, then the latent rows. -/
def rowAt (b : Fin 2) (n : Fin 8448) (k : Fin 1024) : EReal :=
  if h : n.val < 256 then ctx (ix3 b ⟨n.val, h⟩ k) else x (ix3 b ⟨n.val - 256, by omega⟩ k)

/-- The condition of row `n`: one for all of the context, or its batch's. -/
def condAt (b : Fin 2) (n : Fin 8448) (k : Fin 1024) : EReal := if n.val < 256 then cc (ix1 k) else cv (ix2 b k)

/-- Modulation `j` of row `n`. -/
def mdAt (b : Fin 2) (n : Fin 8448) (j : Fin 6) (l : Fin 1024) : EReal :=
  modLane (condAt cv cc b n) (fun k => wm (ix3 0 k ⟨j.val * 1024 + l.val, by omega⟩)) (bm (ix2 0 ⟨j.val * 1024 + l.val, by omega⟩))

/-- Lane `p` of the projection of row `n`. -/
def tgt (b : Fin 2) (n : Fin 8448) (p : Fin 2576) : EReal :=
  ∑ l, lane (rowAt x ctx b n) (mdAt cv cc wm bm b n 1) (mdAt cv cc wm bm b n 0) l * w (ix3 0 l p)

/-- The first result: 8 heads of 64 lanes from lane 0, each padded with zeros to 128. -/
def fin0 : FVec Ideal S2x8448x1024 .f32 := fun j =>
  if h : (j 2).val % 128 < 64 then tgt x cv ctx cc wm bm w (j 0) (j 1) ⟨0 + ((j 2).val / 128 * 64 + (j 2).val % 128), by have : (j 2).val < 1024 := (j 2).isLt; omega⟩ else 0

theorem fin0_at (b : Fin 2) (n : Fin 8448) (q : Fin 1024) : fin0 x cv ctx cc wm bm w (ix3 b n q) =
    (if h : q.val % 128 < 64 then tgt x cv ctx cc wm bm w b n ⟨0 + (q.val / 128 * 64 + q.val % 128), by omega⟩ else 0) := rfl

/-- The second result: 4 heads of 64 lanes from lane 512, each padded with zeros to 128. -/
def fin1 : FVec Ideal S2x8448x512 .f32 := fun j =>
  if h : (j 2).val % 128 < 64 then tgt x cv ctx cc wm bm w (j 0) (j 1) ⟨512 + ((j 2).val / 128 * 64 + (j 2).val % 128), by have : (j 2).val < 512 := (j 2).isLt; omega⟩ else 0

theorem fin1_at (b : Fin 2) (n : Fin 8448) (q : Fin 512) : fin1 x cv ctx cc wm bm w (ix3 b n q) =
    (if h : q.val % 128 < 64 then tgt x cv ctx cc wm bm w b n ⟨512 + (q.val / 128 * 64 + q.val % 128), by omega⟩ else 0) := rfl

/-- The third result: 256 lanes from lane 768. -/
def fin2 : FVec Ideal S2x8448x256 .f32 := fun j =>
  tgt x cv ctx cc wm bm w (j 0) (j 1) ⟨768 + (j 2).val, by have : (j 2).val < 256 := (j 2).isLt; omega⟩

theorem fin2_at (b : Fin 2) (n : Fin 8448) (q : Fin 256) : fin2 x cv ctx cc wm bm w (ix3 b n q) =
    (tgt x cv ctx cc wm bm w b n ⟨768 + q.val, by omega⟩) := rfl

/-- The fourth result: 8 heads of 64 lanes from lane 1040, each padded with zeros to 128. -/
def fin3 : FVec Ideal S2x8448x1024 .f32 := fun j =>
  if h : (j 2).val % 128 < 64 then tgt x cv ctx cc wm bm w (j 0) (j 1) ⟨1040 + ((j 2).val / 128 * 64 + (j 2).val % 128), by have : (j 2).val < 1024 := (j 2).isLt; omega⟩ else 0

theorem fin3_at (b : Fin 2) (n : Fin 8448) (q : Fin 1024) : fin3 x cv ctx cc wm bm w (ix3 b n q) =
    (if h : q.val % 128 < 64 then tgt x cv ctx cc wm bm w b n ⟨1040 + (q.val / 128 * 64 + q.val % 128), by omega⟩ else 0) := rfl

/-- The fifth result: 2 heads of 64 lanes from lane 1552, each padded with zeros to 128. -/
def fin4 : FVec Ideal S2x8448x256 .f32 := fun j =>
  if h : (j 2).val % 128 < 64 then tgt x cv ctx cc wm bm w (j 0) (j 1) ⟨1552 + ((j 2).val / 128 * 64 + (j 2).val % 128), by have : (j 2).val < 256 := (j 2).isLt; omega⟩ else 0

theorem fin4_at (b : Fin 2) (n : Fin 8448) (q : Fin 256) : fin4 x cv ctx cc wm bm w (ix3 b n q) =
    (if h : q.val % 128 < 64 then tgt x cv ctx cc wm bm w b n ⟨1552 + (q.val / 128 * 64 + q.val % 128), by omega⟩ else 0) := rfl

/-- The sixth result: 2 heads of 64 lanes from lane 1680, each padded with zeros to 128. -/
def fin5 : FVec Ideal S2x8448x256 .f32 := fun j =>
  if h : (j 2).val % 128 < 64 then tgt x cv ctx cc wm bm w (j 0) (j 1) ⟨1680 + ((j 2).val / 128 * 64 + (j 2).val % 128), by have : (j 2).val < 256 := (j 2).isLt; omega⟩ else 0

theorem fin5_at (b : Fin 2) (n : Fin 8448) (q : Fin 256) : fin5 x cv ctx cc wm bm w (ix3 b n q) =
    (if h : q.val % 128 < 64 then tgt x cv ctx cc wm bm w b n ⟨1680 + (q.val / 128 * 64 + q.val % 128), by omega⟩ else 0) := rfl

/-- The seventh result: 768 lanes from lane 1808. -/
def fin6 : FVec Ideal S2x8448x768 .f32 := fun j =>
  tgt x cv ctx cc wm bm w (j 0) (j 1) ⟨1808 + (j 2).val, by have : (j 2).val < 768 := (j 2).isLt; omega⟩

theorem fin6_at (b : Fin 2) (n : Fin 8448) (q : Fin 768) : fin6 x cv ctx cc wm bm w (ix3 b n q) =
    (tgt x cv ctx cc wm bm w b n ⟨1808 + q.val, by omega⟩) := rfl

/-- The eighth result: 16 lanes from lane 1024, padded with zeros to 128. -/
def fin7 : FVec Ideal S2x8448x128 .f32 := fun j =>
  if h : (j 2).val < 16 then tgt x cv ctx cc wm bm w (j 0) (j 1) ⟨1024 + (j 2).val, by have : (j 2).val < 128 := (j 2).isLt; omega⟩ else 0

theorem fin7_at (b : Fin 2) (n : Fin 8448) (q : Fin 128) : fin7 x cv ctx cc wm bm w (ix3 b n q) =
    (if h : q.val < 16 then tgt x cv ctx cc wm bm w b n ⟨1024 + q.val, by omega⟩ else 0) := rfl

end Cert.InProj.Target

end
-- ==== Proof.InProj.Ker.lean ====
/- What the two calls leave, as a function of the arguments. -/
module

public import proofs.«01_k».proof.Proof.InProj.Arrays
public import proofs.«01_k».proof.Proof.InProj.Host
public import proofs.«01_k».proof.Proof.InProj.Target

@[expose] public section

set_option maxRecDepth 16384

noncomputable section

namespace Cert.InProj.Ker

open Cert.Kernel3Ideal Cert.Kernel3Ideal.Gen Idealize.ShloMosaic Idealize.ShloMosaic.TcCoe Cert.InProj Cert.InProj.Target Cert.InProj.HostAt

variable (m : (ℓ : Loc nD τ sig) → Buf (Elt Ideal) ℓ) (ρ : Dev nD → PrngReg)

/-- The latent rows at launch. -/
def a0 (c : Dev nD) : FVec Ideal S2x8192x1024 .f32 := m ((c : Thread nD τ).loc main_arg0)
/-- The batches' conditions at launch. -/
def a1 (c : Dev nD) : FVec Ideal S2x1024 .f32 := m ((c : Thread nD τ).loc main_arg1)
/-- The context's rows at launch. -/
def a2 (c : Dev nD) : FVec Ideal S2x256x1024 .f32 := m ((c : Thread nD τ).loc main_arg2)
/-- The context's condition at launch. -/
def a3 (c : Dev nD) : FVec Ideal S1024 .f32 := m ((c : Thread nD τ).loc main_arg3)
/-- The modulation's weights at launch. -/
def a4 (c : Dev nD) : FVec Ideal S2x1024x6144 .f32 := m ((c : Thread nD τ).loc main_arg4)
/-- The modulation's biases at launch. -/
def a5 (c : Dev nD) : FVec Ideal S2x6144 .f32 := m ((c : Thread nD τ).loc main_arg5)
/-- The projection's weights at launch. -/
def a6 (c : Dev nD) : FVec Ideal S2x1024x2576 .f32 := m ((c : Thread nD τ).loc main_arg6)

/-- The joined rows the projection reads. -/
def k0 (c : Dev nD) : FVec Ideal S2x8448x1024 .f32 := V15 m ρ c main_v0
/-- The modulations the projection reads. -/
def k14 (c : Dev nD) : FVec Ideal S2x2x6x1024 .f32 := V15 m ρ c main_v14
/-- The weights the projection reads. -/
def k42 (c : Dev nD) : FVec Ideal S1024x4224 .bf16 := V15 m ρ c main_v42

theorem k0_at (c : Dev nD) (b : Fin 2) (n : Fin 8448) (k : Fin 1024) : k0 m ρ c (ix3 b n k) = rowAt (a0 m c) (a2 m c) b n k := by
  have h : W15 m ρ c (Proc.devRef .tc main_v0) = W1 m ρ c (Proc.devRef .tc main_v0) :=
    (W15_of m ρ c main_v0 (by decide)).trans <| (W14_of m ρ c main_v0 (by decide)).trans <| (W13_of m ρ c main_v0 (by decide)).trans <| (W12_of m ρ c main_v0 (by decide)).trans <| (W11_of m ρ c main_v0 (by decide)).trans <| (W10_of m ρ c main_v0 (by decide)).trans <| (W9_of m ρ c main_v0 (by decide)).trans <| (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans <| W2_of m ρ c main_v0 (by decide)
  refine Eq.trans (congrFun h (ix3 b n k)) ((rows_at m ρ c b n k).trans ?_)
  rfl

/-- The modulation call's array. -/
theorem mod_arr (c : Dev nD) : W2 m ρ c (Proc.devRef .tc main_v6)
    = modArr (W1 m ρ c (Proc.devRef .tc main_v2)) (a4 m c) (W1 m ρ c (Proc.devRef .tc main_v5)) := by
  refine (W2_arr m ρ c 3).trans ((arr0_3 (V1 m ρ) c).trans ?_)
  have h4 : V1 m ρ c main_arg4 = a4 m c := W1_args m ρ c main_arg4 (by decide)
  rw [h4]

theorem mod_arr_at (c : Dev nD) (r : Fin 8) (p : Fin 6144) : (W2 m ρ c (Proc.devRef .tc main_v6) : FVec Ideal S8x6144 .f32) (ix2 r p)
    = modLane (fun k => if h : r.val < 2 then a1 m c (ix2 ⟨r.val, h⟩ k) else a3 m c (ix1 k)) (fun k => a4 m c (ix3 0 k p)) (a5 m c (ix2 0 p)) := by
  refine (congrFun (mod_arr m ρ c) (ix2 r p)).trans ?_
  show modLane (fun k => (W1 m ρ c (Proc.devRef .tc main_v2) : FVec Ideal S8x1024 .f32) (ix2 r k)) (fun k => a4 m c (ix3 0 k p)) ((W1 m ρ c (Proc.devRef .tc main_v5) : FVec Ideal S1x6144 .f32) (ix2 0 p)) = _
  rw [funext fun k => conds_at m ρ c r k, bias_at m ρ c p]
  rfl

theorem k14_at (c : Dev nD) (b : Fin 2) (n : Fin 8448) (j : Fin 6) (k : Fin 1024) : k14 m ρ c (ix4 b (seg n) j k)
    = mdAt (a1 m c) (a3 m c) (a4 m c) (a5 m c) b n j k := by
  have h : W15 m ρ c (Proc.devRef .tc main_v14) = W3 m ρ c (Proc.devRef .tc main_v14) :=
    (W15_of m ρ c main_v14 (by decide)).trans <| (W14_of m ρ c main_v14 (by decide)).trans <| (W13_of m ρ c main_v14 (by decide)).trans <| (W12_of m ρ c main_v14 (by decide)).trans <| (W11_of m ρ c main_v14 (by decide)).trans <| (W10_of m ρ c main_v14 (by decide)).trans <| (W9_of m ρ c main_v14 (by decide)).trans <| (W8_of m ρ c main_v14 (by decide)).trans <| (W7_of m ρ c main_v14 (by decide)).trans <| (W6_of m ρ c main_v14 (by decide)).trans <| (W5_of m ρ c main_v14 (by decide)).trans <| W4_of m ρ c main_v14 (by decide)
  refine Eq.trans (congrFun h (ix4 b (seg n) j k)) ((mods_at (W2 m ρ c) b (seg n) j k).trans ?_)
  unfold mdAt
  by_cases hn : n.val < 256
  · have hc : condAt (a1 m c) (a3 m c) b n = fun k => a3 m c (ix1 k) := funext fun k => if_pos hn
    have hs : seg n = 0 := if_pos hn
    rw [dif_pos (show (seg n).val < 1 by rw [hs]; decide), mod_arr_at, hc]
    refine congrArg (fun f => modLane f _ _) (funext fun k => ?_)
    exact dif_neg (by decide)
  · have hc : condAt (a1 m c) (a3 m c) b n = fun k => a1 m c (ix2 b k) := funext fun k => if_neg hn
    have hs : seg n = 1 := if_neg hn
    rw [dif_neg (show ¬ (seg n).val < 1 by rw [hs]; decide), mod_arr_at, hc]
    refine congrArg (fun f => modLane f _ _) (funext fun k => ?_)
    exact dif_pos b.isLt

theorem w6_eq (c : Dev nD) : w6 m ρ c = a6 m c := W2_args m ρ c main_arg6 (by decide)

/-- The projection of a row onto one of the joined weight columns. -/
theorem projAt_eq (c : Dev nD) (b : Fin 2) (n : Fin 8448) (p : Fin 4224) (col : Fin 1024 → EReal) (hcol : ∀ l, k42 m ρ c (ix2 l p) = col l) :
    projAt (k0 m ρ c) (k14 m ρ c) (k42 m ρ c) b n p
      = ∑ l, lane (rowAt (a0 m c) (a2 m c) b n) (mdAt (a1 m c) (a3 m c) (a4 m c) (a5 m c) b n 1) (mdAt (a1 m c) (a3 m c) (a4 m c) (a5 m c) b n 0) l * col l := by
  unfold projAt
  refine Finset.sum_congr rfl fun l _ => congrArg₂ (· * ·) ?_ (hcol l)
  rw [funext fun k => k0_at m ρ c b n k, funext fun k => k14_at m ρ c b n 1 k, funext fun k => k14_at m ρ c b n 0 k]

/-- A weight column of zeros gives zero. -/
theorem sum_zero (f : Fin 1024 → EReal) : ∑ l, f l * (0 : EReal) = 0 := by simp

/-- The first result array at the end of the run. -/
theorem res0 (c : Dev nD) : W16 m ρ c (Proc.devRef .tc main_v43_0) = fin0 (a0 m c) (a1 m c) (a2 m c) (a3 m c) (a4 m c) (a5 m c) (a6 m c) := by
  refine (W16_arr m ρ c 3).trans ((arr1_3 (V15 m ρ) c).trans ?_)
  funext y
  obtain ⟨b, n, q, rfl⟩ : ∃ (b : Fin 2) (n : Fin 8448) (q : Fin 1024), y = ix3 b n q := ⟨y 0, y 1, y 2, by funext k; fin_cases k <;> rfl⟩
  refine (arr0_at _ _ _ b n q).trans (Eq.trans ?_ (fin0_at (a0 m c) (a1 m c) (a2 m c) (a3 m c) (a4 m c) (a5 m c) (a6 m c) b n q).symm)
  have hk (l : Fin 1024) : k42 m ρ c (ix2 l ⟨0 + q.val, by omega⟩) = _ := (cat0 (W14 m ρ c) l q).trans (col0 m ρ c l q)
  rw [w6_eq] at hk
  by_cases h : q.val % 128 < 64
  · rw [dif_pos h]
    exact projAt_eq m ρ c b n _ _ fun l => (hk l).trans (dif_pos h)
  · rw [dif_neg h]
    exact (projAt_eq m ρ c b n _ _ fun l => (hk l).trans (dif_neg h)).trans (sum_zero _)

/-- The second result array at the end of the run. -/
theorem res1 (c : Dev nD) : W16 m ρ c (Proc.devRef .tc main_v43_1) = fin1 (a0 m c) (a1 m c) (a2 m c) (a3 m c) (a4 m c) (a5 m c) (a6 m c) := by
  refine (W16_arr m ρ c 4).trans ((arr1_4 (V15 m ρ) c).trans ?_)
  funext y
  obtain ⟨b, n, q, rfl⟩ : ∃ (b : Fin 2) (n : Fin 8448) (q : Fin 512), y = ix3 b n q := ⟨y 0, y 1, y 2, by funext k; fin_cases k <;> rfl⟩
  refine (arr1_at _ _ _ b n q).trans (Eq.trans ?_ (fin1_at (a0 m c) (a1 m c) (a2 m c) (a3 m c) (a4 m c) (a5 m c) (a6 m c) b n q).symm)
  have hk (l : Fin 1024) : k42 m ρ c (ix2 l ⟨1024 + q.val, by omega⟩) = _ := (cat1 (W14 m ρ c) l q).trans (col1 m ρ c l q)
  rw [w6_eq] at hk
  by_cases h : q.val % 128 < 64
  · rw [dif_pos h]
    exact projAt_eq m ρ c b n _ _ fun l => (hk l).trans (dif_pos h)
  · rw [dif_neg h]
    exact (projAt_eq m ρ c b n _ _ fun l => (hk l).trans (dif_neg h)).trans (sum_zero _)

/-- The third result array at the end of the run. -/
theorem res2 (c : Dev nD) : W16 m ρ c (Proc.devRef .tc main_v43_2) = fin2 (a0 m c) (a1 m c) (a2 m c) (a3 m c) (a4 m c) (a5 m c) (a6 m c) := by
  refine (W16_arr m ρ c 5).trans ((arr1_5 (V15 m ρ) c).trans ?_)
  funext y
  obtain ⟨b, n, q, rfl⟩ : ∃ (b : Fin 2) (n : Fin 8448) (q : Fin 256), y = ix3 b n q := ⟨y 0, y 1, y 2, by funext k; fin_cases k <;> rfl⟩
  refine (arr2_at _ _ _ b n q).trans (Eq.trans ?_ (fin2_at (a0 m c) (a1 m c) (a2 m c) (a3 m c) (a4 m c) (a5 m c) (a6 m c) b n q).symm)
  have hk (l : Fin 1024) : k42 m ρ c (ix2 l ⟨1536 + q.val, by omega⟩) = _ := (cat2 (W14 m ρ c) l q).trans (col2 m ρ c l q)
  rw [w6_eq] at hk
  exact projAt_eq m ρ c b n _ _ hk

/-- The fourth result array at the end of the run. -/
theorem res3 (c : Dev nD) : W16 m ρ c (Proc.devRef .tc main_v43_3) = fin3 (a0 m c) (a1 m c) (a2 m c) (a3 m c) (a4 m c) (a5 m c) (a6 m c) := by
  refine (W16_arr m ρ c 6).trans ((arr1_6 (V15 m ρ) c).trans ?_)
  funext y
  obtain ⟨b, n, q, rfl⟩ : ∃ (b : Fin 2) (n : Fin 8448) (q : Fin 1024), y = ix3 b n q := ⟨y 0, y 1, y 2, by funext k; fin_cases k <;> rfl⟩
  refine (arr3_at _ _ _ b n q).trans (Eq.trans ?_ (fin3_at (a0 m c) (a1 m c) (a2 m c) (a3 m c) (a4 m c) (a5 m c) (a6 m c) b n q).symm)
  have hk (l : Fin 1024) : k42 m ρ c (ix2 l ⟨1792 + q.val, by omega⟩) = _ := (cat3 (W14 m ρ c) l q).trans (col3 m ρ c l q)
  rw [w6_eq] at hk
  by_cases h : q.val % 128 < 64
  · rw [dif_pos h]
    exact projAt_eq m ρ c b n _ _ fun l => (hk l).trans (dif_pos h)
  · rw [dif_neg h]
    exact (projAt_eq m ρ c b n _ _ fun l => (hk l).trans (dif_neg h)).trans (sum_zero _)

/-- The fifth result array at the end of the run. -/
theorem res4 (c : Dev nD) : W16 m ρ c (Proc.devRef .tc main_v43_4) = fin4 (a0 m c) (a1 m c) (a2 m c) (a3 m c) (a4 m c) (a5 m c) (a6 m c) := by
  refine (W16_arr m ρ c 7).trans ((arr1_7 (V15 m ρ) c).trans ?_)
  funext y
  obtain ⟨b, n, q, rfl⟩ : ∃ (b : Fin 2) (n : Fin 8448) (q : Fin 256), y = ix3 b n q := ⟨y 0, y 1, y 2, by funext k; fin_cases k <;> rfl⟩
  refine (arr4_at _ _ _ b n q).trans (Eq.trans ?_ (fin4_at (a0 m c) (a1 m c) (a2 m c) (a3 m c) (a4 m c) (a5 m c) (a6 m c) b n q).symm)
  have hk (l : Fin 1024) : k42 m ρ c (ix2 l ⟨2816 + q.val, by omega⟩) = _ := (cat4 (W14 m ρ c) l q).trans (col4 m ρ c l q)
  rw [w6_eq] at hk
  by_cases h : q.val % 128 < 64
  · rw [dif_pos h]
    exact projAt_eq m ρ c b n _ _ fun l => (hk l).trans (dif_pos h)
  · rw [dif_neg h]
    exact (projAt_eq m ρ c b n _ _ fun l => (hk l).trans (dif_neg h)).trans (sum_zero _)

/-- The sixth result array at the end of the run. -/
theorem res5 (c : Dev nD) : W16 m ρ c (Proc.devRef .tc main_v43_5) = fin5 (a0 m c) (a1 m c) (a2 m c) (a3 m c) (a4 m c) (a5 m c) (a6 m c) := by
  refine (W16_arr m ρ c 8).trans ((arr1_8 (V15 m ρ) c).trans ?_)
  funext y
  obtain ⟨b, n, q, rfl⟩ : ∃ (b : Fin 2) (n : Fin 8448) (q : Fin 256), y = ix3 b n q := ⟨y 0, y 1, y 2, by funext k; fin_cases k <;> rfl⟩
  refine (arr5_at _ _ _ b n q).trans (Eq.trans ?_ (fin5_at (a0 m c) (a1 m c) (a2 m c) (a3 m c) (a4 m c) (a5 m c) (a6 m c) b n q).symm)
  have hk (l : Fin 1024) : k42 m ρ c (ix2 l ⟨3072 + q.val, by omega⟩) = _ := (cat5 (W14 m ρ c) l q).trans (col5 m ρ c l q)
  rw [w6_eq] at hk
  by_cases h : q.val % 128 < 64
  · rw [dif_pos h]
    exact projAt_eq m ρ c b n _ _ fun l => (hk l).trans (dif_pos h)
  · rw [dif_neg h]
    exact (projAt_eq m ρ c b n _ _ fun l => (hk l).trans (dif_neg h)).trans (sum_zero _)

/-- The seventh result array at the end of the run. -/
theorem res6 (c : Dev nD) : W16 m ρ c (Proc.devRef .tc main_v43_6) = fin6 (a0 m c) (a1 m c) (a2 m c) (a3 m c) (a4 m c) (a5 m c) (a6 m c) := by
  refine (W16_arr m ρ c 9).trans ((arr1_9 (V15 m ρ) c).trans ?_)
  funext y
  obtain ⟨b, n, q, rfl⟩ : ∃ (b : Fin 2) (n : Fin 8448) (q : Fin 768), y = ix3 b n q := ⟨y 0, y 1, y 2, by funext k; fin_cases k <;> rfl⟩
  refine (arr6_at _ _ _ b n q).trans (Eq.trans ?_ (fin6_at (a0 m c) (a1 m c) (a2 m c) (a3 m c) (a4 m c) (a5 m c) (a6 m c) b n q).symm)
  have hk (l : Fin 1024) : k42 m ρ c (ix2 l ⟨3328 + q.val, by omega⟩) = _ := (cat6 (W14 m ρ c) l q).trans (col6 m ρ c l q)
  rw [w6_eq] at hk
  exact projAt_eq m ρ c b n _ _ hk

/-- The eighth result array at the end of the run. -/
theorem res7 (c : Dev nD) : W16 m ρ c (Proc.devRef .tc main_v43_7) = fin7 (a0 m c) (a1 m c) (a2 m c) (a3 m c) (a4 m c) (a5 m c) (a6 m c) := by
  refine (W16_arr m ρ c 10).trans ((arr1_10 (V15 m ρ) c).trans ?_)
  funext y
  obtain ⟨b, n, q, rfl⟩ : ∃ (b : Fin 2) (n : Fin 8448) (q : Fin 128), y = ix3 b n q := ⟨y 0, y 1, y 2, by funext k; fin_cases k <;> rfl⟩
  refine (arr7_at _ _ _ b n q).trans (Eq.trans ?_ (fin7_at (a0 m c) (a1 m c) (a2 m c) (a3 m c) (a4 m c) (a5 m c) (a6 m c) b n q).symm)
  have hk (l : Fin 1024) : k42 m ρ c (ix2 l ⟨4096 + q.val, by omega⟩) = _ := (cat7 (W14 m ρ c) l q).trans (col7 m ρ c l q)
  rw [w6_eq] at hk
  by_cases h : q.val < 16
  · rw [dif_pos h]
    exact projAt_eq m ρ c b n _ _ fun l => (hk l).trans (dif_pos h)
  · rw [dif_neg h]
    exact (projAt_eq m ρ c b n _ _ fun l => (hk l).trans (dif_neg h)).trans (sum_zero _)

end Cert.InProj.Ker

end
-- ==== Proof.InProj.RefAt.lean ====
/- What the reference of the modulation and the input projection computes, at an index. -/
module

public import proofs.«01_k».proof.Proof.Gen.Reference3Ideal.Run
public import proofs.«01_k».proof.Proof.InProj.Pay

@[expose] public section

set_option maxRecDepth 16384

noncomputable section

namespace Cert.InProjRef

open Cert.Reference3Ideal Cert.Reference3Ideal.Gen Idealize.ShloMosaic Idealize.ShloMosaic.TcCoe
open Cert.InProj (mean lane modLane)

/-- The modulation of the context: the gated condition times the weights, and the bias. -/
def mod1 (a3 : FVec Ideal S1024 .f32) (a4 : FVec Ideal S2x1024x6144 .f32) (a5 : FVec Ideal S2x6144 .f32) : FVec Ideal S6144 .f32 :=
  addf (Host.dotGeneral dot_S1024_S1024x6144_S6144_0_0_n_1_n_n none (mulf a3 (Host.divf (broadcastInDim S1024 ![] bcast_S_S1024 (constant S_ .f32 0x3F800000#32)) (addf (broadcastInDim S1024 ![] bcast_S_S1024 (constant S_ .f32 0x3F800000#32)) (Host.exp (Host.negf a3)))))
      (shapeCast _ (extractStridedSlice S1x1024x6144 ![0, 0, 0] a4 slices_S2x1024x6144_S1x1024x6144_0_0_0) shapeCasts_S1x1024x6144_S1024x6144))
    (shapeCast _ (extractStridedSlice S1x6144 ![0, 0] a5 slices_S2x6144_S1x6144_0_0) shapeCasts_S1x6144_S6144)

/-- The modulation of the latent rows, one for each batch. -/
def mod2 (a1 : FVec Ideal S2x1024 .f32) (a4 : FVec Ideal S2x1024x6144 .f32) (a5 : FVec Ideal S2x6144 .f32) : FVec Ideal S2x6144 .f32 :=
  addf (Host.dotGeneral dot_S2x1024_S1024x6144_S2x6144_1_0_0_1_n_n none (mulf a1 (Host.divf (broadcastInDim S2x1024 ![] bcast_S_S2x1024 (constant S_ .f32 0x3F800000#32)) (addf (broadcastInDim S2x1024 ![] bcast_S_S2x1024 (constant S_ .f32 0x3F800000#32)) (Host.exp (Host.negf a1)))))
      (shapeCast _ (extractStridedSlice S1x1024x6144 ![0, 0, 0] a4 slices_S2x1024x6144_S1x1024x6144_0_0_0) shapeCasts_S1x1024x6144_S1024x6144))
    (broadcastInDim S2x6144 ![0, 1] bcast_S1x6144_S2x6144_0_1 (broadcastInDim S1x6144 ![1] bcast_S6144_S1x6144_1 (shapeCast _ (extractStridedSlice S1x6144 ![0, 0] a5 slices_S2x6144_S1x6144_0_0) shapeCasts_S1x6144_S6144)))

theorem mod1_at (a3 : FVec Ideal S1024 .f32) (a4 : FVec Ideal S2x1024x6144 .f32) (a5 : FVec Ideal S2x6144 .f32) (p : Fin 6144) :
    mod1 a3 a4 a5 (ix1 p) = modLane (fun k => a3 (ix1 k)) (fun k => a4 (ix3 0 k p)) (a5 (ix2 0 p)) := by
  unfold modLane Ideal.logistic
  pointwise [mod1]

theorem mod2_at (a1 : FVec Ideal S2x1024 .f32) (a4 : FVec Ideal S2x1024x6144 .f32) (a5 : FVec Ideal S2x6144 .f32) (b : Fin 2) (p : Fin 6144) :
    mod2 a1 a4 a5 (ix2 b p) = modLane (fun k => a1 (ix2 b k)) (fun k => a4 (ix3 0 k p)) (a5 (ix2 0 p)) := by
  unfold modLane Ideal.logistic
  pointwise [mod2]

/-- The means of the context rows. -/
def mean256 (x : FVec Ideal S2x256x1024 .f32) : FVec Ideal S2x256x1 .f32 :=
  Host.divf (broadcastInDim S2x256x1 ![0, 1] bcast_S2x256_S2x256x1_0_1 (Host.reduceAdd x (constant S_ .f32 0x00000000#32) reducesTo_S2x256x1024_S2x256_d2 h_S_)) (broadcastInDim S2x256x1 ![] bcast_S_S2x256x1 (constant S_ .f32 0x44800000#32))

/-- The context rows less their means. -/
def cen256 (x : FVec Ideal S2x256x1024 .f32) : FVec Ideal S2x256x1024 .f32 :=
  subf x (broadcastInDim S2x256x1024 ![0, 1, 2] bcast_S2x256x1_S2x256x1024_0_1_2 (mean256 x))

/-- The context rows normalised, scaled and shifted. -/
def rows256 (x : FVec Ideal S2x256x1024 .f32) (md : FVec Ideal S6144 .f32) : FVec Ideal S2x256x1024 .f32 :=
  addf (mulf (mulf (cen256 x) (broadcastInDim S2x256x1024 ![0, 1, 2] bcast_S2x256x1_S2x256x1024_0_1_2 (Host.rsqrt (addf (mean256 (mulf (cen256 x) (cen256 x))) (broadcastInDim S2x256x1 ![] bcast_S_S2x256x1 (constant S_ .f32 0x3727C5AC#32))))))
      (broadcastInDim S2x256x1024 ![0, 1, 2] bcast_S1x1x1024_S2x256x1024_0_1_2 (addf (broadcastInDim S1x1x1024 ![] bcast_S_S1x1x1024 (constant S_ .f32 0x3F800000#32)) (extractStridedSlice S1x1x1024 ![0, 0, 1024] (broadcastInDim S1x1x6144 ![2] bcast_S6144_S1x1x6144_2 md) slices_S1x1x6144_S1x1x1024_0_0_1024))))
    (broadcastInDim S2x256x1024 ![0, 1, 2] bcast_S1x1x1024_S2x256x1024_0_1_2 (extractStridedSlice S1x1x1024 ![0, 0, 0] (broadcastInDim S1x1x6144 ![2] bcast_S6144_S1x1x6144_2 md) slices_S1x1x6144_S1x1x1024_0_0_0))

/-- The context rows times the projection's weights. -/
def proj256 (x : FVec Ideal S2x256x1024 .f32) (w : FVec Ideal S2x1024x2576 .f32) : FVec Ideal S2x256x2576 .f32 :=
  Host.dotGeneral dot_S2x256x1024_S1024x2576_S2x256x2576_2_0_01_1_n_n none x (shapeCast _ (extractStridedSlice S1x1024x2576 ![0, 0, 0] w slices_S2x1024x2576_S1x1024x2576_0_0_0) shapeCasts_S1x1024x2576_S1024x2576)

theorem mean256_at (x : FVec Ideal S2x256x1024 .f32) (b : Fin 2) (n : Fin 256) : mean256 x (ix3 b n 0) = mean (fun k => x (ix3 b n k)) := by
  unfold mean
  pointwise [mean256]

theorem cen256_at (x : FVec Ideal S2x256x1024 .f32) (b : Fin 2) (n : Fin 256) (l : Fin 1024) : cen256 x (ix3 b n l) = x (ix3 b n l) - mean (fun k => x (ix3 b n k)) := by
  rw [← mean256_at]
  pointwise [cen256]

theorem rows256_at (x : FVec Ideal S2x256x1024 .f32) (md : FVec Ideal S6144 .f32) (b : Fin 2) (n : Fin 256) (l : Fin 1024) :
    rows256 x md (ix3 b n l) = lane (fun k => x (ix3 b n k)) (fun k => md (ix1 (⟨1024 * 1 + k.val, by omega⟩ : Fin 6144))) (fun k => md (ix1 (⟨1024 * 0 + k.val, by omega⟩ : Fin 6144))) l := by
  have hv : mean256 (mulf (cen256 x) (cen256 x)) (ix3 b n 0)
      = mean (fun k => (x (ix3 b n k) - mean (fun k => x (ix3 b n k))) * (x (ix3 b n k) - mean (fun k => x (ix3 b n k)))) := by
    rw [mean256_at]
    refine congrArg mean (funext fun k => ?_)
    rw [← cen256_at]
    pointwise
  unfold lane
  rw [← hv, ← cen256_at]
  pointwise [rows256]

theorem proj256_at (x : FVec Ideal S2x256x1024 .f32) (w : FVec Ideal S2x1024x2576 .f32) (b : Fin 2) (n : Fin 256) (p : Fin 2576) :
    proj256 x w (ix3 b n p) = ∑ l : Fin 1024, x (ix3 b n l) * w (ix3 0 l p) := by
  pointwise [proj256]

/-- The means of the latent rows. -/
def mean8192 (x : FVec Ideal S2x8192x1024 .f32) : FVec Ideal S2x8192x1 .f32 :=
  Host.divf (broadcastInDim S2x8192x1 ![0, 1] bcast_S2x8192_S2x8192x1_0_1 (Host.reduceAdd x (constant S_ .f32 0x00000000#32) reducesTo_S2x8192x1024_S2x8192_d2 h_S_)) (broadcastInDim S2x8192x1 ![] bcast_S_S2x8192x1 (constant S_ .f32 0x44800000#32))

/-- The latent rows less their means. -/
def cen8192 (x : FVec Ideal S2x8192x1024 .f32) : FVec Ideal S2x8192x1024 .f32 :=
  subf x (broadcastInDim S2x8192x1024 ![0, 1, 2] bcast_S2x8192x1_S2x8192x1024_0_1_2 (mean8192 x))

/-- The latent rows normalised, scaled and shifted. -/
def rows8192 (x : FVec Ideal S2x8192x1024 .f32) (md : FVec Ideal S2x6144 .f32) : FVec Ideal S2x8192x1024 .f32 :=
  addf (mulf (mulf (cen8192 x) (broadcastInDim S2x8192x1024 ![0, 1, 2] bcast_S2x8192x1_S2x8192x1024_0_1_2 (Host.rsqrt (addf (mean8192 (mulf (cen8192 x) (cen8192 x))) (broadcastInDim S2x8192x1 ![] bcast_S_S2x8192x1 (constant S_ .f32 0x3727C5AC#32))))))
      (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 md) slices_S2x1x6144_S2x1x1024_0_0_1024))))
    (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 md) slices_S2x1x6144_S2x1x1024_0_0_0))

/-- The latent rows times the projection's weights. -/
def proj8192 (x : FVec Ideal S2x8192x1024 .f32) (w : FVec Ideal S2x1024x2576 .f32) : FVec Ideal S2x8192x2576 .f32 :=
  Host.dotGeneral dot_S2x8192x1024_S1024x2576_S2x8192x2576_2_0_01_1_n_n none x (shapeCast _ (extractStridedSlice S1x1024x2576 ![0, 0, 0] w slices_S2x1024x2576_S1x1024x2576_0_0_0) shapeCasts_S1x1024x2576_S1024x2576)

theorem mean8192_at (x : FVec Ideal S2x8192x1024 .f32) (b : Fin 2) (n : Fin 8192) : mean8192 x (ix3 b n 0) = mean (fun k => x (ix3 b n k)) := by
  unfold mean
  pointwise [mean8192]

theorem cen8192_at (x : FVec Ideal S2x8192x1024 .f32) (b : Fin 2) (n : Fin 8192) (l : Fin 1024) : cen8192 x (ix3 b n l) = x (ix3 b n l) - mean (fun k => x (ix3 b n k)) := by
  rw [← mean8192_at]
  pointwise [cen8192]

theorem rows8192_at (x : FVec Ideal S2x8192x1024 .f32) (md : FVec Ideal S2x6144 .f32) (b : Fin 2) (n : Fin 8192) (l : Fin 1024) :
    rows8192 x md (ix3 b n l) = lane (fun k => x (ix3 b n k)) (fun k => md (ix2 b (⟨1024 * 1 + k.val, by omega⟩ : Fin 6144))) (fun k => md (ix2 b (⟨1024 * 0 + k.val, by omega⟩ : Fin 6144))) l := by
  have hv : mean8192 (mulf (cen8192 x) (cen8192 x)) (ix3 b n 0)
      = mean (fun k => (x (ix3 b n k) - mean (fun k => x (ix3 b n k))) * (x (ix3 b n k) - mean (fun k => x (ix3 b n k)))) := by
    rw [mean8192_at]
    refine congrArg mean (funext fun k => ?_)
    rw [← cen8192_at]
    pointwise
  unfold lane
  rw [← hv, ← cen8192_at]
  pointwise [rows8192]

theorem proj8192_at (x : FVec Ideal S2x8192x1024 .f32) (w : FVec Ideal S2x1024x2576 .f32) (b : Fin 2) (n : Fin 8192) (p : Fin 2576) :
    proj8192 x w (ix3 b n p) = ∑ l : Fin 1024, x (ix3 b n l) * w (ix3 0 l p) := by
  pointwise [proj8192]

/-- The context's rows, then the latent rows. -/
def joined (p : FVec Ideal S2x256x2576 .f32) (q : FVec Ideal S2x8192x2576 .f32) : FVec Ideal S2x8448x2576 .f32 :=
  concatenate S2x8448x2576 1 [⟨S2x256x2576, p⟩, ⟨S2x8192x2576, q⟩] concatenates_S2x256x2576_S2x8192x2576_S2x8448x2576_d1

theorem joined_at (p : FVec Ideal S2x256x2576 .f32) (q : FVec Ideal S2x8192x2576 .f32) (b : Fin 2) (n : Fin 8448) (i : Fin 2576) :
    joined p q (ix3 b n i) = if h : n.val < 256 then p (ix3 b (⟨n.val, h⟩ : Fin 256) i) else q (ix3 b (⟨n.val - 256, by omega⟩ : Fin 8192) i) := by
  pointwise [joined]

/-- The host's zero. -/
theorem zero_eq : (FloatOps.sitofp .f32 (0#32 : BitVec 32) : Ideal .f32) = (0 : EReal) := by
  show ((((0#32 : BitVec 32).toInt : ℝ)) : EReal) = 0
  simp

/-- The first result of the joined rows: 8 heads of 64 lanes from lane 0, each padded with zeros to 128. -/
def out0 (x : FVec Ideal S2x8448x2576 .f32) : FVec Ideal S2x8448x1024 .f32 :=
  shapeCast _ (pad S2x8448x8x128 ![0, 0, 0, 0] ![0, 0, 0, 64] ![0, 0, 0, 0] (shapeCast _ (extractStridedSlice S2x8448x512 ![0, 0, 0] x slices_S2x8448x2576_S2x8448x512_0_0_0) shapeCasts_S2x8448x512_S2x8448x8x64) (sitofp .f32 (constantI S_ 32 0#32)) pads_S2x8448x8x64_S2x8448x8x128_000_000_000_0640 h_S_) shapeCasts_S2x8448x8x128_S2x8448x1024

theorem out0_at (x : FVec Ideal S2x8448x2576 .f32) (b : Fin 2) (n : Fin 8448) (q : Fin 1024) :
    out0 x (ix3 b n q) = if h : q.val % 128 < 64 then x (ix3 b n (⟨0 + (q.val / 128 * 64 + q.val % 128), by omega⟩ : Fin 2576)) else 0 := by
  have key : out0 x (ix3 b n q) = if h : q.val / 128 < 8 ∧ q.val % 128 < 64 then x (ix3 b n (⟨0 + (q.val / 128 * 64 + q.val % 128), by omega⟩ : Fin 2576))
      else FloatOps.sitofp .f32 (0#32 : BitVec 32) := by
    pointwise [out0]
  rw [key, zero_eq]
  by_cases h : q.val % 128 < 64
  · rw [dif_pos h, dif_pos ⟨by omega, h⟩]
  · rw [dif_neg h, dif_neg fun k => h k.2]

/-- The second result of the joined rows: 4 heads of 64 lanes from lane 512, each padded with zeros to 128. -/
def out1 (x : FVec Ideal S2x8448x2576 .f32) : FVec Ideal S2x8448x512 .f32 :=
  shapeCast _ (pad S2x8448x4x128 ![0, 0, 0, 0] ![0, 0, 0, 64] ![0, 0, 0, 0] (shapeCast _ (extractStridedSlice S2x8448x256 ![0, 0, 512] x slices_S2x8448x2576_S2x8448x256_0_0_512) shapeCasts_S2x8448x256_S2x8448x4x64) (sitofp .f32 (constantI S_ 32 0#32)) pads_S2x8448x4x64_S2x8448x4x128_000_000_000_0640 h_S_) shapeCasts_S2x8448x4x128_S2x8448x512

theorem out1_at (x : FVec Ideal S2x8448x2576 .f32) (b : Fin 2) (n : Fin 8448) (q : Fin 512) :
    out1 x (ix3 b n q) = if h : q.val % 128 < 64 then x (ix3 b n (⟨512 + (q.val / 128 * 64 + q.val % 128), by omega⟩ : Fin 2576)) else 0 := by
  have key : out1 x (ix3 b n q) = if h : q.val / 128 < 4 ∧ q.val % 128 < 64 then x (ix3 b n (⟨512 + (q.val / 128 * 64 + q.val % 128), by omega⟩ : Fin 2576))
      else FloatOps.sitofp .f32 (0#32 : BitVec 32) := by
    pointwise [out1]
  rw [key, zero_eq]
  by_cases h : q.val % 128 < 64
  · rw [dif_pos h, dif_pos ⟨by omega, h⟩]
  · rw [dif_neg h, dif_neg fun k => h k.2]

/-- The third result of the joined rows: 256 lanes from lane 768. -/
def out2 (x : FVec Ideal S2x8448x2576 .f32) : FVec Ideal S2x8448x256 .f32 :=
  extractStridedSlice S2x8448x256 ![0, 0, 768] x slices_S2x8448x2576_S2x8448x256_0_0_768

theorem out2_at (x : FVec Ideal S2x8448x2576 .f32) (b : Fin 2) (n : Fin 8448) (q : Fin 256) :
    out2 x (ix3 b n q) = x (ix3 b n (⟨768 + q.val, by omega⟩ : Fin 2576)) := by
  pointwise [out2]

/-- The fourth result of the joined rows: 8 heads of 64 lanes from lane 1040, each padded with zeros to 128. -/
def out3 (x : FVec Ideal S2x8448x2576 .f32) : FVec Ideal S2x8448x1024 .f32 :=
  shapeCast _ (pad S2x8448x8x128 ![0, 0, 0, 0] ![0, 0, 0, 64] ![0, 0, 0, 0] (shapeCast _ (extractStridedSlice S2x8448x512 ![0, 0, 1040] x slices_S2x8448x2576_S2x8448x512_0_0_1040) shapeCasts_S2x8448x512_S2x8448x8x64) (sitofp .f32 (constantI S_ 32 0#32)) pads_S2x8448x8x64_S2x8448x8x128_000_000_000_0640 h_S_) shapeCasts_S2x8448x8x128_S2x8448x1024

theorem out3_at (x : FVec Ideal S2x8448x2576 .f32) (b : Fin 2) (n : Fin 8448) (q : Fin 1024) :
    out3 x (ix3 b n q) = if h : q.val % 128 < 64 then x (ix3 b n (⟨1040 + (q.val / 128 * 64 + q.val % 128), by omega⟩ : Fin 2576)) else 0 := by
  have key : out3 x (ix3 b n q) = if h : q.val / 128 < 8 ∧ q.val % 128 < 64 then x (ix3 b n (⟨1040 + (q.val / 128 * 64 + q.val % 128), by omega⟩ : Fin 2576))
      else FloatOps.sitofp .f32 (0#32 : BitVec 32) := by
    pointwise [out3]
  rw [key, zero_eq]
  by_cases h : q.val % 128 < 64
  · rw [dif_pos h, dif_pos ⟨by omega, h⟩]
  · rw [dif_neg h, dif_neg fun k => h k.2]

/-- The fifth result of the joined rows: 2 heads of 64 lanes from lane 1552, each padded with zeros to 128. -/
def out4 (x : FVec Ideal S2x8448x2576 .f32) : FVec Ideal S2x8448x256 .f32 :=
  shapeCast _ (pad S2x8448x2x128 ![0, 0, 0, 0] ![0, 0, 0, 64] ![0, 0, 0, 0] (shapeCast _ (extractStridedSlice S2x8448x128 ![0, 0, 1552] x slices_S2x8448x2576_S2x8448x128_0_0_1552) shapeCasts_S2x8448x128_S2x8448x2x64) (sitofp .f32 (constantI S_ 32 0#32)) pads_S2x8448x2x64_S2x8448x2x128_000_000_000_0640 h_S_) shapeCasts_S2x8448x2x128_S2x8448x256

theorem out4_at (x : FVec Ideal S2x8448x2576 .f32) (b : Fin 2) (n : Fin 8448) (q : Fin 256) :
    out4 x (ix3 b n q) = if h : q.val % 128 < 64 then x (ix3 b n (⟨1552 + (q.val / 128 * 64 + q.val % 128), by omega⟩ : Fin 2576)) else 0 := by
  have key : out4 x (ix3 b n q) = if h : q.val / 128 < 2 ∧ q.val % 128 < 64 then x (ix3 b n (⟨1552 + (q.val / 128 * 64 + q.val % 128), by omega⟩ : Fin 2576))
      else FloatOps.sitofp .f32 (0#32 : BitVec 32) := by
    pointwise [out4]
  rw [key, zero_eq]
  by_cases h : q.val % 128 < 64
  · rw [dif_pos h, dif_pos ⟨by omega, h⟩]
  · rw [dif_neg h, dif_neg fun k => h k.2]

/-- The sixth result of the joined rows: 2 heads of 64 lanes from lane 1680, each padded with zeros to 128. -/
def out5 (x : FVec Ideal S2x8448x2576 .f32) : FVec Ideal S2x8448x256 .f32 :=
  shapeCast _ (pad S2x8448x2x128 ![0, 0, 0, 0] ![0, 0, 0, 64] ![0, 0, 0, 0] (shapeCast _ (extractStridedSlice S2x8448x128 ![0, 0, 1680] x slices_S2x8448x2576_S2x8448x128_0_0_1680) shapeCasts_S2x8448x128_S2x8448x2x64) (sitofp .f32 (constantI S_ 32 0#32)) pads_S2x8448x2x64_S2x8448x2x128_000_000_000_0640 h_S_) shapeCasts_S2x8448x2x128_S2x8448x256

theorem out5_at (x : FVec Ideal S2x8448x2576 .f32) (b : Fin 2) (n : Fin 8448) (q : Fin 256) :
    out5 x (ix3 b n q) = if h : q.val % 128 < 64 then x (ix3 b n (⟨1680 + (q.val / 128 * 64 + q.val % 128), by omega⟩ : Fin 2576)) else 0 := by
  have key : out5 x (ix3 b n q) = if h : q.val / 128 < 2 ∧ q.val % 128 < 64 then x (ix3 b n (⟨1680 + (q.val / 128 * 64 + q.val % 128), by omega⟩ : Fin 2576))
      else FloatOps.sitofp .f32 (0#32 : BitVec 32) := by
    pointwise [out5]
  rw [key, zero_eq]
  by_cases h : q.val % 128 < 64
  · rw [dif_pos h, dif_pos ⟨by omega, h⟩]
  · rw [dif_neg h, dif_neg fun k => h k.2]

/-- The seventh result of the joined rows: 768 lanes from lane 1808. -/
def out6 (x : FVec Ideal S2x8448x2576 .f32) : FVec Ideal S2x8448x768 .f32 :=
  extractStridedSlice S2x8448x768 ![0, 0, 1808] x slices_S2x8448x2576_S2x8448x768_0_0_1808

theorem out6_at (x : FVec Ideal S2x8448x2576 .f32) (b : Fin 2) (n : Fin 8448) (q : Fin 768) :
    out6 x (ix3 b n q) = x (ix3 b n (⟨1808 + q.val, by omega⟩ : Fin 2576)) := by
  pointwise [out6]

/-- The eighth result of the joined rows: 16 lanes from lane 1024, padded with zeros to 128. -/
def out7 (x : FVec Ideal S2x8448x2576 .f32) : FVec Ideal S2x8448x128 .f32 :=
  pad S2x8448x128 ![0, 0, 0] ![0, 0, 112] ![0, 0, 0] (extractStridedSlice S2x8448x16 ![0, 0, 1024] x slices_S2x8448x2576_S2x8448x16_0_0_1024) (sitofp .f32 (constantI S_ 32 0#32)) pads_S2x8448x16_S2x8448x128_000_000_01120 h_S_

theorem out7_at (x : FVec Ideal S2x8448x2576 .f32) (b : Fin 2) (n : Fin 8448) (q : Fin 128) :
    out7 x (ix3 b n q) = if h : q.val < 16 then x (ix3 b n (⟨1024 + q.val, by omega⟩ : Fin 2576)) else 0 := by
  rw [← zero_eq]
  pointwise [out7]

end Cert.InProjRef

end
-- ==== Proof.InProj.Ref.lean ====
/- The plain modulation and input projection is the target. -/
module

public import proofs.«01_k».proof.Proof.InProj.RefAt
public import proofs.«01_k».proof.Proof.InProj.Target

@[expose] public section

set_option maxRecDepth 16384

noncomputable section

namespace Cert.InProjRef

open Cert.Reference3Ideal Cert.Reference3Ideal.Gen Idealize.ShloMosaic Idealize.ShloMosaic.TcCoe Cert.InProj.Target
open Cert.InProj (mean lane modLane)

variable (x : FVec Ideal S2x8192x1024 .f32) (cv : FVec Ideal S2x1024 .f32) (ctx : FVec Ideal S2x256x1024 .f32) (cc : FVec Ideal S1024 .f32)
  (wm : FVec Ideal S2x1024x6144 .f32) (bm : FVec Ideal S2x6144 .f32) (w : FVec Ideal S2x1024x2576 .f32)

/-- All rows of the plain projection. -/
def all : FVec Ideal S2x8448x2576 .f32 :=
  joined (proj256 (rows256 ctx (mod1 cc wm bm)) w) (proj8192 (rows8192 x (mod2 cv wm bm)) w)

theorem all_at (b : Fin 2) (n : Fin 8448) (p : Fin 2576) : all x cv ctx cc wm bm w (ix3 b n p) = tgt x cv ctx cc wm bm w b n p := by
  unfold all tgt
  refine (joined_at _ _ b n p).trans ?_
  by_cases hn : n.val < 256
  · have hr : rowAt x ctx b n = fun k => ctx (ix3 b (⟨n.val, hn⟩ : Fin 256) k) := funext fun k => dif_pos hn
    have hc : condAt cv cc b n = fun k => cc (ix1 k) := funext fun k => if_pos hn
    rw [dif_pos hn, proj256_at, hr]
    refine Finset.sum_congr rfl fun l _ => congrArg (· * _) ?_
    rw [rows256_at]
    unfold mdAt
    rw [hc]
    refine congrArg₂ (fun f g => lane _ f g l) (funext fun k => ?_) (funext fun k => ?_)
    all_goals
      rw [mod1_at]
      rfl
  · have hr : rowAt x ctx b n = fun k => x (ix3 b (⟨n.val - 256, by omega⟩ : Fin 8192) k) := funext fun k => dif_neg hn
    have hc : condAt cv cc b n = fun k => cv (ix2 b k) := funext fun k => if_neg hn
    rw [dif_neg hn, proj8192_at, hr]
    refine Finset.sum_congr rfl fun l _ => congrArg (· * _) ?_
    rw [rows8192_at]
    unfold mdAt
    rw [hc]
    refine congrArg₂ (fun f g => lane _ f g l) (funext fun k => ?_) (funext fun k => ?_)
    all_goals
      rw [mod2_at]
      rfl

/-- The first result of the plain projection. -/
theorem ref0 : out0 (all x cv ctx cc wm bm w) = fin0 x cv ctx cc wm bm w := by
  funext y
  obtain ⟨b, n, q, rfl⟩ : ∃ (b : Fin 2) (n : Fin 8448) (q : Fin 1024), y = ix3 b n q := ⟨y 0, y 1, y 2, by funext k; fin_cases k <;> rfl⟩
  refine (out0_at _ b n q).trans (Eq.trans ?_ (fin0_at x cv ctx cc wm bm w b n q).symm)
  by_cases h : q.val % 128 < 64
  · rw [dif_pos h, dif_pos h]
    exact all_at x cv ctx cc wm bm w b n _
  · rw [dif_neg h, dif_neg h]

/-- The second result of the plain projection. -/
theorem ref1 : out1 (all x cv ctx cc wm bm w) = fin1 x cv ctx cc wm bm w := by
  funext y
  obtain ⟨b, n, q, rfl⟩ : ∃ (b : Fin 2) (n : Fin 8448) (q : Fin 512), y = ix3 b n q := ⟨y 0, y 1, y 2, by funext k; fin_cases k <;> rfl⟩
  refine (out1_at _ b n q).trans (Eq.trans ?_ (fin1_at x cv ctx cc wm bm w b n q).symm)
  by_cases h : q.val % 128 < 64
  · rw [dif_pos h, dif_pos h]
    exact all_at x cv ctx cc wm bm w b n _
  · rw [dif_neg h, dif_neg h]

/-- The third result of the plain projection. -/
theorem ref2 : out2 (all x cv ctx cc wm bm w) = fin2 x cv ctx cc wm bm w := by
  funext y
  obtain ⟨b, n, q, rfl⟩ : ∃ (b : Fin 2) (n : Fin 8448) (q : Fin 256), y = ix3 b n q := ⟨y 0, y 1, y 2, by funext k; fin_cases k <;> rfl⟩
  refine (out2_at _ b n q).trans (Eq.trans ?_ (fin2_at x cv ctx cc wm bm w b n q).symm)
  exact all_at x cv ctx cc wm bm w b n _

/-- The fourth result of the plain projection. -/
theorem ref3 : out3 (all x cv ctx cc wm bm w) = fin3 x cv ctx cc wm bm w := by
  funext y
  obtain ⟨b, n, q, rfl⟩ : ∃ (b : Fin 2) (n : Fin 8448) (q : Fin 1024), y = ix3 b n q := ⟨y 0, y 1, y 2, by funext k; fin_cases k <;> rfl⟩
  refine (out3_at _ b n q).trans (Eq.trans ?_ (fin3_at x cv ctx cc wm bm w b n q).symm)
  by_cases h : q.val % 128 < 64
  · rw [dif_pos h, dif_pos h]
    exact all_at x cv ctx cc wm bm w b n _
  · rw [dif_neg h, dif_neg h]

/-- The fifth result of the plain projection. -/
theorem ref4 : out4 (all x cv ctx cc wm bm w) = fin4 x cv ctx cc wm bm w := by
  funext y
  obtain ⟨b, n, q, rfl⟩ : ∃ (b : Fin 2) (n : Fin 8448) (q : Fin 256), y = ix3 b n q := ⟨y 0, y 1, y 2, by funext k; fin_cases k <;> rfl⟩
  refine (out4_at _ b n q).trans (Eq.trans ?_ (fin4_at x cv ctx cc wm bm w b n q).symm)
  by_cases h : q.val % 128 < 64
  · rw [dif_pos h, dif_pos h]
    exact all_at x cv ctx cc wm bm w b n _
  · rw [dif_neg h, dif_neg h]

/-- The sixth result of the plain projection. -/
theorem ref5 : out5 (all x cv ctx cc wm bm w) = fin5 x cv ctx cc wm bm w := by
  funext y
  obtain ⟨b, n, q, rfl⟩ : ∃ (b : Fin 2) (n : Fin 8448) (q : Fin 256), y = ix3 b n q := ⟨y 0, y 1, y 2, by funext k; fin_cases k <;> rfl⟩
  refine (out5_at _ b n q).trans (Eq.trans ?_ (fin5_at x cv ctx cc wm bm w b n q).symm)
  by_cases h : q.val % 128 < 64
  · rw [dif_pos h, dif_pos h]
    exact all_at x cv ctx cc wm bm w b n _
  · rw [dif_neg h, dif_neg h]

/-- The seventh result of the plain projection. -/
theorem ref6 : out6 (all x cv ctx cc wm bm w) = fin6 x cv ctx cc wm bm w := by
  funext y
  obtain ⟨b, n, q, rfl⟩ : ∃ (b : Fin 2) (n : Fin 8448) (q : Fin 768), y = ix3 b n q := ⟨y 0, y 1, y 2, by funext k; fin_cases k <;> rfl⟩
  refine (out6_at _ b n q).trans (Eq.trans ?_ (fin6_at x cv ctx cc wm bm w b n q).symm)
  exact all_at x cv ctx cc wm bm w b n _

/-- The eighth result of the plain projection. -/
theorem ref7 : out7 (all x cv ctx cc wm bm w) = fin7 x cv ctx cc wm bm w := by
  funext y
  obtain ⟨b, n, q, rfl⟩ : ∃ (b : Fin 2) (n : Fin 8448) (q : Fin 128), y = ix3 b n q := ⟨y 0, y 1, y 2, by funext k; fin_cases k <;> rfl⟩
  refine (out7_at _ b n q).trans (Eq.trans ?_ (fin7_at x cv ctx cc wm bm w b n q).symm)
  by_cases h : q.val < 16
  · rw [dif_pos h, dif_pos h]
    exact all_at x cv ctx cc wm bm w b n _
  · rw [dif_neg h, dif_neg h]

end Cert.InProjRef

end
-- ==== Proof.InProj.Run.lean ====
/- The modulation and the input projection: the kernel's run, and the value claim. -/
module

public import proofs.«01_k».proof.Defs
public import proofs.«01_k».proof.Proof.InProj.Ker
public import proofs.«01_k».proof.Proof.InProj.Ref
public import Idealize.ShloMosaic.Adequacy
public import Idealize.ShloMosaic.Init

@[expose] public section

set_option maxRecDepth 16384

noncomputable section

namespace Cert.InProj.Run

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.InProj.Target Cert.InProj.Ker

/-- The machine's resources. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel runs from any launch, ends with its eight result arrays at the target and its arguments unchanged. -/
theorem run : θ_run defs (onTc (τ := τ) (main (F := Ideal))) ⟨m, fun _ => 0, ρ⟩ (fun r => ∀ c : Dev nD,
      r.2.mem ((c.tc : Thread nD τ).loc main_v43_0) = fin0 (a0 m c) (a1 m c) (a2 m c) (a3 m c) (a4 m c) (a5 m c) (a6 m c)
      ∧ r.2.mem ((c.tc : Thread nD τ).loc main_v43_1) = fin1 (a0 m c) (a1 m c) (a2 m c) (a3 m c) (a4 m c) (a5 m c) (a6 m c)
      ∧ r.2.mem ((c.tc : Thread nD τ).loc main_v43_2) = fin2 (a0 m c) (a1 m c) (a2 m c) (a3 m c) (a4 m c) (a5 m c) (a6 m c)
      ∧ r.2.mem ((c.tc : Thread nD τ).loc main_v43_3) = fin3 (a0 m c) (a1 m c) (a2 m c) (a3 m c) (a4 m c) (a5 m c) (a6 m c)
      ∧ r.2.mem ((c.tc : Thread nD τ).loc main_v43_4) = fin4 (a0 m c) (a1 m c) (a2 m c) (a3 m c) (a4 m c) (a5 m c) (a6 m c)
      ∧ r.2.mem ((c.tc : Thread nD τ).loc main_v43_5) = fin5 (a0 m c) (a1 m c) (a2 m c) (a3 m c) (a4 m c) (a5 m c) (a6 m c)
      ∧ r.2.mem ((c.tc : Thread nD τ).loc main_v43_6) = fin6 (a0 m c) (a1 m c) (a2 m c) (a3 m c) (a4 m c) (a5 m c) (a6 m c)
      ∧ r.2.mem ((c.tc : Thread nD τ).loc main_v43_7) = fin7 (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => fun c =>
      ⟨(h c _ (mem_uc main_v43_0 (by decide))).trans (res0 m ρ c),
       (h c _ (mem_uc main_v43_1 (by decide))).trans (res1 m ρ c),
       (h c _ (mem_uc main_v43_2 (by decide))).trans (res2 m ρ c),
       (h c _ (mem_uc main_v43_3 (by decide))).trans (res3 m ρ c),
       (h c _ (mem_uc main_v43_4 (by decide))).trans (res4 m ρ c),
       (h c _ (mem_uc main_v43_5 (by decide))).trans (res5 m ρ c),
       (h c _ (mem_uc main_v43_6 (by decide))).trans (res6 m ρ c),
       (h c _ (mem_uc main_v43_7 (by decide))).trans (res7 m ρ c),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Cert.InProj.Run

namespace Cert.InProj.Run

open Idealize.ShloMosaic Idealize.ShloMosaic.TcCoe Idealize.SL.Sem Cert.InProj.Target

/-- The reference's run ends with its eight results at the plain projection of its arguments, and these unchanged. -/
theorem ref_run (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ fun r => ∀ c : Dev Cert.Reference3Ideal.nD,
      r.2.mem ((c.tc : Thread Cert.Reference3Ideal.nD Cert.Reference3Ideal.τ).loc Cert.Reference3Ideal.main_v95) = InProjRef.out0 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v98) = InProjRef.out1 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v87) = InProjRef.out2 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v101) = InProjRef.out3 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v104) = InProjRef.out4 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v107) = InProjRef.out5 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v92) = InProjRef.out6 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_v108) = InProjRef.out7 (InProjRef.all (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6) :=
  Cert.Reference3Ideal.Value.run m ρ

/-- From equal arguments, kernel and reference of the modulation and the input projection end with equal results. -/
theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => fin0 (Ker.a0 m c) (Ker.a1 m c) (Ker.a2 m c) (Ker.a3 m c) (Ker.a4 m c) (Ker.a5 m c) (Ker.a6 m c), fun c => fin1 (Ker.a0 m c) (Ker.a1 m c) (Ker.a2 m c) (Ker.a3 m c) (Ker.a4 m c) (Ker.a5 m c) (Ker.a6 m c), fun c => fin2 (Ker.a0 m c) (Ker.a1 m c) (Ker.a2 m c) (Ker.a3 m c) (Ker.a4 m c) (Ker.a5 m c) (Ker.a6 m c), fun c => fin3 (Ker.a0 m c) (Ker.a1 m c) (Ker.a2 m c) (Ker.a3 m c) (Ker.a4 m c) (Ker.a5 m c) (Ker.a6 m c), fun c => fin4 (Ker.a0 m c) (Ker.a1 m c) (Ker.a2 m c) (Ker.a3 m c) (Ker.a4 m c) (Ker.a5 m c) (Ker.a6 m c), fun c => fin5 (Ker.a0 m c) (Ker.a1 m c) (Ker.a2 m c) (Ker.a3 m c) (Ker.a4 m c) (Ker.a5 m c) (Ker.a6 m c), fun c => fin6 (Ker.a0 m c) (Ker.a1 m c) (Ker.a2 m c) (Ker.a3 m c) (Ker.a4 m c) (Ker.a5 m c) (Ker.a6 m c), fun c => fin7 (Ker.a0 m c) (Ker.a1 m c) (Ker.a2 m c) (Ker.a3 m c) (Ker.a4 m c) (Ker.a5 m c) (Ker.a6 m c), run m g, ?_⟩
  refine (θ_run _ _ _).mono (fun r h c => ?_) (ref_run m' g')
  obtain ⟨e0, e1, e2, e3, e4, e5, e6⟩ := hargs c
  obtain ⟨h0, h1, h2, h3, h4, h5, h6, h7, hr⟩ := h c
  rw [e0, e1, e2, e3, e4, e5, e6] at h0 h1 h2 h3 h4 h5 h6 h7
  exact ⟨h0.trans (InProjRef.ref0 _ _ _ _ _ _ _), h1.trans (InProjRef.ref1 _ _ _ _ _ _ _), h2.trans (InProjRef.ref2 _ _ _ _ _ _ _), h3.trans (InProjRef.ref3 _ _ _ _ _ _ _), h4.trans (InProjRef.ref4 _ _ _ _ _ _ _), h5.trans (InProjRef.ref5 _ _ _ _ _ _ _), h6.trans (InProjRef.ref6 _ _ _ _ _ _ _), h7.trans (InProjRef.ref7 _ _ _ _ _ _ _), hr⟩

end Cert.InProj.Run

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.Attn.Value
public import proofs.«01_k».proof.Proof.Ffn.Frames
public import proofs.«01_k».proof.Proof.Ffn.Value
public import proofs.«01_k».proof.Proof.InProj.Run

@[expose] public section

noncomputable section

namespace Cert.Proof

open Idealize.ShloMosaic Idealize.SL.Sem

/-- The attention reference runs, ends with its arguments unchanged and every counter at zero. -/
theorem frame_reference : Cert.quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.ReferenceIdeal.Value.run (F := Ideal) m ρ)

/-- The feed-forward reference runs, ends with its arguments unchanged and every counter at zero. -/
theorem frame_reference2 : Cert.quiescent_Reference2Ideal (hReference2Ideal := Cert.Reference2Ideal.Gen.facts) := fun m ρ _ =>
  (θ_run Cert.Reference2Ideal.defs _ _).mono (fun r h => And.intro (fun c => (h c).2) (sem_eq_zero_of_no_sems (by decide) r.2))
    (Cert.Reference2Ideal.Value.run (F := Ideal) m ρ)

/-- The projection reference runs, ends with its arguments unchanged and every counter at zero. -/
theorem frame_reference3 : Cert.quiescent_Reference3Ideal (hReference3Ideal := Cert.Reference3Ideal.Gen.facts) := fun m ρ _ =>
  (θ_run Cert.Reference3Ideal.defs _ _).mono (fun r h => And.intro (fun c => (h c).2.2.2.2.2.2.2.2) (sem_eq_zero_of_no_sems (by decide) r.2))
    (Cert.Reference3Ideal.Value.run (F := Ideal) m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts, Cert.Finite.facts,
   fun m ρ _ => Cert.Kernel.Gen.frame m ρ, fun m ρ _ => Cert.KernelIdeal.Gen.frame m ρ, fun m ρ _ => Cert.KernelIdeal.Gen.frame m ρ,
   frame_reference, fun m ρ _ => frame_reference m ρ trivial,
   Cert.Ffn.frame_bits, Cert.Ffn.frame_ideal, frame_reference2,
   fun m ρ _ => Cert.Kernel3.Gen.frame m ρ, fun m ρ _ => Cert.Kernel3Ideal.Gen.frame m ρ, frame_reference3,
   IdealRules.named_const.statement Cert.KernelIdeal.κ "qscale" .f32 0x3E38AA3B#32 (((1 / 8) * (Real.log 2)⁻¹ : ℝ) : EReal) rfl,
   Cert.AttnValue.algebraic, trivial, Cert.FfnValue.algebraic, trivial, Cert.InProj.Run.algebraic⟩

end Cert.Proof

end
